-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_GradFf1 (m : (ℓ : Loc Cert.GradFf1.nD Cert.GradFf1.τ Cert.GradFf1.sig) → Buf (Elt Bits) ℓ) : Prop :=
  True

def Pre_GradFf1Ideal (m : (ℓ : Loc Cert.GradFf1Ideal.nD Cert.GradFf1Ideal.τ Cert.GradFf1Ideal.sig) → Buf (Elt Ideal) ℓ) : Prop :=
  True

def Pre_GradFf1ReferenceIdeal (m : (ℓ : Loc Cert.GradFf1ReferenceIdeal.nD Cert.GradFf1ReferenceIdeal.τ Cert.GradFf1ReferenceIdeal.sig) → Buf (Elt Ideal) ℓ) : Prop :=
  True

def Pre_GradFf2 (m : (ℓ : Loc Cert.GradFf2.nD Cert.GradFf2.τ Cert.GradFf2.sig) → Buf (Elt Bits) ℓ) : Prop :=
  True

def Pre_GradFf2Ideal (m : (ℓ : Loc Cert.GradFf2Ideal.nD Cert.GradFf2Ideal.τ Cert.GradFf2Ideal.sig) → Buf (Elt Ideal) ℓ) : Prop :=
  True

def Pre_GradFf2ReferenceIdeal (m : (ℓ : Loc Cert.GradFf2ReferenceIdeal.nD Cert.GradFf2ReferenceIdeal.τ Cert.GradFf2ReferenceIdeal.sig) → Buf (Elt Ideal) ℓ) : Prop :=
  True

def Pre_GradAttO (m : (ℓ : Loc Cert.GradAttO.nD Cert.GradAttO.τ Cert.GradAttO.sig) → Buf (Elt Bits) ℓ) : Prop :=
  True

def Pre_GradAttOIdeal (m : (ℓ : Loc Cert.GradAttOIdeal.nD Cert.GradAttOIdeal.τ Cert.GradAttOIdeal.sig) → Buf (Elt Ideal) ℓ) : Prop :=
  True

def Pre_GradAttOReferenceIdeal (m : (ℓ : Loc Cert.GradAttOReferenceIdeal.nD Cert.GradAttOReferenceIdeal.τ Cert.GradAttOReferenceIdeal.sig) → Buf (Elt Ideal) ℓ) : Prop :=
  True

def Pre_GradRecO (m : (ℓ : Loc Cert.GradRecO.nD Cert.GradRecO.τ Cert.GradRecO.sig) → Buf (Elt Bits) ℓ) : Prop :=
  True

def Pre_GradRecOIdeal (m : (ℓ : Loc Cert.GradRecOIdeal.nD Cert.GradRecOIdeal.τ Cert.GradRecOIdeal.sig) → Buf (Elt Ideal) ℓ) : Prop :=
  True

def Pre_GradRecOReferenceIdeal (m : (ℓ : Loc Cert.GradRecOReferenceIdeal.nD Cert.GradRecOReferenceIdeal.τ Cert.GradRecOReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdReferenceIdeal (m : (ℓ : Loc Cert.AttFwdReferenceIdeal.nD Cert.AttFwdReferenceIdeal.τ Cert.AttFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_GradFf1 [hGradFf1 : Cert.GradFf1.Facts] : Prop :=
  ∀ (m : (ℓ : Loc Cert.GradFf1.nD Cert.GradFf1.τ Cert.GradFf1.sig) → Buf (Elt Bits) ℓ) (g : Dev Cert.GradFf1.nD → PrngReg), Pre_GradFf1 m →
    θ_run (Cert.GradFf1.defs (F := Bits)) (onTc (τ := Cert.GradFf1.τ) (Cert.GradFf1.main (F := Bits))) ⟨m, fun _ => 0, g⟩ (fun r => (∀ c : Dev Cert.GradFf1.nD,
      r.2.mem ((c.tc : Thread Cert.GradFf1.nD Cert.GradFf1.τ).loc Cert.GradFf1.main_arg0) = m ((c.tc : Thread Cert.GradFf1.nD Cert.GradFf1.τ).loc Cert.GradFf1.main_arg0)
      ∧ r.2.mem ((c.tc : Thread Cert.GradFf1.nD Cert.GradFf1.τ).loc Cert.GradFf1.main_arg1) = m ((c.tc : Thread Cert.GradFf1.nD Cert.GradFf1.τ).loc Cert.GradFf1.main_arg1))
      ∧ r.2.sem = fun _ => 0)

def quiescent_GradFf1Ideal [hGradFf1Ideal : Cert.GradFf1Ideal.Facts] : Prop :=
  ∀ (m : (ℓ : Loc Cert.GradFf1Ideal.nD Cert.GradFf1Ideal.τ Cert.GradFf1Ideal.sig) → Buf (Elt Ideal) ℓ) (g : Dev Cert.GradFf1Ideal.nD → PrngReg), Pre_GradFf1Ideal m →
    θ_run (Cert.GradFf1Ideal.defs (F := Ideal)) (onTc (τ := Cert.GradFf1Ideal.τ) (Cert.GradFf1Ideal.main (F := Ideal))) ⟨m, fun _ => 0, g⟩ (fun r => (∀ c : Dev Cert.GradFf1Ideal.nD,
      r.2.mem ((c.tc : Thread Cert.GradFf1Ideal.nD Cert.GradFf1Ideal.τ).loc Cert.GradFf1Ideal.main_arg0) = m ((c.tc : Thread Cert.GradFf1Ideal.nD Cert.GradFf1Ideal.τ).loc Cert.GradFf1Ideal.main_arg0)
      ∧ r.2.mem ((c.tc : Thread Cert.GradFf1Ideal.nD Cert.GradFf1Ideal.τ).loc Cert.GradFf1Ideal.main_arg1) = m ((c.tc : Thread Cert.GradFf1Ideal.nD Cert.GradFf1Ideal.τ).loc Cert.GradFf1Ideal.main_arg1))
      ∧ r.2.sem = fun _ => 0)

def quiescent_GradFf1ReferenceIdeal [hGradFf1ReferenceIdeal : Cert.GradFf1ReferenceIdeal.Facts] : Prop :=
  ∀ (m : (ℓ : Loc Cert.GradFf1ReferenceIdeal.nD Cert.GradFf1ReferenceIdeal.τ Cert.GradFf1ReferenceIdeal.sig) → Buf (Elt Ideal) ℓ) (g : Dev Cert.GradFf1ReferenceIdeal.nD → PrngReg), Pre_GradFf1ReferenceIdeal m →
    θ_run (Cert.GradFf1ReferenceIdeal.defs (F := Ideal)) (onTc (τ := Cert.GradFf1ReferenceIdeal.τ) (Cert.GradFf1ReferenceIdeal.main (F := Ideal))) ⟨m, fun _ => 0, g⟩ (fun r => (∀ c : Dev Cert.GradFf1ReferenceIdeal.nD,
      r.2.mem ((c.tc : Thread Cert.GradFf1ReferenceIdeal.nD Cert.GradFf1ReferenceIdeal.τ).loc Cert.GradFf1ReferenceIdeal.main_arg0) = m ((c.tc : Thread Cert.GradFf1ReferenceIdeal.nD Cert.GradFf1ReferenceIdeal.τ).loc Cert.GradFf1ReferenceIdeal.main_arg0)
      ∧ r.2.mem ((c.tc : Thread Cert.GradFf1ReferenceIdeal.nD Cert.GradFf1ReferenceIdeal.τ).loc Cert.GradFf1ReferenceIdeal.main_arg1) = m ((c.tc : Thread Cert.GradFf1ReferenceIdeal.nD Cert.GradFf1ReferenceIdeal.τ).loc Cert.GradFf1ReferenceIdeal.main_arg1))
      ∧ r.2.sem = fun _ => 0)

def quiescent_GradFf2 [hGradFf2 : Cert.GradFf2.Facts] : Prop :=
  ∀ (m : (ℓ : Loc Cert.GradFf2.nD Cert.GradFf2.τ Cert.GradFf2.sig) → Buf (Elt Bits) ℓ) (g : Dev Cert.GradFf2.nD → PrngReg), Pre_GradFf2 m →
    θ_run (Cert.GradFf2.defs (F := Bits)) (onTc (τ := Cert.GradFf2.τ) (Cert.GradFf2.main (F := Bits))) ⟨m, fun _ => 0, g⟩ (fun r => (∀ c : Dev Cert.GradFf2.nD,
      r.2.mem ((c.tc : Thread Cert.GradFf2.nD Cert.GradFf2.τ).loc Cert.GradFf2.main_arg0) = m ((c.tc : Thread Cert.GradFf2.nD Cert.GradFf2.τ).loc Cert.GradFf2.main_arg0)
      ∧ r.2.mem ((c.tc : Thread Cert.GradFf2.nD Cert.GradFf2.τ).loc Cert.GradFf2.main_arg1) = m ((c.tc : Thread Cert.GradFf2.nD Cert.GradFf2.τ).loc Cert.GradFf2.main_arg1))
      ∧ r.2.sem = fun _ => 0)

def quiescent_GradFf2Ideal [hGradFf2Ideal : Cert.GradFf2Ideal.Facts] : Prop :=
  ∀ (m : (ℓ : Loc Cert.GradFf2Ideal.nD Cert.GradFf2Ideal.τ Cert.GradFf2Ideal.sig) → Buf (Elt Ideal) ℓ) (g : Dev Cert.GradFf2Ideal.nD → PrngReg), Pre_GradFf2Ideal m →
    θ_run (Cert.GradFf2Ideal.defs (F := Ideal)) (onTc (τ := Cert.GradFf2Ideal.τ) (Cert.GradFf2Ideal.main (F := Ideal))) ⟨m, fun _ => 0, g⟩ (fun r => (∀ c : Dev Cert.GradFf2Ideal.nD,
      r.2.mem ((c.tc : Thread Cert.GradFf2Ideal.nD Cert.GradFf2Ideal.τ).loc Cert.GradFf2Ideal.main_arg0) = m ((c.tc : Thread Cert.GradFf2Ideal.nD Cert.GradFf2Ideal.τ).loc Cert.GradFf2Ideal.main_arg0)
      ∧ r.2.mem ((c.tc : Thread Cert.GradFf2Ideal.nD Cert.GradFf2Ideal.τ).loc Cert.GradFf2Ideal.main_arg1) = m ((c.tc : Thread Cert.GradFf2Ideal.nD Cert.GradFf2Ideal.τ).loc Cert.GradFf2Ideal.main_arg1))
      ∧ r.2.sem = fun _ => 0)

def quiescent_GradFf2ReferenceIdeal [hGradFf2ReferenceIdeal : Cert.GradFf2ReferenceIdeal.Facts] : Prop :=
  ∀ (m : (ℓ : Loc Cert.GradFf2ReferenceIdeal.nD Cert.GradFf2ReferenceIdeal.τ Cert.GradFf2ReferenceIdeal.sig) → Buf (Elt Ideal) ℓ) (g : Dev Cert.GradFf2ReferenceIdeal.nD → PrngReg), Pre_GradFf2ReferenceIdeal m →
    θ_run (Cert.GradFf2ReferenceIdeal.defs (F := Ideal)) (onTc (τ := Cert.GradFf2ReferenceIdeal.τ) (Cert.GradFf2ReferenceIdeal.main (F := Ideal))) ⟨m, fun _ => 0, g⟩ (fun r => (∀ c : Dev Cert.GradFf2ReferenceIdeal.nD,
      r.2.mem ((c.tc : Thread Cert.GradFf2ReferenceIdeal.nD Cert.GradFf2ReferenceIdeal.τ).loc Cert.GradFf2ReferenceIdeal.main_arg0) = m ((c.tc : Thread Cert.GradFf2ReferenceIdeal.nD Cert.GradFf2ReferenceIdeal.τ).loc Cert.GradFf2ReferenceIdeal.main_arg0)
      ∧ r.2.mem ((c.tc : Thread Cert.GradFf2ReferenceIdeal.nD Cert.GradFf2ReferenceIdeal.τ).loc Cert.GradFf2ReferenceIdeal.main_arg1) = m ((c.tc : Thread Cert.GradFf2ReferenceIdeal.nD Cert.GradFf2ReferenceIdeal.τ).loc Cert.GradFf2ReferenceIdeal.main_arg1))
      ∧ r.2.sem = fun _ => 0)

def quiescent_GradAttO [hGradAttO : Cert.GradAttO.Facts] : Prop :=
  ∀ (m : (ℓ : Loc Cert.GradAttO.nD Cert.GradAttO.τ Cert.GradAttO.sig) → Buf (Elt Bits) ℓ) (g : Dev Cert.GradAttO.nD → PrngReg), Pre_GradAttO m →
    θ_run (Cert.GradAttO.defs (F := Bits)) (onTc (τ := Cert.GradAttO.τ) (Cert.GradAttO.main (F := Bits))) ⟨m, fun _ => 0, g⟩ (fun r => (∀ c : Dev Cert.GradAttO.nD,
      r.2.mem ((c.tc : Thread Cert.GradAttO.nD Cert.GradAttO.τ).loc Cert.GradAttO.main_arg0) = m ((c.tc : Thread Cert.GradAttO.nD Cert.GradAttO.τ).loc Cert.GradAttO.main_arg0)
      ∧ r.2.mem ((c.tc : Thread Cert.GradAttO.nD Cert.GradAttO.τ).loc Cert.GradAttO.main_arg1) = m ((c.tc : Thread Cert.GradAttO.nD Cert.GradAttO.τ).loc Cert.GradAttO.main_arg1))
      ∧ r.2.sem = fun _ => 0)

def quiescent_GradAttOIdeal [hGradAttOIdeal : Cert.GradAttOIdeal.Facts] : Prop :=
  ∀ (m : (ℓ : Loc Cert.GradAttOIdeal.nD Cert.GradAttOIdeal.τ Cert.GradAttOIdeal.sig) → Buf (Elt Ideal) ℓ) (g : Dev Cert.GradAttOIdeal.nD → PrngReg), Pre_GradAttOIdeal m →
    θ_run (Cert.GradAttOIdeal.defs (F := Ideal)) (onTc (τ := Cert.GradAttOIdeal.τ) (Cert.GradAttOIdeal.main (F := Ideal))) ⟨m, fun _ => 0, g⟩ (fun r => (∀ c : Dev Cert.GradAttOIdeal.nD,
      r.2.mem ((c.tc : Thread Cert.GradAttOIdeal.nD Cert.GradAttOIdeal.τ).loc Cert.GradAttOIdeal.main_arg0) = m ((c.tc : Thread Cert.GradAttOIdeal.nD Cert.GradAttOIdeal.τ).loc Cert.GradAttOIdeal.main_arg0)
      ∧ r.2.mem ((c.tc : Thread Cert.GradAttOIdeal.nD Cert.GradAttOIdeal.τ).loc Cert.GradAttOIdeal.main_arg1) = m ((c.tc : Thread Cert.GradAttOIdeal.nD Cert.GradAttOIdeal.τ).loc Cert.GradAttOIdeal.main_arg1))
      ∧ r.2.sem = fun _ => 0)

def quiescent_GradAttOReferenceIdeal [hGradAttOReferenceIdeal : Cert.GradAttOReferenceIdeal.Facts] : Prop :=
  ∀ (m : (ℓ : Loc Cert.GradAttOReferenceIdeal.nD Cert.GradAttOReferenceIdeal.τ Cert.GradAttOReferenceIdeal.sig) → Buf (Elt Ideal) ℓ) (g : Dev Cert.GradAttOReferenceIdeal.nD → PrngReg), Pre_GradAttOReferenceIdeal m →
    θ_run (Cert.GradAttOReferenceIdeal.defs (F := Ideal)) (onTc (τ := Cert.GradAttOReferenceIdeal.τ) (Cert.GradAttOReferenceIdeal.main (F := Ideal))) ⟨m, fun _ => 0, g⟩ (fun r => (∀ c : Dev Cert.GradAttOReferenceIdeal.nD,
      r.2.mem ((c.tc : Thread Cert.GradAttOReferenceIdeal.nD Cert.GradAttOReferenceIdeal.τ).loc Cert.GradAttOReferenceIdeal.main_arg0) = m ((c.tc : Thread Cert.GradAttOReferenceIdeal.nD Cert.GradAttOReferenceIdeal.τ).loc Cert.GradAttOReferenceIdeal.main_arg0)
      ∧ r.2.mem ((c.tc : Thread Cert.GradAttOReferenceIdeal.nD Cert.GradAttOReferenceIdeal.τ).loc Cert.GradAttOReferenceIdeal.main_arg1) = m ((c.tc : Thread Cert.GradAttOReferenceIdeal.nD Cert.GradAttOReferenceIdeal.τ).loc Cert.GradAttOReferenceIdeal.main_arg1))
      ∧ r.2.sem = fun _ => 0)

def quiescent_GradRecO [hGradRecO : Cert.GradRecO.Facts] : Prop :=
  ∀ (m : (ℓ : Loc Cert.GradRecO.nD Cert.GradRecO.τ Cert.GradRecO.sig) → Buf (Elt Bits) ℓ) (g : Dev Cert.GradRecO.nD → PrngReg), Pre_GradRecO m →
    θ_run (Cert.GradRecO.defs (F := Bits)) (onTc (τ := Cert.GradRecO.τ) (Cert.GradRecO.main (F := Bits))) ⟨m, fun _ => 0, g⟩ (fun r => (∀ c : Dev Cert.GradRecO.nD,
      r.2.mem ((c.tc : Thread Cert.GradRecO.nD Cert.GradRecO.τ).loc Cert.GradRecO.main_arg0) = m ((c.tc : Thread Cert.GradRecO.nD Cert.GradRecO.τ).loc Cert.GradRecO.main_arg0)
      ∧ r.2.mem ((c.tc : Thread Cert.GradRecO.nD Cert.GradRecO.τ).loc Cert.GradRecO.main_arg1) = m ((c.tc : Thread Cert.GradRecO.nD Cert.GradRecO.τ).loc Cert.GradRecO.main_arg1))
      ∧ r.2.sem = fun _ => 0)

def quiescent_GradRecOIdeal [hGradRecOIdeal : Cert.GradRecOIdeal.Facts] : Prop :=
  ∀ (m : (ℓ : Loc Cert.GradRecOIdeal.nD Cert.GradRecOIdeal.τ Cert.GradRecOIdeal.sig) → Buf (Elt Ideal) ℓ) (g : Dev Cert.GradRecOIdeal.nD → PrngReg), Pre_GradRecOIdeal m →
    θ_run (Cert.GradRecOIdeal.defs (F := Ideal)) (onTc (τ := Cert.GradRecOIdeal.τ) (Cert.GradRecOIdeal.main (F := Ideal))) ⟨m, fun _ => 0, g⟩ (fun r => (∀ c : Dev Cert.GradRecOIdeal.nD,
      r.2.mem ((c.tc : Thread Cert.GradRecOIdeal.nD Cert.GradRecOIdeal.τ).loc Cert.GradRecOIdeal.main_arg0) = m ((c.tc : Thread Cert.GradRecOIdeal.nD Cert.GradRecOIdeal.τ).loc Cert.GradRecOIdeal.main_arg0)
      ∧ r.2.mem ((c.tc : Thread Cert.GradRecOIdeal.nD Cert.GradRecOIdeal.τ).loc Cert.GradRecOIdeal.main_arg1) = m ((c.tc : Thread Cert.GradRecOIdeal.nD Cert.GradRecOIdeal.τ).loc Cert.GradRecOIdeal.main_arg1))
      ∧ r.2.sem = fun _ => 0)

def quiescent_GradRecOReferenceIdeal [hGradRecOReferenceIdeal : Cert.GradRecOReferenceIdeal.Facts] : Prop :=
  ∀ (m : (ℓ : Loc Cert.GradRecOReferenceIdeal.nD Cert.GradRecOReferenceIdeal.τ Cert.GradRecOReferenceIdeal.sig) → Buf (Elt Ideal) ℓ) (g : Dev Cert.GradRecOReferenceIdeal.nD → PrngReg), Pre_GradRecOReferenceIdeal m →
    θ_run (Cert.GradRecOReferenceIdeal.defs (F := Ideal)) (onTc (τ := Cert.GradRecOReferenceIdeal.τ) (Cert.GradRecOReferenceIdeal.main (F := Ideal))) ⟨m, fun _ => 0, g⟩ (fun r => (∀ c : Dev Cert.GradRecOReferenceIdeal.nD,
      r.2.mem ((c.tc : Thread Cert.GradRecOReferenceIdeal.nD Cert.GradRecOReferenceIdeal.τ).loc Cert.GradRecOReferenceIdeal.main_arg0) = m ((c.tc : Thread Cert.GradRecOReferenceIdeal.nD Cert.GradRecOReferenceIdeal.τ).loc Cert.GradRecOReferenceIdeal.main_arg0)
      ∧ r.2.mem ((c.tc : Thread Cert.GradRecOReferenceIdeal.nD Cert.GradRecOReferenceIdeal.τ).loc Cert.GradRecOReferenceIdeal.main_arg1) = m ((c.tc : Thread Cert.GradRecOReferenceIdeal.nD Cert.GradRecOReferenceIdeal.τ).loc Cert.GradRecOReferenceIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2)
      ∧ r.2.mem ((c.tc : Thread Cert.GradIn.nD Cert.GradIn.τ).loc Cert.GradIn.main_arg3) = m ((c.tc : Thread Cert.GradIn.nD Cert.GradIn.τ).loc Cert.GradIn.main_arg3))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
      ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1)
      ∧ r.2.mem ((c.tc : Thread Cert.GradInReferenceIdeal.nD Cert.GradInReferenceIdeal.τ).loc Cert.GradInReferenceIdeal.main_arg2) = m ((c.tc : Thread Cert.GradInReferenceIdeal.nD Cert.GradInReferenceIdeal.τ).loc Cert.GradInReferenceIdeal.main_arg2)
      ∧ r.2.mem ((c.tc : Thread Cert.GradInReferenceIdeal.nD Cert.GradInReferenceIdeal.τ).loc Cert.GradInReferenceIdeal.main_arg3) = m ((c.tc : Thread Cert.GradInReferenceIdeal.nD Cert.GradInReferenceIdeal.τ).loc Cert.GradInReferenceIdeal.main_arg3))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5)
      ∧ r.2.mem ((c.tc : Thread Cert.DxReferenceIdeal.nD Cert.DxReferenceIdeal.τ).loc Cert.DxReferenceIdeal.main_arg6) = m ((c.tc : Thread Cert.DxReferenceIdeal.nD Cert.DxReferenceIdeal.τ).loc Cert.DxReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ r.2.sem = fun _ => 0)

def quiescent_AttFwdReferenceIdeal [hAttFwdReferenceIdeal : Cert.AttFwdReferenceIdeal.Facts] : Prop :=
  ∀ (m : (ℓ : Loc Cert.AttFwdReferenceIdeal.nD Cert.AttFwdReferenceIdeal.τ Cert.AttFwdReferenceIdeal.sig) → Buf (Elt Ideal) ℓ) (g : Dev Cert.AttFwdReferenceIdeal.nD → PrngReg), Pre_AttFwdReferenceIdeal m →
    θ_run (Cert.AttFwdReferenceIdeal.defs (F := Ideal)) (onTc (τ := Cert.AttFwdReferenceIdeal.τ) (Cert.AttFwdReferenceIdeal.main (F := Ideal))) ⟨m, fun _ => 0, g⟩ (fun r => (∀ c : Dev Cert.AttFwdReferenceIdeal.nD,
      r.2.mem ((c.tc : Thread Cert.AttFwdReferenceIdeal.nD Cert.AttFwdReferenceIdeal.τ).loc Cert.AttFwdReferenceIdeal.main_arg0) = m ((c.tc : Thread Cert.AttFwdReferenceIdeal.nD Cert.AttFwdReferenceIdeal.τ).loc Cert.AttFwdReferenceIdeal.main_arg0)
      ∧ r.2.mem ((c.tc : Thread Cert.AttFwdReferenceIdeal.nD Cert.AttFwdReferenceIdeal.τ).loc Cert.AttFwdReferenceIdeal.main_arg1) = m ((c.tc : Thread Cert.AttFwdReferenceIdeal.nD Cert.AttFwdReferenceIdeal.τ).loc Cert.AttFwdReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)) (v2 : (c : Dev Cert.FfnIdeal.nD) → Buf (Elt Ideal) ((c.tc : Thread Cert.FfnIdeal.nD Cert.FfnIdeal.τ).loc Cert.FfnIdeal.main_v5_2)) (v3 : (c : Dev Cert.FfnIdeal.nD) → Buf (Elt Ideal) ((c.tc : Thread Cert.FfnIdeal.nD Cert.FfnIdeal.τ).loc Cert.FfnIdeal.main_v5_3)) (v4 : (c : Dev Cert.FfnIdeal.nD) → Buf (Elt Ideal) ((c.tc : Thread Cert.FfnIdeal.nD Cert.FfnIdeal.τ).loc Cert.FfnIdeal.main_v5_4)) (v5 : (c : Dev Cert.FfnIdeal.nD) → Buf (Elt Ideal) ((c.tc : Thread Cert.FfnIdeal.nD Cert.FfnIdeal.τ).loc Cert.FfnIdeal.main_v5_5)) (v6 : (c : Dev Cert.FfnIdeal.nD) → Buf (Elt Ideal) ((c.tc : Thread Cert.FfnIdeal.nD Cert.FfnIdeal.τ).loc Cert.FfnIdeal.main_v5_6)) (v7 : (c : Dev Cert.FfnIdeal.nD) → Buf (Elt Ideal) ((c.tc : Thread Cert.FfnIdeal.nD Cert.FfnIdeal.τ).loc Cert.FfnIdeal.main_v5_7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_v5_2) = v2 c
          ∧ r.2.mem ((c.tc : Thread Cert.FfnIdeal.nD Cert.FfnIdeal.τ).loc Cert.FfnIdeal.main_v5_3) = v3 c
          ∧ r.2.mem ((c.tc : Thread Cert.FfnIdeal.nD Cert.FfnIdeal.τ).loc Cert.FfnIdeal.main_v5_4) = v4 c
          ∧ r.2.mem ((c.tc : Thread Cert.FfnIdeal.nD Cert.FfnIdeal.τ).loc Cert.FfnIdeal.main_v5_5) = v5 c
          ∧ r.2.mem ((c.tc : Thread Cert.FfnIdeal.nD Cert.FfnIdeal.τ).loc Cert.FfnIdeal.main_v5_6) = v6 c
          ∧ r.2.mem ((c.tc : Thread Cert.FfnIdeal.nD Cert.FfnIdeal.τ).loc Cert.FfnIdeal.main_v5_7) = v7 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v102) = v0 c
          ∧ r.2.mem ((c.tc : Thread Cert.FfnReferenceIdeal.nD Cert.FfnReferenceIdeal.τ).loc Cert.FfnReferenceIdeal.main_v103) = v1 c
          ∧ r.2.mem ((c.tc : Thread Cert.FfnReferenceIdeal.nD Cert.FfnReferenceIdeal.τ).loc Cert.FfnReferenceIdeal.main_v104) = v2 c
          ∧ r.2.mem ((c.tc : Thread Cert.FfnReferenceIdeal.nD Cert.FfnReferenceIdeal.τ).loc Cert.FfnReferenceIdeal.main_v105) = v3 c
          ∧ r.2.mem ((c.tc : Thread Cert.FfnReferenceIdeal.nD Cert.FfnReferenceIdeal.τ).loc Cert.FfnReferenceIdeal.main_v106) = v4 c
          ∧ r.2.mem ((c.tc : Thread Cert.FfnReferenceIdeal.nD Cert.FfnReferenceIdeal.τ).loc Cert.FfnReferenceIdeal.main_v107) = v5 c
          ∧ r.2.mem ((c.tc : Thread Cert.FfnReferenceIdeal.nD Cert.FfnReferenceIdeal.τ).loc Cert.FfnReferenceIdeal.main_v108) = v6 c
          ∧ r.2.mem ((c.tc : Thread Cert.FfnReferenceIdeal.nD Cert.FfnReferenceIdeal.τ).loc Cert.FfnReferenceIdeal.main_v109) = v7 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_GradFf1_GradFf1Ideal : Prop :=
  True

def algebraic_GradFf1Ideal_GradFf1ReferenceIdeal [hGradFf1Ideal : Cert.GradFf1Ideal.Facts] [hGradFf1ReferenceIdeal : Cert.GradFf1ReferenceIdeal.Facts] : Prop :=
  ∀ (m : (ℓ : Loc Cert.GradFf1Ideal.nD Cert.GradFf1Ideal.τ Cert.GradFf1Ideal.sig) → Buf (Elt Ideal) ℓ) (g : Dev Cert.GradFf1Ideal.nD → PrngReg)
    (m' : (ℓ : Loc Cert.GradFf1ReferenceIdeal.nD Cert.GradFf1ReferenceIdeal.τ Cert.GradFf1ReferenceIdeal.sig) → Buf (Elt Ideal) ℓ) (g' : Dev Cert.GradFf1ReferenceIdeal.nD → PrngReg), Pre_GradFf1Ideal m →
    (∀ c : Dev Cert.GradFf1Ideal.nD,
      m' ((c.tc : Thread Cert.GradFf1ReferenceIdeal.nD Cert.GradFf1ReferenceIdeal.τ).loc Cert.GradFf1ReferenceIdeal.main_arg0) = m ((c.tc : Thread Cert.GradFf1Ideal.nD Cert.GradFf1Ideal.τ).loc Cert.GradFf1Ideal.main_arg0)
      ∧ m' ((c.tc : Thread Cert.GradFf1ReferenceIdeal.nD Cert.GradFf1ReferenceIdeal.τ).loc Cert.GradFf1ReferenceIdeal.main_arg1) = m ((c.tc : Thread Cert.GradFf1Ideal.nD Cert.GradFf1Ideal.τ).loc Cert.GradFf1Ideal.main_arg1)) →
    ∃ (v0 : (c : Dev Cert.GradFf1Ideal.nD) → Buf (Elt Ideal) ((c.tc : Thread Cert.GradFf1Ideal.nD Cert.GradFf1Ideal.τ).loc Cert.GradFf1Ideal.main_v0)),
      θ_run (Cert.GradFf1Ideal.defs (F := Ideal)) (onTc (τ := Cert.GradFf1Ideal.τ) (Cert.GradFf1Ideal.main (F := Ideal))) ⟨m, fun _ => 0, g⟩ (fun r => ∀ c : Dev Cert.GradFf1Ideal.nD,
          r.2.mem ((c.tc : Thread Cert.GradFf1Ideal.nD Cert.GradFf1Ideal.τ).loc Cert.GradFf1Ideal.main_v0) = v0 c
          ∧ r.2.mem ((c.tc : Thread Cert.GradFf1Ideal.nD Cert.GradFf1Ideal.τ).loc Cert.GradFf1Ideal.main_arg0) = m ((c.tc : Thread Cert.GradFf1Ideal.nD Cert.GradFf1Ideal.τ).loc Cert.GradFf1Ideal.main_arg0)
          ∧ r.2.mem ((c.tc : Thread Cert.GradFf1Ideal.nD Cert.GradFf1Ideal.τ).loc Cert.GradFf1Ideal.main_arg1) = m ((c.tc : Thread Cert.GradFf1Ideal.nD Cert.GradFf1Ideal.τ).loc Cert.GradFf1Ideal.main_arg1))
      ∧ θ_run (Cert.GradFf1ReferenceIdeal.defs (F := Ideal)) (onTc (τ := Cert.GradFf1ReferenceIdeal.τ) (Cert.GradFf1ReferenceIdeal.main (F := Ideal))) ⟨m', fun _ => 0, g'⟩ (fun r => ∀ c : Dev Cert.GradFf1ReferenceIdeal.nD,
          r.2.mem ((c.tc : Thread Cert.GradFf1ReferenceIdeal.nD Cert.GradFf1ReferenceIdeal.τ).loc Cert.GradFf1ReferenceIdeal.main_v7) = v0 c
          ∧ r.2.mem ((c.tc : Thread Cert.GradFf1ReferenceIdeal.nD Cert.GradFf1ReferenceIdeal.τ).loc Cert.GradFf1ReferenceIdeal.main_arg0) = m' ((c.tc : Thread Cert.GradFf1ReferenceIdeal.nD Cert.GradFf1ReferenceIdeal.τ).loc Cert.GradFf1ReferenceIdeal.main_arg0)
          ∧ r.2.mem ((c.tc : Thread Cert.GradFf1ReferenceIdeal.nD Cert.GradFf1ReferenceIdeal.τ).loc Cert.GradFf1ReferenceIdeal.main_arg1) = m' ((c.tc : Thread Cert.GradFf1ReferenceIdeal.nD Cert.GradFf1ReferenceIdeal.τ).loc Cert.GradFf1ReferenceIdeal.main_arg1))

def preserves_GradFf2_GradFf2Ideal : Prop :=
  True

def algebraic_GradFf2Ideal_GradFf2ReferenceIdeal [hGradFf2Ideal : Cert.GradFf2Ideal.Facts] [hGradFf2ReferenceIdeal : Cert.GradFf2ReferenceIdeal.Facts] : Prop :=
  ∀ (m : (ℓ : Loc Cert.GradFf2Ideal.nD Cert.GradFf2Ideal.τ Cert.GradFf2Ideal.sig) → Buf (Elt Ideal) ℓ) (g : Dev Cert.GradFf2Ideal.nD → PrngReg)
    (m' : (ℓ : Loc Cert.GradFf2ReferenceIdeal.nD Cert.GradFf2ReferenceIdeal.τ Cert.GradFf2ReferenceIdeal.sig) → Buf (Elt Ideal) ℓ) (g' : Dev Cert.GradFf2ReferenceIdeal.nD → PrngReg), Pre_GradFf2Ideal m →
    (∀ c : Dev Cert.GradFf2Ideal.nD,
      m' ((c.tc : Thread Cert.GradFf2ReferenceIdeal.nD Cert.GradFf2ReferenceIdeal.τ).loc Cert.GradFf2ReferenceIdeal.main_arg0) = m ((c.tc : Thread Cert.GradFf2Ideal.nD Cert.GradFf2Ideal.τ).loc Cert.GradFf2Ideal.main_arg0)
      ∧ m' ((c.tc : Thread Cert.GradFf2ReferenceIdeal.nD Cert.GradFf2ReferenceIdeal.τ).loc Cert.GradFf2ReferenceIdeal.main_arg1) = m ((c.tc : Thread Cert.GradFf2Ideal.nD Cert.GradFf2Ideal.τ).loc Cert.GradFf2Ideal.main_arg1)) →
    ∃ (v0 : (c : Dev Cert.GradFf2Ideal.nD) → Buf (Elt Ideal) ((c.tc : Thread Cert.GradFf2Ideal.nD Cert.GradFf2Ideal.τ).loc Cert.GradFf2Ideal.main_v0)),
      θ_run (Cert.GradFf2Ideal.defs (F := Ideal)) (onTc (τ := Cert.GradFf2Ideal.τ) (Cert.GradFf2Ideal.main (F := Ideal))) ⟨m, fun _ => 0, g⟩ (fun r => ∀ c : Dev Cert.GradFf2Ideal.nD,
          r.2.mem ((c.tc : Thread Cert.GradFf2Ideal.nD Cert.GradFf2Ideal.τ).loc Cert.GradFf2Ideal.main_v0) = v0 c
          ∧ r.2.mem ((c.tc : Thread Cert.GradFf2Ideal.nD Cert.GradFf2Ideal.τ).loc Cert.GradFf2Ideal.main_arg0) = m ((c.tc : Thread Cert.GradFf2Ideal.nD Cert.GradFf2Ideal.τ).loc Cert.GradFf2Ideal.main_arg0)
          ∧ r.2.mem ((c.tc : Thread Cert.GradFf2Ideal.nD Cert.GradFf2Ideal.τ).loc Cert.GradFf2Ideal.main_arg1) = m ((c.tc : Thread Cert.GradFf2Ideal.nD Cert.GradFf2Ideal.τ).loc Cert.GradFf2Ideal.main_arg1))
      ∧ θ_run (Cert.GradFf2ReferenceIdeal.defs (F := Ideal)) (onTc (τ := Cert.GradFf2ReferenceIdeal.τ) (Cert.GradFf2ReferenceIdeal.main (F := Ideal))) ⟨m', fun _ => 0, g'⟩ (fun r => ∀ c : Dev Cert.GradFf2ReferenceIdeal.nD,
          r.2.mem ((c.tc : Thread Cert.GradFf2ReferenceIdeal.nD Cert.GradFf2ReferenceIdeal.τ).loc Cert.GradFf2ReferenceIdeal.main_v6) = v0 c
          ∧ r.2.mem ((c.tc : Thread Cert.GradFf2ReferenceIdeal.nD Cert.GradFf2ReferenceIdeal.τ).loc Cert.GradFf2ReferenceIdeal.main_arg0) = m' ((c.tc : Thread Cert.GradFf2ReferenceIdeal.nD Cert.GradFf2ReferenceIdeal.τ).loc Cert.GradFf2ReferenceIdeal.main_arg0)
          ∧ r.2.mem ((c.tc : Thread Cert.GradFf2ReferenceIdeal.nD Cert.GradFf2ReferenceIdeal.τ).loc Cert.GradFf2ReferenceIdeal.main_arg1) = m' ((c.tc : Thread Cert.GradFf2ReferenceIdeal.nD Cert.GradFf2ReferenceIdeal.τ).loc Cert.GradFf2ReferenceIdeal.main_arg1))

def preserves_GradAttO_GradAttOIdeal : Prop :=
  True

def algebraic_GradAttOIdeal_GradAttOReferenceIdeal [hGradAttOIdeal : Cert.GradAttOIdeal.Facts] [hGradAttOReferenceIdeal : Cert.GradAttOReferenceIdeal.Facts] : Prop :=
  ∀ (m : (ℓ : Loc Cert.GradAttOIdeal.nD Cert.GradAttOIdeal.τ Cert.GradAttOIdeal.sig) → Buf (Elt Ideal) ℓ) (g : Dev Cert.GradAttOIdeal.nD → PrngReg)
    (m' : (ℓ : Loc Cert.GradAttOReferenceIdeal.nD Cert.GradAttOReferenceIdeal.τ Cert.GradAttOReferenceIdeal.sig) → Buf (Elt Ideal) ℓ) (g' : Dev Cert.GradAttOReferenceIdeal.nD → PrngReg), Pre_GradAttOIdeal m →
    (∀ c : Dev Cert.GradAttOIdeal.nD,
      m' ((c.tc : Thread Cert.GradAttOReferenceIdeal.nD Cert.GradAttOReferenceIdeal.τ).loc Cert.GradAttOReferenceIdeal.main_arg0) = m ((c.tc : Thread Cert.GradAttOIdeal.nD Cert.GradAttOIdeal.τ).loc Cert.GradAttOIdeal.main_arg0)
      ∧ m' ((c.tc : Thread Cert.GradAttOReferenceIdeal.nD Cert.GradAttOReferenceIdeal.τ).loc Cert.GradAttOReferenceIdeal.main_arg1) = m ((c.tc : Thread Cert.GradAttOIdeal.nD Cert.GradAttOIdeal.τ).loc Cert.GradAttOIdeal.main_arg1)) →
    ∃ (v0 : (c : Dev Cert.GradAttOIdeal.nD) → Buf (Elt Ideal) ((c.tc : Thread Cert.GradAttOIdeal.nD Cert.GradAttOIdeal.τ).loc Cert.GradAttOIdeal.main_v0)),
      θ_run (Cert.GradAttOIdeal.defs (F := Ideal)) (onTc (τ := Cert.GradAttOIdeal.τ) (Cert.GradAttOIdeal.main (F := Ideal))) ⟨m, fun _ => 0, g⟩ (fun r => ∀ c : Dev Cert.GradAttOIdeal.nD,
          r.2.mem ((c.tc : Thread Cert.GradAttOIdeal.nD Cert.GradAttOIdeal.τ).loc Cert.GradAttOIdeal.main_v0) = v0 c
          ∧ r.2.mem ((c.tc : Thread Cert.GradAttOIdeal.nD Cert.GradAttOIdeal.τ).loc Cert.GradAttOIdeal.main_arg0) = m ((c.tc : Thread Cert.GradAttOIdeal.nD Cert.GradAttOIdeal.τ).loc Cert.GradAttOIdeal.main_arg0)
          ∧ r.2.mem ((c.tc : Thread Cert.GradAttOIdeal.nD Cert.GradAttOIdeal.τ).loc Cert.GradAttOIdeal.main_arg1) = m ((c.tc : Thread Cert.GradAttOIdeal.nD Cert.GradAttOIdeal.τ).loc Cert.GradAttOIdeal.main_arg1))
      ∧ θ_run (Cert.GradAttOReferenceIdeal.defs (F := Ideal)) (onTc (τ := Cert.GradAttOReferenceIdeal.τ) (Cert.GradAttOReferenceIdeal.main (F := Ideal))) ⟨m', fun _ => 0, g'⟩ (fun r => ∀ c : Dev Cert.GradAttOReferenceIdeal.nD,
          r.2.mem ((c.tc : Thread Cert.GradAttOReferenceIdeal.nD Cert.GradAttOReferenceIdeal.τ).loc Cert.GradAttOReferenceIdeal.main_v7) = v0 c
          ∧ r.2.mem ((c.tc : Thread Cert.GradAttOReferenceIdeal.nD Cert.GradAttOReferenceIdeal.τ).loc Cert.GradAttOReferenceIdeal.main_arg0) = m' ((c.tc : Thread Cert.GradAttOReferenceIdeal.nD Cert.GradAttOReferenceIdeal.τ).loc Cert.GradAttOReferenceIdeal.main_arg0)
          ∧ r.2.mem ((c.tc : Thread Cert.GradAttOReferenceIdeal.nD Cert.GradAttOReferenceIdeal.τ).loc Cert.GradAttOReferenceIdeal.main_arg1) = m' ((c.tc : Thread Cert.GradAttOReferenceIdeal.nD Cert.GradAttOReferenceIdeal.τ).loc Cert.GradAttOReferenceIdeal.main_arg1))

def preserves_GradRecO_GradRecOIdeal : Prop :=
  True

def algebraic_GradRecOIdeal_GradRecOReferenceIdeal [hGradRecOIdeal : Cert.GradRecOIdeal.Facts] [hGradRecOReferenceIdeal : Cert.GradRecOReferenceIdeal.Facts] : Prop :=
  ∀ (m : (ℓ : Loc Cert.GradRecOIdeal.nD Cert.GradRecOIdeal.τ Cert.GradRecOIdeal.sig) → Buf (Elt Ideal) ℓ) (g : Dev Cert.GradRecOIdeal.nD → PrngReg)
    (m' : (ℓ : Loc Cert.GradRecOReferenceIdeal.nD Cert.GradRecOReferenceIdeal.τ Cert.GradRecOReferenceIdeal.sig) → Buf (Elt Ideal) ℓ) (g' : Dev Cert.GradRecOReferenceIdeal.nD → PrngReg), Pre_GradRecOIdeal m →
    (∀ c : Dev Cert.GradRecOIdeal.nD,
      m' ((c.tc : Thread Cert.GradRecOReferenceIdeal.nD Cert.GradRecOReferenceIdeal.τ).loc Cert.GradRecOReferenceIdeal.main_arg0) = m ((c.tc : Thread Cert.GradRecOIdeal.nD Cert.GradRecOIdeal.τ).loc Cert.GradRecOIdeal.main_arg0)
      ∧ m' ((c.tc : Thread Cert.GradRecOReferenceIdeal.nD Cert.GradRecOReferenceIdeal.τ).loc Cert.GradRecOReferenceIdeal.main_arg1) = m ((c.tc : Thread Cert.GradRecOIdeal.nD Cert.GradRecOIdeal.τ).loc Cert.GradRecOIdeal.main_arg1)) →
    ∃ (v0 : (c : Dev Cert.GradRecOIdeal.nD) → Buf (Elt Ideal) ((c.tc : Thread Cert.GradRecOIdeal.nD Cert.GradRecOIdeal.τ).loc Cert.GradRecOIdeal.main_v0)),
      θ_run (Cert.GradRecOIdeal.defs (F := Ideal)) (onTc (τ := Cert.GradRecOIdeal.τ) (Cert.GradRecOIdeal.main (F := Ideal))) ⟨m, fun _ => 0, g⟩ (fun r => ∀ c : Dev Cert.GradRecOIdeal.nD,
          r.2.mem ((c.tc : Thread Cert.GradRecOIdeal.nD Cert.GradRecOIdeal.τ).loc Cert.GradRecOIdeal.main_v0) = v0 c
          ∧ r.2.mem ((c.tc : Thread Cert.GradRecOIdeal.nD Cert.GradRecOIdeal.τ).loc Cert.GradRecOIdeal.main_arg0) = m ((c.tc : Thread Cert.GradRecOIdeal.nD Cert.GradRecOIdeal.τ).loc Cert.GradRecOIdeal.main_arg0)
          ∧ r.2.mem ((c.tc : Thread Cert.GradRecOIdeal.nD Cert.GradRecOIdeal.τ).loc Cert.GradRecOIdeal.main_arg1) = m ((c.tc : Thread Cert.GradRecOIdeal.nD Cert.GradRecOIdeal.τ).loc Cert.GradRecOIdeal.main_arg1))
      ∧ θ_run (Cert.GradRecOReferenceIdeal.defs (F := Ideal)) (onTc (τ := Cert.GradRecOReferenceIdeal.τ) (Cert.GradRecOReferenceIdeal.main (F := Ideal))) ⟨m', fun _ => 0, g'⟩ (fun r => ∀ c : Dev Cert.GradRecOReferenceIdeal.nD,
          r.2.mem ((c.tc : Thread Cert.GradRecOReferenceIdeal.nD Cert.GradRecOReferenceIdeal.τ).loc Cert.GradRecOReferenceIdeal.main_v6) = v0 c
          ∧ r.2.mem ((c.tc : Thread Cert.GradRecOReferenceIdeal.nD Cert.GradRecOReferenceIdeal.τ).loc Cert.GradRecOReferenceIdeal.main_arg0) = m' ((c.tc : Thread Cert.GradRecOReferenceIdeal.nD Cert.GradRecOReferenceIdeal.τ).loc Cert.GradRecOReferenceIdeal.main_arg0)
          ∧ r.2.mem ((c.tc : Thread Cert.GradRecOReferenceIdeal.nD Cert.GradRecOReferenceIdeal.τ).loc Cert.GradRecOReferenceIdeal.main_arg1) = m' ((c.tc : Thread Cert.GradRecOReferenceIdeal.nD Cert.GradRecOReferenceIdeal.τ).loc Cert.GradRecOReferenceIdeal.main_arg1))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v5) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)
      ∧ m' ((c.tc : Thread Cert.GradInReferenceIdeal.nD Cert.GradInReferenceIdeal.τ).loc Cert.GradInReferenceIdeal.main_arg2) = m ((c.tc : Thread Cert.GradInIdeal.nD Cert.GradInIdeal.τ).loc Cert.GradInIdeal.main_arg2)
      ∧ m' ((c.tc : Thread Cert.GradInReferenceIdeal.nD Cert.GradInReferenceIdeal.τ).loc Cert.GradInReferenceIdeal.main_arg3) = m ((c.tc : Thread Cert.GradInIdeal.nD Cert.GradInIdeal.τ).loc Cert.GradInIdeal.main_arg3)) →
    ∃ (v0 : (c : Dev Cert.GradInIdeal.nD) → Buf (Elt Ideal) ((c.tc : Thread Cert.GradInIdeal.nD Cert.GradInIdeal.τ).loc Cert.GradInIdeal.main_v0_0)) (v1 : (c : Dev Cert.GradInIdeal.nD) → Buf (Elt Ideal) ((c.tc : Thread Cert.GradInIdeal.nD Cert.GradInIdeal.τ).loc Cert.GradInIdeal.main_v0_1)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0_0) = v0 c
          ∧ r.2.mem ((c.tc : Thread Cert.GradInIdeal.nD Cert.GradInIdeal.τ).loc Cert.GradInIdeal.main_v0_1) = v1 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
          ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v29) = v0 c
          ∧ r.2.mem ((c.tc : Thread Cert.GradInReferenceIdeal.nD Cert.GradInReferenceIdeal.τ).loc Cert.GradInReferenceIdeal.main_v30) = v1 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1)
          ∧ r.2.mem ((c.tc : Thread Cert.GradInReferenceIdeal.nD Cert.GradInReferenceIdeal.τ).loc Cert.GradInReferenceIdeal.main_arg2) = m' ((c.tc : Thread Cert.GradInReferenceIdeal.nD Cert.GradInReferenceIdeal.τ).loc Cert.GradInReferenceIdeal.main_arg2)
          ∧ r.2.mem ((c.tc : Thread Cert.GradInReferenceIdeal.nD Cert.GradInReferenceIdeal.τ).loc Cert.GradInReferenceIdeal.main_arg3) = m' ((c.tc : Thread Cert.GradInReferenceIdeal.nD Cert.GradInReferenceIdeal.τ).loc Cert.GradInReferenceIdeal.main_arg3))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)
      ∧ m' ((c.tc : Thread Cert.DxReferenceIdeal.nD Cert.DxReferenceIdeal.τ).loc Cert.DxReferenceIdeal.main_arg3) = m ((c.tc : Thread Cert.DxIdeal.nD Cert.DxIdeal.τ).loc Cert.DxIdeal.main_arg3)
      ∧ m' ((c.tc : Thread Cert.DxReferenceIdeal.nD Cert.DxReferenceIdeal.τ).loc Cert.DxReferenceIdeal.main_arg4) = m ((c.tc : Thread Cert.DxIdeal.nD Cert.DxIdeal.τ).loc Cert.DxIdeal.main_arg4)
      ∧ m' ((c.tc : Thread Cert.DxReferenceIdeal.nD Cert.DxReferenceIdeal.τ).loc Cert.DxReferenceIdeal.main_arg5) = m ((c.tc : Thread Cert.DxIdeal.nD Cert.DxIdeal.τ).loc Cert.DxIdeal.main_arg5)
      ∧ m' ((c.tc : Thread Cert.DxReferenceIdeal.nD Cert.DxReferenceIdeal.τ).loc Cert.DxReferenceIdeal.main_arg6) = m ((c.tc : Thread Cert.DxIdeal.nD Cert.DxIdeal.τ).loc Cert.DxIdeal.main_arg6)) →
    ∃ (v0 : (c : Dev Cert.DxIdeal.nD) → Buf (Elt Ideal) ((c.tc : Thread Cert.DxIdeal.nD Cert.DxIdeal.τ).loc Cert.DxIdeal.main_v4_0)) (v1 : (c : Dev Cert.DxIdeal.nD) → Buf (Elt Ideal) ((c.tc : Thread Cert.DxIdeal.nD Cert.DxIdeal.τ).loc Cert.DxIdeal.main_v4_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v4_0) = v0 c
          ∧ r.2.mem ((c.tc : Thread Cert.DxIdeal.nD Cert.DxIdeal.τ).loc Cert.DxIdeal.main_v4_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v54) = v0 c
          ∧ r.2.mem ((c.tc : Thread Cert.DxReferenceIdeal.nD Cert.DxReferenceIdeal.τ).loc Cert.DxReferenceIdeal.main_v55) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5)
          ∧ r.2.mem ((c.tc : Thread Cert.DxReferenceIdeal.nD Cert.DxReferenceIdeal.τ).loc Cert.DxReferenceIdeal.main_arg6) = m' ((c.tc : Thread Cert.DxReferenceIdeal.nD Cert.DxReferenceIdeal.τ).loc Cert.DxReferenceIdeal.main_arg6))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)) (v2 : (c : Dev Cert.InProjIdeal.nD) → Buf (Elt Ideal) ((c.tc : Thread Cert.InProjIdeal.nD Cert.InProjIdeal.τ).loc Cert.InProjIdeal.main_v5_2)) (v3 : (c : Dev Cert.InProjIdeal.nD) → Buf (Elt Ideal) ((c.tc : Thread Cert.InProjIdeal.nD Cert.InProjIdeal.τ).loc Cert.InProjIdeal.main_v5_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_v5_2) = v2 c
          ∧ r.2.mem ((c.tc : Thread Cert.InProjIdeal.nD Cert.InProjIdeal.τ).loc Cert.InProjIdeal.main_v5_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v20) = v0 c
          ∧ r.2.mem ((c.tc : Thread Cert.InProjReferenceIdeal.nD Cert.InProjReferenceIdeal.τ).loc Cert.InProjReferenceIdeal.main_v18) = v1 c
          ∧ r.2.mem ((c.tc : Thread Cert.InProjReferenceIdeal.nD Cert.InProjReferenceIdeal.τ).loc Cert.InProjReferenceIdeal.main_v19) = v2 c
          ∧ r.2.mem ((c.tc : Thread Cert.InProjReferenceIdeal.nD Cert.InProjReferenceIdeal.τ).loc Cert.InProjReferenceIdeal.main_v21) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v4_0)) (v1 : (c : Dev Cert.MixIdeal.nD) → Buf (Elt Ideal) ((c.tc : Thread Cert.MixIdeal.nD Cert.MixIdeal.τ).loc Cert.MixIdeal.main_v4_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4_0) = v0 c
          ∧ r.2.mem ((c.tc : Thread Cert.MixIdeal.nD Cert.MixIdeal.τ).loc Cert.MixIdeal.main_v4_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v22) = v0 c
          ∧ r.2.mem ((c.tc : Thread Cert.MixReferenceIdeal.nD Cert.MixReferenceIdeal.τ).loc Cert.MixReferenceIdeal.main_v23) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_Adam_AdamIdeal : Prop :=
  IdealRules.named_const.Statement Cert.AdamIdeal.κ "inv_bias1" .f32 0x3FC48605#32 ((8388608 / 5463681 : ℝ) : EReal)
  ∧ IdealRules.named_const.Statement Cert.AdamIdeal.κ "inv_bias2" .f32 0x42C8E6D3#32 ((268435456 / 2672307 : ℝ) : EReal)

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_AttFwd_AttFwdIdeal : Prop :=
  IdealRules.named_const.Statement Cert.AttFwdIdeal.κ "masked" .f32 0xF149F2CA#32 ⊥

def algebraic_AttFwdIdeal_AttFwdReferenceIdeal [hAttFwdIdeal : Cert.AttFwdIdeal.Facts] [hAttFwdReferenceIdeal : Cert.AttFwdReferenceIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttFwdReferenceIdeal.nD Cert.AttFwdReferenceIdeal.τ Cert.AttFwdReferenceIdeal.sig) → Buf (Elt Ideal) ℓ) (g' : Dev Cert.AttFwdReferenceIdeal.nD → PrngReg), Pre_AttFwdIdeal m →
    (∀ c : Dev Cert.AttFwdIdeal.nD,
      m' ((c.tc : Thread Cert.AttFwdReferenceIdeal.nD Cert.AttFwdReferenceIdeal.τ).loc Cert.AttFwdReferenceIdeal.main_arg0) = m ((c.tc : Thread Cert.AttFwdIdeal.nD Cert.AttFwdIdeal.τ).loc Cert.AttFwdIdeal.main_arg0)
      ∧ m' ((c.tc : Thread Cert.AttFwdReferenceIdeal.nD Cert.AttFwdReferenceIdeal.τ).loc Cert.AttFwdReferenceIdeal.main_arg1) = m ((c.tc : Thread Cert.AttFwdIdeal.nD Cert.AttFwdIdeal.τ).loc Cert.AttFwdIdeal.main_arg1)) →
    ∃ (v0 : (c : Dev Cert.AttFwdIdeal.nD) → Buf (Elt Ideal) ((c.tc : Thread Cert.AttFwdIdeal.nD Cert.AttFwdIdeal.τ).loc Cert.AttFwdIdeal.main_v27)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v27) = v0 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ θ_run (Cert.AttFwdReferenceIdeal.defs (F := Ideal)) (onTc (τ := Cert.AttFwdReferenceIdeal.τ) (Cert.AttFwdReferenceIdeal.main (F := Ideal))) ⟨m', fun _ => 0, g'⟩ (fun r => ∀ c : Dev Cert.AttFwdReferenceIdeal.nD,
          r.2.mem ((c.tc : Thread Cert.AttFwdReferenceIdeal.nD Cert.AttFwdReferenceIdeal.τ).loc Cert.AttFwdReferenceIdeal.main_v54) = v0 c
          ∧ r.2.mem ((c.tc : Thread Cert.AttFwdReferenceIdeal.nD Cert.AttFwdReferenceIdeal.τ).loc Cert.AttFwdReferenceIdeal.main_arg0) = m' ((c.tc : Thread Cert.AttFwdReferenceIdeal.nD Cert.AttFwdReferenceIdeal.τ).loc Cert.AttFwdReferenceIdeal.main_arg0)
          ∧ r.2.mem ((c.tc : Thread Cert.AttFwdReferenceIdeal.nD Cert.AttFwdReferenceIdeal.τ).loc Cert.AttFwdReferenceIdeal.main_arg1) = m' ((c.tc : Thread Cert.AttFwdReferenceIdeal.nD Cert.AttFwdReferenceIdeal.τ).loc Cert.AttFwdReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hGradFf1 : Cert.GradFf1.Facts) (hGradFf1Ideal : Cert.GradFf1Ideal.Facts) (hGradFf1ReferenceIdeal : Cert.GradFf1ReferenceIdeal.Facts) (hGradFf2 : Cert.GradFf2.Facts) (hGradFf2Ideal : Cert.GradFf2Ideal.Facts) (hGradFf2ReferenceIdeal : Cert.GradFf2ReferenceIdeal.Facts) (hGradAttO : Cert.GradAttO.Facts) (hGradAttOIdeal : Cert.GradAttOIdeal.Facts) (hGradAttOReferenceIdeal : Cert.GradAttOReferenceIdeal.Facts) (hGradRecO : Cert.GradRecO.Facts) (hGradRecOIdeal : Cert.GradRecOIdeal.Facts) (hGradRecOReferenceIdeal : Cert.GradRecOReferenceIdeal.Facts) (hGradOut : Cert.GradOut.Facts) (hGradOutIdeal : Cert.GradOutIdeal.Facts) (hGradOutReferenceIdeal : Cert.GradOutReferenceIdeal.Facts) (hGradIn : Cert.GradIn.Facts) (hGradInIdeal : Cert.GradInIdeal.Facts) (hGradInReferenceIdeal : Cert.GradInReferenceIdeal.Facts) (hDx : Cert.Dx.Facts) (hDxIdeal : Cert.DxIdeal.Facts) (hDxReferenceIdeal : Cert.DxReferenceIdeal.Facts) (hInProj : Cert.InProj.Facts) (hInProjIdeal : Cert.InProjIdeal.Facts) (hInProjReferenceIdeal : Cert.InProjReferenceIdeal.Facts) (hMix : Cert.Mix.Facts) (hMixIdeal : Cert.MixIdeal.Facts) (hMixReferenceIdeal : Cert.MixReferenceIdeal.Facts) (hAdam : Cert.Adam.Facts) (hAdamIdeal : Cert.AdamIdeal.Facts) (hAdamReferenceIdeal : Cert.AdamReferenceIdeal.Facts) (hAttFwd : Cert.AttFwd.Facts) (hAttFwdIdeal : Cert.AttFwdIdeal.Facts) (hAttFwdReferenceIdeal : Cert.AttFwdReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_GradFf1 (hGradFf1 := hGradFf1)
    ∧ quiescent_GradFf1Ideal (hGradFf1Ideal := hGradFf1Ideal)
    ∧ quiescent_GradFf1ReferenceIdeal (hGradFf1ReferenceIdeal := hGradFf1ReferenceIdeal)
    ∧ quiescent_GradFf2 (hGradFf2 := hGradFf2)
    ∧ quiescent_GradFf2Ideal (hGradFf2Ideal := hGradFf2Ideal)
    ∧ quiescent_GradFf2ReferenceIdeal (hGradFf2ReferenceIdeal := hGradFf2ReferenceIdeal)
    ∧ quiescent_GradAttO (hGradAttO := hGradAttO)
    ∧ quiescent_GradAttOIdeal (hGradAttOIdeal := hGradAttOIdeal)
    ∧ quiescent_GradAttOReferenceIdeal (hGradAttOReferenceIdeal := hGradAttOReferenceIdeal)
    ∧ quiescent_GradRecO (hGradRecO := hGradRecO)
    ∧ quiescent_GradRecOIdeal (hGradRecOIdeal := hGradRecOIdeal)
    ∧ quiescent_GradRecOReferenceIdeal (hGradRecOReferenceIdeal := hGradRecOReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_GradIn (hGradIn := hGradIn)
    ∧ quiescent_GradInIdeal (hGradInIdeal := hGradInIdeal)
    ∧ quiescent_GradInReferenceIdeal (hGradInReferenceIdeal := hGradInReferenceIdeal)
    ∧ quiescent_Dx (hDx := hDx)
    ∧ quiescent_DxIdeal (hDxIdeal := hDxIdeal)
    ∧ quiescent_DxReferenceIdeal (hDxReferenceIdeal := hDxReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Mix (hMix := hMix)
    ∧ quiescent_MixIdeal (hMixIdeal := hMixIdeal)
    ∧ quiescent_MixReferenceIdeal (hMixReferenceIdeal := hMixReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_AttFwd (hAttFwd := hAttFwd)
    ∧ quiescent_AttFwdIdeal (hAttFwdIdeal := hAttFwdIdeal)
    ∧ quiescent_AttFwdReferenceIdeal (hAttFwdReferenceIdeal := hAttFwdReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_GradFf1_GradFf1Ideal
    ∧ algebraic_GradFf1Ideal_GradFf1ReferenceIdeal (hGradFf1Ideal := hGradFf1Ideal) (hGradFf1ReferenceIdeal := hGradFf1ReferenceIdeal)
    ∧ preserves_GradFf2_GradFf2Ideal
    ∧ algebraic_GradFf2Ideal_GradFf2ReferenceIdeal (hGradFf2Ideal := hGradFf2Ideal) (hGradFf2ReferenceIdeal := hGradFf2ReferenceIdeal)
    ∧ preserves_GradAttO_GradAttOIdeal
    ∧ algebraic_GradAttOIdeal_GradAttOReferenceIdeal (hGradAttOIdeal := hGradAttOIdeal) (hGradAttOReferenceIdeal := hGradAttOReferenceIdeal)
    ∧ preserves_GradRecO_GradRecOIdeal
    ∧ algebraic_GradRecOIdeal_GradRecOReferenceIdeal (hGradRecOIdeal := hGradRecOIdeal) (hGradRecOReferenceIdeal := hGradRecOReferenceIdeal)
    ∧ preserves_GradOut_GradOutIdeal
    ∧ algebraic_GradOutIdeal_GradOutReferenceIdeal (hGradOutIdeal := hGradOutIdeal) (hGradOutReferenceIdeal := hGradOutReferenceIdeal)
    ∧ preserves_GradIn_GradInIdeal
    ∧ algebraic_GradInIdeal_GradInReferenceIdeal (hGradInIdeal := hGradInIdeal) (hGradInReferenceIdeal := hGradInReferenceIdeal)
    ∧ preserves_Dx_DxIdeal
    ∧ algebraic_DxIdeal_DxReferenceIdeal (hDxIdeal := hDxIdeal) (hDxReferenceIdeal := hDxReferenceIdeal)
    ∧ preserves_InProj_InProjIdeal
    ∧ algebraic_InProjIdeal_InProjReferenceIdeal (hInProjIdeal := hInProjIdeal) (hInProjReferenceIdeal := hInProjReferenceIdeal)
    ∧ preserves_Mix_MixIdeal
    ∧ algebraic_MixIdeal_MixReferenceIdeal (hMixIdeal := hMixIdeal) (hMixReferenceIdeal := hMixReferenceIdeal)
    ∧ preserves_Adam_AdamIdeal
    ∧ algebraic_AdamIdeal_AdamReferenceIdeal (hAdamIdeal := hAdamIdeal) (hAdamReferenceIdeal := hAdamReferenceIdeal)
    ∧ preserves_AttFwd_AttFwdIdeal
    ∧ algebraic_AttFwdIdeal_AttFwdReferenceIdeal (hAttFwdIdeal := hAttFwdIdeal) (hAttFwdReferenceIdeal := hAttFwdReferenceIdeal)
-- ==== Kernel.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1024x1024 : Shape := ⟨2, ![1024, 1024]⟩
abbrev S1024x512 : Shape := ⟨2, ![1024, 512]⟩
abbrev S_ : Shape := ⟨0, ![]⟩
abbrev S8x128 : Shape := ⟨2, ![8, 128]⟩
abbrev S2x2048x1024 : Shape := ⟨3, ![2, 2048, 1024]⟩
abbrev S256x1024 : Shape := ⟨2, ![256, 1024]⟩
abbrev S256x512 : Shape := ⟨2, ![256, 512]⟩
abbrev S2x256x1024 : Shape := ⟨3, ![2, 256, 1024]⟩
abbrev S1x256x1024 : Shape := ⟨3, ![1, 256, 1024]⟩

abbrev nBuf : Space → Nat
  | .hbm => 18
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x1024, .bf16⟩
  | .hbm, ⟨3, _⟩ => ⟨S2048x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024x512, .f32⟩
  | .hbm, ⟨8, _⟩ => ⟨S1024x512, .bf16⟩
  | .hbm, ⟨9, _⟩ => ⟨S1024x1024, .bf16⟩
  | .hbm, ⟨10, _⟩ => ⟨S1024x1024, .bf16⟩
  | .hbm, ⟨11, _⟩ => ⟨S_, .f32⟩
  | .hbm, ⟨12, _⟩ => ⟨S8x128, .f32⟩
  | .hbm, ⟨13, _⟩ => ⟨S2x2048x1024, .bf16⟩
  | .hbm, ⟨14, _⟩ => ⟨S2048x1024, .bf16⟩
  | .hbm, ⟨15, _⟩ => ⟨S2048x1024, .bf16⟩
  | .hbm, ⟨16, _⟩ => ⟨S2048x512, .bf16⟩
  | .hbm, ⟨17, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x1024, .bf16⟩
  | .local _ .vmem, ⟨12, _⟩ => ⟨S1024x1024, .bf16⟩
  | .local _ .vmem, ⟨13, _⟩ => ⟨S2x256x1024, .bf16⟩
  | .local _ .vmem, ⟨14, _⟩ => ⟨S2x256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x512, .bf16⟩
  | .local _ .vmem, ⟨20, _⟩ => ⟨S256x512, .bf16⟩
  | .local _ .vmem, ⟨21, _⟩ => ⟨S256x1024, .f32⟩
  | .local _ .vmem, ⟨22, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1024x1024 : Shape := ⟨2, ![1024, 1024]⟩
abbrev S_ : Shape := ⟨0, ![]⟩
abbrev S1x2048x1024 : Shape := ⟨3, ![1, 2048, 1024]⟩
abbrev S2x2048x1024 : Shape := ⟨3, ![2, 2048, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x1024, .bf16⟩
  | .hbm, ⟨3, _⟩ => ⟨S2048x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x512, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x512, .f32⟩
  | .hbm, ⟨75, _⟩ => ⟨S1x2048x1024, .f32⟩
  | .hbm, ⟨76, _⟩ => ⟨S1x2048x1024, .f32⟩
  | .hbm, ⟨77, _⟩ => ⟨S2x2048x1024, .f32⟩
  | .hbm, ⟨78, _⟩ => ⟨S2x2048x1024, .bf16⟩
  | .hbm, ⟨79, _⟩ => ⟨S2048x1024, .bf16⟩
  | .hbm, ⟨80, _⟩ => ⟨S2048x1024, .bf16⟩
  | .hbm, ⟨81, _⟩ => ⟨S2048x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Ffn.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S8x128 : Shape := ⟨2, ![8, 128]⟩
abbrev S2048x4096 : Shape := ⟨2, ![2048, 4096]⟩
abbrev S256x1024 : Shape := ⟨2, ![256, 1024]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 19
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S8x128, .f32⟩
  | .hbm, ⟨12, _⟩ => ⟨S2048x1024, .f32⟩
  | .hbm, ⟨13, _⟩ => ⟨S2048x1024, .bf16⟩
  | .hbm, ⟨14, _⟩ => ⟨S2048x4096, .bf16⟩
  | .hbm, ⟨15, _⟩ => ⟨S2048x4096, .bf16⟩
  | .hbm, ⟨16, _⟩ => ⟨S2048x1024, .bf16⟩
  | .hbm, ⟨17, _⟩ => ⟨S1x1024, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S8x128, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S4096x1024, .bf16⟩
  | .local _ .vmem, ⟨20, _⟩ => ⟨S4096x1024, .bf16⟩
  | .local _ .vmem, ⟨21, _⟩ => ⟨S256x4096, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev main_v5_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnReferenceIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S8x128 : Shape := ⟨2, ![8, 128]⟩

abbrev nBuf : Space → Nat
  | .hbm => 148
  | .vmem => 0
  | .smem => 0
  | _ => 0

abbrev hbmTy0_0 (i : Nat) : BufTy := match i % 128 with
  | 0 => ⟨S2048x1024, .f32⟩
  | 1 => ⟨S2048x1024, .f32⟩
  | 2 => ⟨S1024, .f32⟩
  | 3 => ⟨S1024, .f32⟩
  | 4 => ⟨S1024x4096, .f32⟩
  | 5 => ⟨S4096x1024, .f32⟩
  | 6 => ⟨S2048x1024, .f32⟩
  | 7 => ⟨S_, .f32⟩
  | 8 => ⟨S2048, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048x1, .f32⟩
  | 15 => ⟨S2048x1, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1024, .f32⟩
  | 22 => ⟨S2048x1024, .f32⟩
  | 23 => ⟨S1x1024, .f32⟩
  | 24 => ⟨S2048x1024, .f32⟩
  | 25 => ⟨S2048x1024, .f32⟩
  | 26 => ⟨S2048x4096, .f32⟩
  | 27 => ⟨S_, .f32⟩
  | 28 => ⟨S2048x4096, .f32⟩
  | 29 => ⟨S2048x4096, .f32⟩
  | 30 => ⟨S_, .f32⟩
  | 31 => ⟨S2048x4096, .f32⟩
  | 32 => ⟨S2048x4096, .i1⟩
  | 33 => ⟨S_, .f32⟩
  | 34 => ⟨S2048x4096, .f32⟩
  | 35 => ⟨S2048x4096, .f32⟩
  | 36 => ⟨S_, .f32⟩
  | 37 => ⟨S2048x4096, .f32⟩
  | 38 => ⟨S2048x4096, .f32⟩
  | 39 => ⟨S2048x1024, .f32⟩
  | 40 => ⟨S2048x1024, .f32⟩
  | 41 => ⟨S2048x1024, .f32⟩
  | 42 => ⟨S_, .f32⟩
  | 43 => ⟨S2048, .f32⟩
  | 44 => ⟨S2048x1, .f32⟩
  | 45 => ⟨S_, .f32⟩
  | 46 => ⟨S2048x1, .f32⟩
  | 47 => ⟨S2048x1, .f32⟩
  | 48 => ⟨S_, .f32⟩
  | 49 => ⟨S2048x1, .f32⟩
  | 50 => ⟨S2048x1, .f32⟩
  | 51 => ⟨S2048x1, .f32⟩
  | 52 => ⟨S2048x1, .f32⟩
  | 53 => ⟨S_, .f32⟩
  | 54 => ⟨S2048x1, .f32⟩
  | 55 => ⟨S2048x1, .f32⟩
  | 56 => ⟨S2048x1024, .f32⟩
  | 57 => ⟨S2048x1024, .f32⟩
  | 58 => ⟨S1x1024, .f32⟩
  | 59 => ⟨S2048x1024, .f32⟩
  | 60 => ⟨S2048x1024, .f32⟩
  | 61 => ⟨S2048x1024, .f32⟩
  | 62 => ⟨S2048x1024, .f32⟩
  | 63 => ⟨S_, .f32⟩
  | 64 => ⟨S2048x1024, .f32⟩
  | 65 => ⟨S2048x1024, .f32⟩
  | 66 => ⟨S_, .f32⟩
  | 67 => ⟨S2048, .f32⟩
  | 68 => ⟨S_, .f32⟩
  | 69 => ⟨S2048, .f32⟩
  | 70 => ⟨S2048, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S2048, .f32⟩
  | 79 => ⟨S_, .f32⟩
  | 80 => ⟨S2048, .f32⟩
  | 81 => ⟨S2048, .f32⟩
  | 82 => ⟨S2048x1024, .f32⟩
  | 83 => ⟨S2048x1024, .f32⟩
  | 84 => ⟨S2048x1024, .f32⟩
  | 85 => ⟨S_, .f32⟩
  | 86 => ⟨S1024, .f32⟩
  | 87 => ⟨S1x1024, .f32⟩
  | 88 => ⟨S2048x1024, .f32⟩
  | 89 => ⟨S2048x1024, .f32⟩
  | 90 => ⟨S_, .f32⟩
  | 91 => ⟨S1024, .f32⟩
  | 92 => ⟨S2048x1024, .f32⟩
  | 93 => ⟨S_, .f32⟩
  | 94 => ⟨S2048, .f32⟩
  | 95 => ⟨S2048x1, .f32⟩
  | 96 => ⟨S2048x1024, .f32⟩
  | 97 => ⟨S2048x1024, .f32⟩
  | 98 => ⟨S2048x1, .f32⟩
  | 99 => ⟨S_, .f32⟩
  | 100 => ⟨S2048x1, .f32⟩
  | 101 => ⟨S2048x1, .f32⟩
  | 102 => ⟨S_, .f32⟩
  | 103 => ⟨S2048, .f32⟩
  | 104 => ⟨S2048x1024, .f32⟩
  | 105 => ⟨S2048x1024, .f32⟩
  | 106 => ⟨S2048x1024, .f32⟩
  | 107 => ⟨S2048x1024, .f32⟩
  | 108 => ⟨S2048x1024, .f32⟩
  | 109 => ⟨S2048x4096, .f32⟩
  | 110 => ⟨S2048x4096, .f32⟩
  | 111 => ⟨S_, .f32⟩
  | 112 => ⟨S2048x4096, .f32⟩
  | 113 => ⟨S2048x4096, .f32⟩
  | 114 => ⟨S2048x1024, .f32⟩
  | 115 => ⟨S2048x1024, .f32⟩
  | 116 => ⟨S_, .f32⟩
  | 117 => ⟨S1024, .f32⟩
  | 118 => ⟨S1x1024, .f32⟩
  | 119 => ⟨S2048x1024, .f32⟩
  | 120 => ⟨S2048x1024, .f32⟩
  | 121 => ⟨S_, .f32⟩
  | 122 => ⟨S1024, .f32⟩
  | 123 => ⟨S2048x1024, .f32⟩
  | 124 => ⟨S_, .f32⟩
  | 125 => ⟨S2048, .f32⟩
  | 126 => ⟨S2048x1, .f32⟩
  | 127 => ⟨S2048x1024, .f32⟩
  | _ => ⟨S2048x1024, .f32⟩

abbrev hbmTy0_1 (i : Nat) : BufTy := match i % 128 with
  | 0 => ⟨S2048x1024, .f32⟩
  | 1 => ⟨S2048x1, .f32⟩
  | 2 => ⟨S_, .f32⟩
  | 3 => ⟨S2048x1, .f32⟩
  | 4 => ⟨S2048x1, .f32⟩
  | 5 => ⟨S_, .f32⟩
  | 6 => ⟨S2048, .f32⟩
  | 7 => ⟨S2048x1024, .f32⟩
  | 8 => ⟨S2048x1024, .f32⟩
  | 9 => ⟨S2048x1024, .f32⟩
  | 10 => ⟨S2048x1024, .f32⟩
  | 11 => ⟨S2048x1024, .f32⟩
  | 12 => ⟨S8x128, .f32⟩
  | 13 => ⟨S2048x1024, .f32⟩
  | 14 => ⟨S2048x1024, .bf16⟩
  | 15 => ⟨S2048x4096, .bf16⟩
  | 16 => ⟨S2048x4096, .bf16⟩
  | 17 => ⟨S2048x1024, .bf16⟩
  | 18 => ⟨S1x1024, .f32⟩
  | 19 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_cst_15 : Ref sig .tc := ⟨.hbm, 75, rfl⟩
abbrev main_cst_16 : Ref sig .tc := ⟨.hbm, 76, rfl⟩
abbrev main_v51 : Ref sig .tc := ⟨.hbm, 77, rfl⟩
abbrev main_v52 : Ref sig .tc := ⟨.hbm, 78, rfl⟩
abbrev main_cst_17 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_18 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_19 : Ref sig .tc := ⟨.hbm, 90, rfl⟩
abbrev main_v62 : Ref sig .tc := ⟨.hbm, 91, rfl⟩
abbrev main_v63 : Ref sig .tc := ⟨.hbm, 92, rfl⟩
abbrev main_cst_20 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_21 : Ref sig .tc := ⟨.hbm, 99, rfl⟩
abbrev main_v69 : Ref sig .tc := ⟨.hbm, 100, rfl⟩
abbrev main_v70 : Ref sig .tc := ⟨.hbm, 101, rfl⟩
abbrev main_cst_22 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_23 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_24 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_25 : Ref sig .tc := ⟨.hbm, 121, rfl⟩
abbrev main_v87 : Ref sig .tc := ⟨.hbm, 122, rfl⟩
abbrev main_v88 : Ref sig .tc := ⟨.hbm, 123, rfl⟩
abbrev main_cst_26 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_27 : Ref sig .tc := ⟨.hbm, 130, rfl⟩
abbrev main_v94 : Ref sig .tc := ⟨.hbm, 131, rfl⟩
abbrev main_v95 : Ref sig .tc := ⟨.hbm, 132, rfl⟩
abbrev main_cst_28 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩

abbrev nD : Nat := 1
abbrev τ : Topo := Topo.v7x

variable {F : FTy → Type} [FloatOps F]
-- ==== GradFf1.lean ====
abbrev S2048x4096 : Shape := ⟨2, ![2048, 4096]⟩
abbrev S2048x1024 : Shape := ⟨2, ![2048, 1024]⟩
abbrev S4096x1024 : Shape := ⟨2, ![4096, 1024]⟩
abbrev S2048x512 : Shape := ⟨2, ![2048, 512]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFf1ReferenceIdeal.lean ====
abbrev S2048x4096 : Shape := ⟨2, ![2048, 4096]⟩
abbrev S2048x1024 : Shape := ⟨2, ![2048, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradFf2.lean ====
abbrev S2048x4096 : Shape := ⟨2, ![2048, 4096]⟩
abbrev S2048x1024 : Shape := ⟨2, ![2048, 1024]⟩
abbrev S4096x1024 : Shape := ⟨2, ![4096, 1024]⟩
abbrev S2048x512 : Shape := ⟨2, ![2048, 512]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFf2ReferenceIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradAttO.lean ====
abbrev S2048x1024 : Shape := ⟨2, ![2048, 1024]⟩
abbrev S2048x512 : Shape := ⟨2, ![2048, 512]⟩
abbrev S1024x512 : Shape := ⟨2, ![1024, 512]⟩
abbrev S512x512 : Shape := ⟨2, ![512, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S1024x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S512x512, .bf16⟩
  | .local _ .vmem, ⟨4, _⟩ => ⟨S512x512, .bf16⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradAttOReferenceIdeal.lean ====
abbrev S2048x1024 : Shape := ⟨2, ![2048, 1024]⟩
abbrev S2048x512 : Shape := ⟨2, ![2048, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S_, .f32⟩
  | .hbm, ⟨3, _⟩ => ⟨S512x1024, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradRecO.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradRecOReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradOut.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradIn.lean ====
abbrev S3x2048x512 : Shape := ⟨3, ![3, 2048, 512]⟩
abbrev S2x2048x1024 : Shape := ⟨3, ![2, 2048, 1024]⟩
abbrev S2048x1024 : Shape := ⟨2, ![2048, 1024]⟩
abbrev S5632x1024 : Shape := ⟨2, ![5632, 1024]⟩
abbrev S1x5632 : Shape := ⟨2, ![1, 5632]⟩
abbrev S1x2048x512 : Shape := ⟨3, ![1, 2048, 512]⟩
abbrev S512x1024 : Shape := ⟨2, ![512, 1024]⟩
abbrev S1x512 : Shape := ⟨2, ![1, 512]⟩
abbrev S2048x512 : Shape := ⟨2, ![2048, 512]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S3x2048x512, .bf16⟩
  | .hbm, ⟨1, _⟩ => ⟨S2x2048x1024, .bf16⟩
  | .hbm, ⟨2, _⟩ => ⟨S2x2048x1024, .bf16⟩
  | .hbm, ⟨3, _⟩ => ⟨S2048x1024, .bf16⟩
  | .hbm, ⟨4, _⟩ => ⟨S5632x1024, .bf16⟩
  | .hbm, ⟨5, _⟩ => ⟨S1x5632, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x1024, .bf16⟩
  | .local _ .vmem, ⟨7, _⟩ => ⟨S512x1024, .bf16⟩
  | .local _ .vmem, ⟨8, _⟩ => ⟨S512x1024, .bf16⟩
  | .local _ .vmem, ⟨9, _⟩ => ⟨S1x512, .f32⟩
  | .local _ .vmem, ⟨10, _⟩ => ⟨S1x512, .f32⟩
  | _, _ => ⟨S3x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c3_i32 : BitVec 32 := 3#32
  let v1 : BitVec 1 := Scalar.cmpi .slt arg0 c3_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c3_i32_1 : BitVec 32 := 3#32
  let v5 : BitVec 1 := Scalar.cmpi .sge arg0 c3_i32_1
  let c7_i32 : BitVec 32 := 7#32
  let v6 : BitVec 1 := Scalar.cmpi .slt arg0 c7_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c7_i32_3 : BitVec 32 := 7#32
  let v10 : BitVec 1 := Scalar.cmpi .sge arg0 c7_i32_3
  let c11_i32 : BitVec 32 := 11#32
  let v11 : BitVec 1 := Scalar.cmpi .slt arg0 c11_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v2 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  let c0_i32_14 : BitVec 32 := 0#32
  ![v19.toNat, c0_i32_13.toNat, v29.toNat]

def cc0_transform_1 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c3_i32_0 : BitVec 32 := 3#32
  let v1 : BitVec 32 := Scalar.maxsi c0_i32 v0
  let v2 : BitVec 32 := Scalar.minsi c3_i32_0 v1
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, c0_i32_12.toNat, v29.toNat]

def cc0_transform_2 (i : grid0.Coords) : Fin 3 → Nat :=
  let arg0 : BitVec 32 := BitVec.ofNat 32 (i 0).val
  let c7_i32 : BitVec 32 := 7#32
  let v0 : BitVec 32 := Scalar.subi arg0 c7_i32
  let c0_i32 : BitVec 32 := 0#32
  let c3_i32 : BitVec 32 := 3#32
  let v1 : BitVec 32 := Scalar.maxsi c0_i32 v0
  let v2 : BitVec 32 := Scalar.minsi c3_i32 v1
  let c2_i32 : BitVec 32 := 2#32
  let v3 : BitVec 32 := Scalar.divsi v2 c2_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi v2 c2_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, c0_i32_11.toNat, v29.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GradInReferenceIdeal.lean ====
abbrev S3x2048x512 : Shape := ⟨3, ![3, 2048, 512]⟩
abbrev S2x2048x1024 : Shape := ⟨3, ![2, 2048, 1024]⟩
abbrev S2048x1024 : Shape := ⟨2, ![2048, 1024]⟩
abbrev S_ : Shape := ⟨0, ![]⟩
abbrev S1024x5632 : Shape := ⟨2, ![1024, 5632]⟩
abbrev S5632 : Shape := ⟨1, ![5632]⟩
abbrev S1x2048x512 : Shape := ⟨3, ![1, 2048, 512]⟩
abbrev S2048x512 : Shape := ⟨2, ![2048, 512]⟩
abbrev S1x2048x1024 : Shape := ⟨3, ![1, 2048, 1024]⟩
abbrev S2048x5632 : Shape := ⟨2, ![2048, 5632]⟩
abbrev S1x5632 : Shape := ⟨2, ![1, 5632]⟩
abbrev S5632x1024 : Shape := ⟨2, ![5632, 1024]⟩

abbrev nBuf : Space → Nat
  | .hbm => 39
  | .vmem => 0
  | .smem => 0
  | _ => 0

abbrev bufTy : (tb : Table) → Fin (tcTables nBuf tb) → BufTy
  | .hbm, ⟨0, _⟩ => ⟨S3x2048x512, .bf16⟩
  | .hbm, ⟨1, _⟩ => ⟨S2x2048x1024, .bf16⟩
  | .hbm, ⟨2, _⟩ => ⟨S2x2048x1024, .bf16⟩
  | .hbm, ⟨3, _⟩ => ⟨S2048x1024, .bf16⟩
  | .hbm, ⟨4, _⟩ => ⟨S_, .f32⟩
  | .hbm, ⟨5, _⟩ => ⟨S1024x5632, .f32⟩
  | .hbm, ⟨6, _⟩ => ⟨S_, .f32⟩
  | .hbm, ⟨7, _⟩ => ⟨S5632, .f32⟩
  | .hbm, ⟨8, _⟩ => ⟨S1x2048x512, .bf16⟩
  | .hbm, ⟨9, _⟩ => ⟨S2048x512, .bf16⟩
  | .hbm, ⟨10, _⟩ => ⟨S1x2048x512, .bf16⟩
  | .hbm, ⟨11, _⟩ => ⟨S2048x512, .bf16⟩
  | .hbm, ⟨12, _⟩ => ⟨S1x2048x512, .bf16⟩
  | .hbm, ⟨13, _⟩ => ⟨S2048x512, .bf16⟩
  | .hbm, ⟨14, _⟩ => ⟨S1x2048x1024, .bf16⟩
  | .hbm, ⟨15, _⟩ => ⟨S2048x1024, .bf16⟩
  | .hbm, ⟨16, _⟩ => ⟨S1x2048x1024, .bf16⟩
  | .hbm, ⟨17, _⟩ => ⟨S2048x1024, .bf16⟩
  | .hbm, ⟨18, _⟩ => ⟨S1x2048x1024, .bf16⟩
  | .hbm, ⟨19, _⟩ => ⟨S2048x1024, .bf16⟩
  | .hbm, ⟨20, _⟩ => ⟨S1x2048x1024, .bf16⟩
  | .hbm, ⟨21, _⟩ => ⟨S2048x1024, .bf16⟩
  | .hbm, ⟨22, _⟩ => ⟨S2048x5632, .bf16⟩
  | .hbm, ⟨23, _⟩ => ⟨S2048x5632, .f32⟩
  | .hbm, ⟨24, _⟩ => ⟨S2048x1024, .f32⟩
  | .hbm, ⟨25, _⟩ => ⟨S2048x5632, .f32⟩
  | .hbm, ⟨26, _⟩ => ⟨S1x5632, .f32⟩
  | .hbm, ⟨27, _⟩ => ⟨S2048x5632, .f32⟩
  | .hbm, ⟨28, _⟩ => ⟨S2048x5632, .f32⟩
  | .hbm, ⟨29, _⟩ => ⟨S_, .f32⟩
  | .hbm, ⟨30, _⟩ => ⟨S5632, .f32⟩
  | .hbm, ⟨31, _⟩ => ⟨S1x5632, .f32⟩
  | .hbm, ⟨32, _⟩ => ⟨S_, .f32⟩
  | .hbm, ⟨33, _⟩ => ⟨S5632, .f32⟩
  | .hbm, ⟨34, _⟩ => ⟨S5632x1024, .f32⟩
  | .hbm, ⟨35, _⟩ => ⟨S1024x5632, .f32⟩
  | .hbm, ⟨36, _⟩ => ⟨S5632x1024, .f32⟩
  | .hbm, ⟨37, _⟩ => ⟨S5632x1024, .bf16⟩
  | .hbm, ⟨38, _⟩ => ⟨S1x5632, .f32⟩
  | _, _ => ⟨S3x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Dx.lean ====
abbrev S3x2048x512 : Shape := ⟨3, ![3, 2048, 512]⟩
abbrev S2x2048x1024 : Shape := ⟨3, ![2, 2048, 1024]⟩
abbrev S1024x5632 : Shape := ⟨2, ![1024, 5632]⟩
abbrev S2048x1024 : Shape := ⟨2, ![2048, 1024]⟩
abbrev S1024 : Shape := ⟨1, ![1024]⟩
abbrev S5632x1024 : Shape := ⟨2, ![5632, 1024]⟩
abbrev S1x1024 : Shape := ⟨2, ![1, 1024]⟩
abbrev S_ : Shape := ⟨0, ![]⟩
abbrev S8x128 : Shape := ⟨2, ![8, 128]⟩
abbrev S3x512x512 : Shape := ⟨3, ![3, 512, 512]⟩
abbrev S2x512x1024 : Shape := ⟨3, ![2, 512, 1024]⟩
abbrev S512x1024 : Shape := ⟨2, ![512, 1024]⟩
abbrev S1x512x512 : Shape := ⟨3, ![1, 512, 512]⟩
abbrev S512x512 : Shape := ⟨2, ![512, 512]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S3x2048x512, .bf16⟩
  | .hbm, ⟨1, _⟩ => ⟨S2x2048x1024, .bf16⟩
  | .hbm, ⟨2, _⟩ => ⟨S2x2048x1024, .bf16⟩
  | .hbm, ⟨3, _⟩ => ⟨S1024x5632, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S5632x1024, .f32⟩
  | .hbm, ⟨8, _⟩ => ⟨S5632x1024, .bf16⟩
  | .hbm, ⟨9, _⟩ => ⟨S1x1024, .f32⟩
  | .hbm, ⟨10, _⟩ => ⟨S_, .f32⟩
  | .hbm, ⟨11, _⟩ => ⟨S8x128, .f32⟩
  | .hbm, ⟨12, _⟩ => ⟨S2048x1024, .f32⟩
  | .hbm, ⟨13, _⟩ => ⟨S1x1024, .f32⟩
  | .local _ .vmem, ⟨0, _⟩ => ⟨S3x512x512, .bf16⟩
  | .local _ .vmem, ⟨1, _⟩ => ⟨S3x512x512, .bf16⟩
  | .local _ .vmem, ⟨2, _⟩ => ⟨S2x512x1024, .bf16⟩
  | .local _ .vmem, ⟨3, _⟩ => ⟨S2x512x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S5632x1024, .bf16⟩
  | _, _ => ⟨S3x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DxReferenceIdeal.lean ====
abbrev S3x2048x512 : Shape := ⟨3, ![3, 2048, 512]⟩
abbrev S2x2048x1024 : Shape := ⟨3, ![2, 2048, 1024]⟩
abbrev S1024x5632 : Shape := ⟨2, ![1024, 5632]⟩
abbrev S2048x1024 : Shape := ⟨2, ![2048, 1024]⟩
abbrev S1024 : Shape := ⟨1, ![1024]⟩
abbrev S1x2048x512 : Shape := ⟨3, ![1, 2048, 512]⟩
abbrev S2048x512 : Shape := ⟨2, ![2048, 512]⟩
abbrev S1x2048x1024 : Shape := ⟨3, ![1, 2048, 1024]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S3x2048x512, .bf16⟩
  | .hbm, ⟨1, _⟩ => ⟨S2x2048x1024, .bf16⟩
  | .hbm, ⟨2, _⟩ => ⟨S2x2048x1024, .bf16⟩
  | .hbm, ⟨3, _⟩ => ⟨S1024x5632, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S1x2048x512, .bf16⟩
  | .hbm, ⟨8, _⟩ => ⟨S2048x512, .bf16⟩
  | .hbm, ⟨9, _⟩ => ⟨S1x2048x512, .bf16⟩
  | .hbm, ⟨10, _⟩ => ⟨S2048x512, .bf16⟩
  | .hbm, ⟨11, _⟩ => ⟨S1x2048x512, .bf16⟩
  | .hbm, ⟨12, _⟩ => ⟨S2048x512, .bf16⟩
  | .hbm, ⟨13, _⟩ => ⟨S1x2048x1024, .bf16⟩
  | .hbm, ⟨14, _⟩ => ⟨S2048x1024, .bf16⟩
  | .hbm, ⟨15, _⟩ => ⟨S1x2048x1024, .bf16⟩
  | .hbm, ⟨16, _⟩ => ⟨S2048x1024, .bf16⟩
  | .hbm, ⟨17, _⟩ => ⟨S1x2048x1024, .bf16⟩
  | .hbm, ⟨18, _⟩ => ⟨S2048x1024, .bf16⟩
  | .hbm, ⟨19, _⟩ => ⟨S1x2048x1024, .bf16⟩
  | .hbm, ⟨20, _⟩ => ⟨S2048x1024, .bf16⟩
  | .hbm, ⟨21, _⟩ => ⟨S2048x5632, .bf16⟩
  | .hbm, ⟨22, _⟩ => ⟨S2048x5632, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x5632, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S2048x1024, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x1024, .f32⟩
  | .hbm, ⟨58, _⟩ => ⟨S2048x1024, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x1024, .f32⟩
  | _, _ => ⟨S3x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== InProj.lean ====
abbrev S2048x1024 : Shape := ⟨2, ![2048, 1024]⟩
abbrev S1024 : Shape := ⟨1, ![1024]⟩
abbrev S1024x5632 : Shape := ⟨2, ![1024, 5632]⟩
abbrev S5632 : Shape := ⟨1, ![5632]⟩
abbrev S1x1024 : Shape := ⟨2, ![1, 1024]⟩
abbrev S5632x1024 : Shape := ⟨2, ![5632, 1024]⟩
abbrev S1x5632 : Shape := ⟨2, ![1, 5632]⟩
abbrev S_ : Shape := ⟨0, ![]⟩
abbrev S8x128 : Shape := ⟨2, ![8, 128]⟩
abbrev S2048x1536 : Shape := ⟨2, ![2048, 1536]⟩
abbrev S2048x2048 : Shape := ⟨2, ![2048, 2048]⟩
abbrev S512x1024 : Shape := ⟨2, ![512, 1024]⟩
abbrev S512x1536 : Shape := ⟨2, ![512, 1536]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S1x512 : Shape := ⟨2, ![1, 512]⟩

abbrev nBuf : Space → Nat
  | .hbm => 14
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S5632, .f32⟩
  | .hbm, ⟨4, _⟩ => ⟨S1x1024, .f32⟩
  | .hbm, ⟨5, _⟩ => ⟨S5632x1024, .f32⟩
  | .hbm, ⟨6, _⟩ => ⟨S5632x1024, .bf16⟩
  | .hbm, ⟨7, _⟩ => ⟨S1x5632, .f32⟩
  | .hbm, ⟨8, _⟩ => ⟨S_, .f32⟩
  | .hbm, ⟨9, _⟩ => ⟨S8x128, .f32⟩
  | .hbm, ⟨10, _⟩ => ⟨S2048x1536, .bf16⟩
  | .hbm, ⟨11, _⟩ => ⟨S2048x2048, .f32⟩
  | .hbm, ⟨12, _⟩ => ⟨S2048x2048, .f32⟩
  | .hbm, ⟨13, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x5632, .f32⟩
  | .local _ .vmem, ⟨4, _⟩ => ⟨S512x1536, .bf16⟩
  | .local _ .vmem, ⟨5, _⟩ => ⟨S512x1536, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x1024, .bf16⟩
  | .local _ .vmem, ⟨11, _⟩ => ⟨S512x1024, .bf16⟩
  | .local _ .vmem, ⟨12, _⟩ => ⟨S5632x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjReferenceIdeal.lean ====
abbrev S2048x1024 : Shape := ⟨2, ![2048, 1024]⟩
abbrev S1024 : Shape := ⟨1, ![1024]⟩
abbrev S1024x5632 : Shape := ⟨2, ![1024, 5632]⟩
abbrev S5632 : Shape := ⟨1, ![5632]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩
abbrev S1x5632 : Shape := ⟨2, ![1, 5632]⟩
abbrev S2048x1536 : Shape := ⟨2, ![2048, 1536]⟩
abbrev S2048x2048 : Shape := ⟨2, ![2048, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S5632, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x5632, .f32⟩
  | .hbm, ⟨21, _⟩ => ⟨S1x5632, .f32⟩
  | .hbm, ⟨22, _⟩ => ⟨S2048x5632, .f32⟩
  | .hbm, ⟨23, _⟩ => ⟨S2048x5632, .f32⟩
  | .hbm, ⟨24, _⟩ => ⟨S2048x1536, .f32⟩
  | .hbm, ⟨25, _⟩ => ⟨S2048x2048, .f32⟩
  | .hbm, ⟨26, _⟩ => ⟨S2048x2048, .f32⟩
  | .hbm, ⟨27, _⟩ => ⟨S2048x1536, .bf16⟩
  | .hbm, ⟨28, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Mix.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1024x1024 : Shape := ⟨2, ![1024, 1024]⟩
abbrev S1024x512 : Shape := ⟨2, ![1024, 512]⟩
abbrev S256x1024 : Shape := ⟨2, ![256, 1024]⟩
abbrev S256x512 : Shape := ⟨2, ![256, 512]⟩

abbrev nBuf : Space → Nat
  | .hbm => 13
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x1024, .bf16⟩
  | .hbm, ⟨3, _⟩ => ⟨S2048x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024x512, .f32⟩
  | .hbm, ⟨8, _⟩ => ⟨S1024x512, .bf16⟩
  | .hbm, ⟨9, _⟩ => ⟨S1024x1024, .bf16⟩
  | .hbm, ⟨10, _⟩ => ⟨S1024x1024, .bf16⟩
  | .hbm, ⟨11, _⟩ => ⟨S2048x1024, .f32⟩
  | .hbm, ⟨12, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixReferenceIdeal.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1024x1024 : Shape := ⟨2, ![1024, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x1024, .bf16⟩
  | .hbm, ⟨3, _⟩ => ⟨S2048x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x512, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Adam.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamReferenceIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AttFwd.lean ====
abbrev S2048x1536 : Shape := ⟨2, ![2048, 1536]⟩
abbrev S8x15x31 : Shape := ⟨3, ![8, 15, 31]⟩
abbrev S64x512 : Shape := ⟨2, ![64, 512]⟩
abbrev S256x256 : Shape := ⟨2, ![256, 256]⟩
abbrev S_ : Shape := ⟨0, ![]⟩
abbrev S8x15x64 : Shape := ⟨3, ![8, 15, 64]⟩
abbrev S8x8x64 : Shape := ⟨3, ![8, 8, 64]⟩
abbrev S2x4x512 : Shape := ⟨3, ![2, 4, 512]⟩
abbrev S1x2x4x512 : Shape := ⟨4, ![1, 2, 4, 512]⟩
abbrev S8x2x4x512 : Shape := ⟨4, ![8, 2, 4, 512]⟩
abbrev S8x128 : Shape := ⟨2, ![8, 128]⟩
abbrev S2048x512 : Shape := ⟨2, ![2048, 512]⟩
abbrev S2048x256 : Shape := ⟨2, ![2048, 256]⟩
abbrev S8x1x4x512 : Shape := ⟨4, ![8, 1, 4, 512]⟩
abbrev S8x256x512 : Shape := ⟨3, ![8, 256, 512]⟩
abbrev S1x1x1x512 : Shape := ⟨4, ![1, 1, 1, 512]⟩
abbrev S1x512 : Shape := ⟨2, ![1, 512]⟩
abbrev S1x64x512 : Shape := ⟨3, ![1, 64, 512]⟩
abbrev S64x256 : Shape := ⟨2, ![64, 256]⟩
abbrev S512x256 : Shape := ⟨2, ![512, 256]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 35
  | .vmem => 13
  | .smem => 0
  | _ => 0

abbrev bufTy : (tb : Table) → Fin (tcTables nBuf tb) → BufTy
  | .hbm, ⟨0, _⟩ => ⟨S2048x1536, .bf16⟩
  | .hbm, ⟨1, _⟩ => ⟨S8x15x31, .f32⟩
  | .hbm, ⟨2, _⟩ => ⟨S64x512, .f32⟩
  | .hbm, ⟨3, _⟩ => ⟨S256x256, .f32⟩
  | .hbm, ⟨4, _⟩ => ⟨S_, .i32⟩
  | .hbm, ⟨5, _⟩ => ⟨S_, .f32⟩
  | .hbm, ⟨6, _⟩ => ⟨S8x15x64, .f32⟩
  | .hbm, ⟨7, _⟩ => ⟨S8x8x64, .f32⟩
  | .hbm, ⟨8, _⟩ => ⟨S2x4x512, .f32⟩
  | .hbm, ⟨9, _⟩ => ⟨S8x8x64, .f32⟩
  | .hbm, ⟨10, _⟩ => ⟨S2x4x512, .f32⟩
  | .hbm, ⟨11, _⟩ => ⟨S8x8x64, .f32⟩
  | .hbm, ⟨12, _⟩ => ⟨S2x4x512, .f32⟩
  | .hbm, ⟨13, _⟩ => ⟨S8x8x64, .f32⟩
  | .hbm, ⟨14, _⟩ => ⟨S2x4x512, .f32⟩
  | .hbm, ⟨15, _⟩ => ⟨S8x8x64, .f32⟩
  | .hbm, ⟨16, _⟩ => ⟨S2x4x512, .f32⟩
  | .hbm, ⟨17, _⟩ => ⟨S8x8x64, .f32⟩
  | .hbm, ⟨18, _⟩ => ⟨S2x4x512, .f32⟩
  | .hbm, ⟨19, _⟩ => ⟨S8x8x64, .f32⟩
  | .hbm, ⟨20, _⟩ => ⟨S2x4x512, .f32⟩
  | .hbm, ⟨21, _⟩ => ⟨S8x8x64, .f32⟩
  | .hbm, ⟨22, _⟩ => ⟨S2x4x512, .f32⟩
  | .hbm, ⟨23, _⟩ => ⟨S1x2x4x512, .f32⟩
  | .hbm, ⟨24, _⟩ => ⟨S1x2x4x512, .f32⟩
  | .hbm, ⟨25, _⟩ => ⟨S1x2x4x512, .f32⟩
  | .hbm, ⟨26, _⟩ => ⟨S1x2x4x512, .f32⟩
  | .hbm, ⟨27, _⟩ => ⟨S1x2x4x512, .f32⟩
  | .hbm, ⟨28, _⟩ => ⟨S1x2x4x512, .f32⟩
  | .hbm, ⟨29, _⟩ => ⟨S1x2x4x512, .f32⟩
  | .hbm, ⟨30, _⟩ => ⟨S1x2x4x512, .f32⟩
  | .hbm, ⟨31, _⟩ => ⟨S8x2x4x512, .f32⟩
  | .hbm, ⟨32, _⟩ => ⟨S_, .f32⟩
  | .hbm, ⟨33, _⟩ => ⟨S8x128, .f32⟩
  | .hbm, ⟨34, _⟩ => ⟨S2048x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S8x1x4x512, .f32⟩
  | .local _ .vmem, ⟨7, _⟩ => ⟨S8x1x4x512, .f32⟩
  | .local _ .vmem, ⟨8, _⟩ => ⟨S64x512, .f32⟩
  | .local _ .vmem, ⟨9, _⟩ => ⟨S256x256, .f32⟩
  | .local _ .vmem, ⟨10, _⟩ => ⟨S2048x256, .bf16⟩
  | .local _ .vmem, ⟨11, _⟩ => ⟨S2048x256, .bf16⟩
  | .local _ .vmem, ⟨12, _⟩ => ⟨S8x256x512, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c32_i32 : BitVec 32 := 32#32
  let v326 : BitVec 32 := Scalar.addi c0_i32 c32_i32
  let c1_i32 : BitVec 32 := 1#32
  ⟨c0_i32, v326, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c64_i32 : BitVec 32 := 64#32
  let v331 : BitVec 32 := Scalar.muli arg10 c64_i32
  v331
def k0_mult2 (k0_t1 : Fin k0_t1_loop.trips) : BitVec 32 :=
  let c24_i32 : BitVec 32 := 24#32
  let c0_i32_282 : BitVec 32 := 0#32
  let c0_i32 : BitVec 32 := 0#32
  let c1_i32 : BitVec 32 := 1#32
  let arg10 : BitVec 32 := Scf.iv c0_i32 c1_i32 k0_t1
  let c4_i32 : BitVec 32 := 4#32
  let v327 : BitVec 32 := Scalar.subi arg10 c4_i32
  let v328 : BitVec 32 := Scalar.maxsi c0_i32_282 v327
  let v329 : BitVec 32 := Scalar.minsi c24_i32 v328
  let c64_i32_283 : BitVec 32 := 64#32
  let v333 : BitVec 32 := Scalar.muli v329 c64_i32_283
  v333
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32 : BitVec 32 := 64#32
  let v331 : BitVec 32 := Scalar.muli arg10 c64_i32
  let v332 : BitVec 32 := v331
  let v335 : Index := Scalar.indexCast v332
  let c0_284 : Index := 0#32
  ![v335.toNat, 0]
def k0_off2 (k0_t1 : Fin k0_t1_loop.trips) : Fin 2 → Nat :=
  let c24_i32 : BitVec 32 := 24#32
  let c0_i32_282 : BitVec 32 := 0#32
  let c0_i32 : BitVec 32 := 0#32
  let c1_i32 : BitVec 32 := 1#32
  let arg10 : BitVec 32 := Scf.iv c0_i32 c1_i32 k0_t1
  let c4_i32 : BitVec 32 := 4#32
  let v327 : BitVec 32 := Scalar.subi arg10 c4_i32
  let v328 : BitVec 32 := Scalar.maxsi c0_i32_282 v327
  let v329 : BitVec 32 := Scalar.minsi c24_i32 v328
  let c64_i32_283 : BitVec 32 := 64#32
  let v333 : BitVec 32 := Scalar.muli v329 c64_i32_283
  let v334 : BitVec 32 := v333
  let v342 : Index := Scalar.indexCast v334
  let c0_287 : Index := 0#32
  ![v342.toNat, 0]
def k0_off3 (k0_t1 : Fin k0_t1_loop.trips) : Fin 3 → Nat :=
  let c0_i32 : BitVec 32 := 0#32
  let c1_i32 : BitVec 32 := 1#32
  let arg10 : BitVec 32 := Scf.iv c0_i32 c1_i32 k0_t1
  let c24_i32 : BitVec 32 := 24#32
  let c0_i32_282 : BitVec 32 := 0#32
  let c4_i32 : BitVec 32 := 4#32
  let v327 : BitVec 32 := Scalar.subi arg10 c4_i32
  let v328 : BitVec 32 := Scalar.maxsi c0_i32_282 v327
  let v329 : BitVec 32 := Scalar.minsi c24_i32 v328
  let v330 : BitVec 32 := Scalar.subi arg10 v329
  let v345 : Index := Scalar.indexCast v330
  let c0_289 : Index := 0#32
  let c0_290 : Index := 0#32
  ![v345.toNat, 0, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttFwdIdeal.lean ====
variable {F : FTy → Type} [FloatOps F] [Named F]
def κ : String → Option EReal := fun
  | "masked" => some ⊥
  | _ => none
-- ==== AttFwdReferenceIdeal.lean ====
abbrev S2048x1536 : Shape := ⟨2, ![2048, 1536]⟩
abbrev S8x15x31 : Shape := ⟨3, ![8, 15, 31]⟩
abbrev S32x8 : Shape := ⟨2, ![32, 8]⟩
abbrev S64x64 : Shape := ⟨2, ![64, 64]⟩
abbrev S2048x24x64 : Shape := ⟨3, ![2048, 24, 64]⟩
abbrev S2048x8x64 : Shape := ⟨3, ![2048, 8, 64]⟩
abbrev S_ : Shape := ⟨0, ![]⟩
abbrev S32x64x8x64 : Shape := ⟨4, ![32, 64, 8, 64]⟩
abbrev S32x8x1 : Shape := ⟨3, ![32, 8, 1]⟩
abbrev S32x8x64x8x64 : Shape := ⟨5, ![32, 8, 64, 8, 64]⟩
abbrev S32x512x8x64 : Shape := ⟨4, ![32, 512, 8, 64]⟩
abbrev S8x32x8x31 : Shape := ⟨4, ![8, 32, 8, 31]⟩
abbrev S64x64x1 : Shape := ⟨3, ![64, 64, 1]⟩
abbrev S8x32x8x64x64 : Shape := ⟨5, ![8, 32, 8, 64, 64]⟩
abbrev S8x32x64x8x64 : Shape := ⟨5, ![8, 32, 64, 8, 64]⟩
abbrev S8x32x64x512 : Shape := ⟨4, ![8, 32, 64, 512]⟩
abbrev S64x1x64 : Shape := ⟨3, ![64, 1, 64]⟩
abbrev S64x8x64 : Shape := ⟨3, ![64, 8, 64]⟩
abbrev S64x512 : Shape := ⟨2, ![64, 512]⟩
abbrev S8x32x64 : Shape := ⟨3, ![8, 32, 64]⟩
abbrev S8x32x64x1 : Shape := ⟨4, ![8, 32, 64, 1]⟩
abbrev S32x8x64x64 : Shape := ⟨4, ![32, 8, 64, 64]⟩
abbrev S2048x512 : Shape := ⟨2, ![2048, 512]⟩

abbrev nBuf : Space → Nat
  | .hbm => 77
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S8x15x31, .f32⟩
  | .hbm, ⟨2, _⟩ => ⟨S32x8, .i32⟩
  | .hbm, ⟨3, _⟩ => ⟨S32x8, .i1⟩
  | .hbm, ⟨4, _⟩ => ⟨S32x8, .i1⟩
  | .hbm, ⟨5, _⟩ => ⟨S32x8, .i32⟩
  | .hbm, ⟨6, _⟩ => ⟨S32x8, .i1⟩
  | .hbm, ⟨7, _⟩ => ⟨S64x64, .i32⟩
  | .hbm, ⟨8, _⟩ => ⟨S64x64, .i1⟩
  | .hbm, ⟨9, _⟩ => ⟨S64x64, .i1⟩
  | .hbm, ⟨10, _⟩ => ⟨S2048x1536, .f32⟩
  | .hbm, ⟨11, _⟩ => ⟨S2048x24x64, .f32⟩
  | .hbm, ⟨12, _⟩ => ⟨S2048x8x64, .f32⟩
  | .hbm, ⟨13, _⟩ => ⟨S2048x8x64, .f32⟩
  | .hbm, ⟨14, _⟩ => ⟨S2048x8x64, .f32⟩
  | .hbm, ⟨15, _⟩ => ⟨S_, .f32⟩
  | .hbm, ⟨16, _⟩ => ⟨S2048x8x64, .f32⟩
  | .hbm, ⟨17, _⟩ => ⟨S2048x8x64, .f32⟩
  | .hbm, ⟨18, _⟩ => ⟨S32x64x8x64, .f32⟩
  | .hbm, ⟨19, _⟩ => ⟨S32x64x8x64, .f32⟩
  | .hbm, ⟨20, _⟩ => ⟨S_, .i32⟩
  | .hbm, ⟨21, _⟩ => ⟨S32x8, .i32⟩
  | .hbm, ⟨22, _⟩ => ⟨S32x8, .i32⟩
  | .hbm, ⟨23, _⟩ => ⟨S32x8, .i32⟩
  | .hbm, ⟨24, _⟩ => ⟨S32x8x1, .i32⟩
  | .hbm, ⟨25, _⟩ => ⟨S32x8x64x8x64, .f32⟩
  | .hbm, ⟨26, _⟩ => ⟨S32x512x8x64, .f32⟩
  | .hbm, ⟨27, _⟩ => ⟨S32x64x8x64, .f32⟩
  | .hbm, ⟨28, _⟩ => ⟨S_, .i32⟩
  | .hbm, ⟨29, _⟩ => ⟨S32x8, .i32⟩
  | .hbm, ⟨30, _⟩ => ⟨S32x8, .i32⟩
  | .hbm, ⟨31, _⟩ => ⟨S32x8, .i32⟩
  | .hbm, ⟨32, _⟩ => ⟨S32x8x1, .i32⟩
  | .hbm, ⟨33, _⟩ => ⟨S32x8x64x8x64, .f32⟩
  | .hbm, ⟨34, _⟩ => ⟨S32x512x8x64, .f32⟩
  | .hbm, ⟨35, _⟩ => ⟨S_, .i32⟩
  | .hbm, ⟨36, _⟩ => ⟨S32x8, .i32⟩
  | .hbm, ⟨37, _⟩ => ⟨S32x8, .i32⟩
  | .hbm, ⟨38, _⟩ => ⟨S32x8, .i32⟩
  | .hbm, ⟨39, _⟩ => ⟨S32x8x1, .i32⟩
  | .hbm, ⟨40, _⟩ => ⟨S8x32x8x31, .f32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S64x64, .i32⟩
  | .hbm, ⟨45, _⟩ => ⟨S64x64x1, .i32⟩
  | .hbm, ⟨46, _⟩ => ⟨S8x32x8x64x64, .f32⟩
  | .hbm, ⟨47, _⟩ => ⟨S8x32x64x8x64, .f32⟩
  | .hbm, ⟨48, _⟩ => ⟨S8x32x64x512, .f32⟩
  | .hbm, ⟨49, _⟩ => ⟨S64x1x64, .i1⟩
  | .hbm, ⟨50, _⟩ => ⟨S64x8x64, .i1⟩
  | .hbm, ⟨51, _⟩ => ⟨S64x512, .i1⟩
  | .hbm, ⟨52, _⟩ => ⟨S8x32x64x512, .f32⟩
  | .hbm, ⟨53, _⟩ => ⟨S8x32x64x512, .f32⟩
  | .hbm, ⟨54, _⟩ => ⟨S_, .f32⟩
  | .hbm, ⟨55, _⟩ => ⟨S_, .f32⟩
  | .hbm, ⟨56, _⟩ => ⟨S8x32x64x512, .i1⟩
  | .hbm, ⟨57, _⟩ => ⟨S8x32x64x512, .f32⟩
  | .hbm, ⟨58, _⟩ => ⟨S8x32x64x512, .f32⟩
  | .hbm, ⟨59, _⟩ => ⟨S_, .f32⟩
  | .hbm, ⟨60, _⟩ => ⟨S8x32x64, .f32⟩
  | .hbm, ⟨61, _⟩ => ⟨S8x32x64x1, .f32⟩
  | .hbm, ⟨62, _⟩ => ⟨S8x32x64x512, .f32⟩
  | .hbm, ⟨63, _⟩ => ⟨S8x32x64x512, .f32⟩
  | .hbm, ⟨64, _⟩ => ⟨S8x32x64x512, .f32⟩
  | .hbm, ⟨65, _⟩ => ⟨S_, .f32⟩
  | .hbm, ⟨66, _⟩ => ⟨S8x32x64, .f32⟩
  | .hbm, ⟨67, _⟩ => ⟨S8x32x64x1, .f32⟩
  | .hbm, ⟨68, _⟩ => ⟨S_, .f32⟩
  | .hbm, ⟨69, _⟩ => ⟨S8x32x64x1, .f32⟩
  | .hbm, ⟨70, _⟩ => ⟨S8x32x64x1, .f32⟩
  | .hbm, ⟨71, _⟩ => ⟨S8x32x64x512, .f32⟩
  | .hbm, ⟨72, _⟩ => ⟨S8x32x64x512, .f32⟩
  | .hbm, ⟨73, _⟩ => ⟨S32x8x64x64, .f32⟩
  | .hbm, ⟨74, _⟩ => ⟨S32x64x8x64, .f32⟩
  | .hbm, ⟨75, _⟩ => ⟨S2048x512, .f32⟩
  | .hbm, ⟨76, _⟩ => ⟨S2048x512, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_7 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_8 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_9 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_11 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Proof.Gate.lean ====
/- The gate as the kernels compute it, by the hyperbolic tangent, is the logistic function. -/
module

public import Idealize.ShloMosaic.Lib.Pipeline.ValueKit
public import Idealize.ShloMosaic.Lib.Pointwise
public import Idealize.ShloMosaic.Lib.Claim

@[expose] public section

set_option maxRecDepth 16384

noncomputable section

open Idealize.ShloMosaic

namespace Cert.Gate

/-- The kernel's gate is the logistic function: `1/2 * tanh (x/2) + 1/2 = 1 / (1 + exp (-x))`, infinities included. -/
theorem gate (x : EReal) : Ideal.ofBits FTy.f32 1056964608#32 * Ideal.tanh (Ideal.ofBits FTy.f32 1056964608#32 * x)
    + Ideal.ofBits FTy.f32 1056964608#32 = Ideal.div 1 (1 + Ideal.exp (-x)) := by
  have hb : Ideal.ofBits FTy.f32 1056964608#32 = ((1 / 2 : ℝ) : EReal) := by
    simp [Ideal.ofBits, Ideal.ieee, -EReal.coe_mul]; norm_num
  rw [hb]
  change _ = Ideal.logistic x
  induction x with
  | bot =>
    rw [EReal.coe_mul_bot_of_pos (by norm_num), Ideal.tanh_bot, Ideal.logistic_bot]
    rw [← EReal.coe_one, ← EReal.coe_neg, ← EReal.coe_mul, ← EReal.coe_add]; norm_num
  | top =>
    rw [EReal.coe_mul_top_of_pos (by norm_num), Ideal.tanh_top, Ideal.logistic_top]
    rw [← EReal.coe_one, ← EReal.coe_mul, ← EReal.coe_add]; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have p1 := Real.exp_pos (1 / 2 * r)
    have p2 := Real.exp_pos (-(1 / 2 * r))
    rw [h1]
    generalize Real.exp (1 / 2 * r) = a at *
    generalize Real.exp (-(1 / 2 * r)) = b at *
    have ha : a = 1 / b := by field_simp; linarith
    subst ha
    field_simp
    ring

end Cert.Gate

end
-- ==== Proof.Merge.lean ====
/- The value of the gradient of the gated merge: each result array of the kernel is the reference's term. -/
module

public import proofs.«01_k».proof.Proof.Gen.KernelIdeal.Value
public import proofs.«01_k».proof.Proof.Gen.ReferenceIdeal.Run
public import proofs.«01_k».proof.Proof.Gate
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Merge

open Cert.KernelIdeal Cert.KernelIdeal.Gen
open Cert.Gate (gate)

variable (m : (ℓ : Loc nD τ sig) → Buf (Elt Ideal) ℓ)

section Reference
open Cert.ReferenceIdeal Cert.ReferenceIdeal.Gen

/-- The gate's half of `gg` at column offset 0 through the logistic function. -/
abbrev gateA (gg : FVec Ideal S2048x2048 .f32) : FVec Ideal S2048x1024 .f32 :=
  Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 0] gg slices_S2048x2048_S2048x1024_0_0))))

/-- The other half, at column offset 1024. -/
abbrev gateR (gg : FVec Ideal S2048x2048 .f32) : FVec Ideal S2048x1024 .f32 :=
  Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 1024] gg slices_S2048x2048_S2048x1024_0_1024))))

/-- The gradient of the merged rows: the cotangent times the transposed output weight. -/
abbrev dmixed (dx1 : FVec Ideal S2048x1024 .f32) (wout : FVec Ideal S1024x1024 .f32) : FVec Ideal S2048x1024 .f32 :=
  Host.dotGeneral dot_S2048x1024_S1024x1024_S2048x1024_1_1_0_0_n_n none dx1 wout

abbrev refDya (dx1 : FVec Ideal S2048x1024 .f32) (gg : FVec Ideal S2048x2048 .f32) (wout : FVec Ideal S1024x1024 .f32) : FVec Ideal S2048x1024 .bf16 :=
  truncf .bf16 (mulf (gateA gg) (dmixed dx1 wout)) Cert.ReferenceIdeal.Gen.bitsLt_bf16_f32

abbrev refDyr (dx1 : FVec Ideal S2048x1024 .f32) (gg : FVec Ideal S2048x2048 .f32) (wout : FVec Ideal S1024x1024 .f32) : FVec Ideal S2048x1024 .bf16 :=
  truncf .bf16 (mulf (gateR gg) (dmixed dx1 wout)) Cert.ReferenceIdeal.Gen.bitsLt_bf16_f32

abbrev refDatt (dx1 : FVec Ideal S2048x1024 .f32) (gg : FVec Ideal S2048x2048 .f32) (wao : FVec Ideal S512x1024 .f32) (wout : FVec Ideal S1024x1024 .f32) : FVec Ideal S2048x512 .bf16 :=
  truncf .bf16 (Host.dotGeneral dot_S2048x1024_S512x1024_S2048x512_1_1_0_0_n_n none (mulf (gateA gg) (dmixed dx1 wout)) wao) Cert.ReferenceIdeal.Gen.bitsLt_bf16_f32

abbrev refDyrec (dx1 : FVec Ideal S2048x1024 .f32) (gg : FVec Ideal S2048x2048 .f32) (wro : FVec Ideal S1024x1024 .f32) (wout : FVec Ideal S1024x1024 .f32) : FVec Ideal S2048x1024 .f32 :=
  Host.dotGeneral dot_S2048x1024_S1024x1024_S2048x1024_1_1_0_0_n_n none (mulf (gateR gg) (dmixed dx1 wout)) wro

/-- The gradient of one half of the gate: `(dmixed * y) * (s * (1 - s))`. -/
abbrev gateGrad (d y s : FVec Ideal S2048x1024 .f32) : FVec Ideal S2048x1024 .f32 :=
  mulf (mulf d y) (mulf s (subf (broadcastInDim S2048x1024 ![] bcast_S_S2048x1024 (constant S_ .f32 0x3F800000#32)) s))

abbrev refDgg (dx1 : FVec Ideal S2048x1024 .f32) (att : FVec Ideal S2048x512 .bf16) (yrec : FVec Ideal S2048x1024 .bf16) (gg : FVec Ideal S2048x2048 .f32) (wao : FVec Ideal S512x1024 .f32) (wro wout : FVec Ideal S1024x1024 .f32) : FVec Ideal S2x2048x1024 .bf16 :=
  truncf .bf16 (concatenate S2x2048x1024 0 [
    ⟨S1x2048x1024, broadcastInDim S1x2048x1024 ![1, 2] bcast_S2048x1024_S1x2048x1024_1_2
      (gateGrad (dmixed dx1 wout) (Host.dotGeneral dot_S2048x512_S512x1024_S2048x1024_1_0_0_1_n_n none (extf .f32 att Cert.ReferenceIdeal.Gen.bitsLt_bf16_f32) wao) (gateA gg))⟩,
    ⟨S1x2048x1024, broadcastInDim S1x2048x1024 ![1, 2] bcast_S2048x1024_S1x2048x1024_1_2
      (gateGrad (dmixed dx1 wout) (Host.dotGeneral dot_S2048x1024_S1024x1024_S2048x1024_1_0_0_1_n_n none (extf .f32 yrec Cert.ReferenceIdeal.Gen.bitsLt_bf16_f32) wro) (gateR gg))⟩]
    concatenates_S1x2048x1024_S1x2048x1024_S2x2048x1024_d0) Cert.ReferenceIdeal.Gen.bitsLt_bf16_f32

end Reference

theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![0, 0] ∧ win0_6.index t = ![0, 0]
    ∧ win0_7.index t = ![0, 0] ∧ win0_8.index t = ![0, t.val, 0] ∧ win0_9.index t = ![t.val, 0] ∧ win0_10.index t = ![t.val, 0]
    ∧ win0_11.index t = ![t.val, 0] ∧ win0_12.index t = ![t.val, 0] :=
  (by decide +kernel : ∀ t : Fin grid0.N, _)

theorem final12 (c : Dev nD) : (dats m 0 c).arrAt 12 (cfgs 0).N
    = refDyrec (m ((c : Thread nD τ).loc main_arg0)) (m ((c : Thread nD τ).loc main_arg3)) (m ((c : Thread nD τ).loc main_arg5)) (m ((c : Thread nD τ).loc main_arg6)) := by
  refine (dats m 0 c).arrAt_eq_of_covers 12 _ (by decide +kernel) fun t _ y => ?_
  blk_simp
  rw [after0_12]; unfold outsAt0; frame_out
  pointwise [k0_pay6, k0_pay4, k0_pay7, k0_pay10, refDyrec, gateR, dmixed]
  simp only [gate]
  refine Fin.sum_fin_congr fun x => ?_
  rw [mul_comm (∑ _, _) (Ideal.div _ _)]
  blk_point [iblk, V, idx t]

theorem final10 (c : Dev nD) : (dats m 0 c).arrAt 10 (cfgs 0).N
    = refDyr (m ((c : Thread nD τ).loc main_arg0)) (m ((c : Thread nD τ).loc main_arg3)) (m ((c : Thread nD τ).loc main_arg6)) := by
  refine (dats m 0 c).arrAt_eq_of_covers 10 _ (by decide +kernel) fun t _ y => ?_
  blk_simp
  rw [after0_10]; unfold outsAt0; frame_out
  pointwise [k0_pay4, k0_pay7, k0_pay10, refDyr, gateR, dmixed]
  simp only [gate]
  rw [mul_comm]
  blk_point [iblk, V, idx t]

/-- The staged weight of the attention half is the transpose of the argument. -/
theorem staged5 (c : Dev nD) (t : Fin cfg0.N) (a : Fin 1024) (b : Fin 512) :
    (show FVec Ideal S1024x512 .bf16 from iblk m c 5 t) (ix2 a b) = m ((c : Thread nD τ).loc main_arg4) (ix2 b a) := by
  show iblk m c 5 t (ix2 a b) = _
  unfold iblk
  blk_simp
  entry_read
  pointwise
  blk_point [idx t]

/-- The same for the whole block, as the host operations that made it. -/
theorem staged5_eq (c : Dev nD) (t : Fin cfg0.N) :
    iblk m c 5 t = (truncf .bf16 (transpose S1024x512 [1, 0] (m ((c : Thread nD τ).loc main_arg4)) transposes_S512x1024_S1024x512_1_0) bitsLt_bf16_f32 : FVec Ideal S1024x512 .bf16) := by
  refine funext fun j => ?_
  idx_vars j
  refine (staged5 m c t _ _).trans ?_
  pointwise

theorem final8 (c : Dev nD) : (dats m 0 c).arrAt 8 (cfgs 0).N
    = refDgg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; unfold outsAt0; frame_out
  canon_tiles x h
  case piece0 =>
    pointwise [k0_pay2, k0_pay7, k0_pay8, k0_pay10, refDgg, gateGrad, gateR, gateA, dmixed]
    rw [dif_neg (by blk_simp [idx t]; try omega)]
    simp only [gate]
    rw [mul_assoc _ (Ideal.div _ _)]
    blk_point [iblk, V, idx t]
  case piece1 =>
    rw [staged5_eq]
    pointwise [k0_pay1, k0_pay11, k0_pay12, k0_pay7, k0_pay9, refDgg, gateGrad, gateR, gateA, dmixed]
    rw [dif_pos (by blk_simp [idx t]; try omega)]
    simp only [gate]
    rw [mul_assoc _ (Ideal.div _ _)]
    blk_point [iblk, V, idx t]

theorem final9 (c : Dev nD) : (dats m 0 c).arrAt 9 (cfgs 0).N
    = refDya (m ((c : Thread nD τ).loc main_arg0)) (m ((c : Thread nD τ).loc main_arg3)) (m ((c : Thread nD τ).loc main_arg6)) := by
  refine (dats m 0 c).arrAt_eq_of_covers 9 _ (by decide +kernel) fun t _ y => ?_
  blk_simp
  rw [after0_9]; unfold outsAt0; frame_out
  pointwise [k0_pay3, k0_pay7, k0_pay9, refDya, gateA, dmixed]
  simp only [gate]
  rw [mul_comm]
  blk_point [iblk, V, idx t]

theorem final11 (c : Dev nD) : (dats m 0 c).arrAt 11 (cfgs 0).N
    = refDatt (m ((c : Thread nD τ).loc main_arg0)) (m ((c : Thread nD τ).loc main_arg3)) (m ((c : Thread nD τ).loc main_arg4)) (m ((c : Thread nD τ).loc main_arg6)) := by
  refine (dats m 0 c).arrAt_eq_of_covers 11 _ (by decide +kernel) fun t _ y => ?_
  blk_simp
  rw [after0_11]; unfold outsAt0; frame_out
  rw [staged5_eq]
  pointwise [k0_pay5, k0_pay3, k0_pay7, k0_pay9, refDatt, gateA, dmixed]
  simp only [gate]
  refine Fin.sum_fin_congr fun x => ?_
  rw [mul_comm (∑ _, _) (Ideal.div _ _)]
  blk_point [iblk, V, idx t]

end Cert.KernelIdeal.Merge

end
-- ==== Proof.Norm.lean ====
/- The root-mean-square normalisation over the extended reals: the two ways of writing its gradient agree. -/
module

public import Idealize.ShloMosaic.Lib.Pipeline.ValueKit
public import Idealize.ShloMosaic.Lib.Pointwise
public import Idealize.ShloMosaic.Lib.Claim

@[expose] public section

noncomputable section

open Idealize.ShloMosaic
open scoped BigOperators

namespace Cert.Norm

theorem bits_1024 : Ideal.ofBits FTy.f32 0x44800000#32 = ((1024 : ℝ) : EReal) := by
  simp [Ideal.ofBits, Ideal.ieee, -EReal.coe_mul]; norm_num

theorem bits_half : Ideal.ofBits FTy.f32 0x3F000000#32 = ((1 / 2 : ℝ) : EReal) := by
  simp [Ideal.ofBits, Ideal.ieee, -EReal.coe_mul]; norm_num

theorem bits_neg_half : Ideal.ofBits FTy.f32 0xBF000000#32 = ((-(1 / 2) : ℝ) : EReal) := by
  simp [Ideal.ofBits, Ideal.ieee, -EReal.coe_mul]; norm_num

theorem bits_two : Ideal.ofBits FTy.f32 0x40000000#32 = ((2 : ℝ) : EReal) := by
  simp [Ideal.ofBits, Ideal.ieee, -EReal.coe_mul]; norm_num

theorem bits_recip : Ideal.ofBits FTy.f32 0x3A800000#32 = ((1 / 1024 : ℝ) : EReal) := by
  simp [Ideal.ofBits, Ideal.ieee, -EReal.coe_mul]; norm_num

theorem bits_eps : ∃ e : ℝ, 0 < e ∧ Ideal.ofBits FTy.f32 0x358637BD#32 = (e : EReal) := by
  refine ⟨_, ?_, by simp [Ideal.ofBits, Ideal.ieee, -EReal.coe_mul]; rfl⟩
  norm_num

/-- A nonnegative real factor goes into a sum of extended reals. -/
theorem mul_sum {ι : Type*} [Fintype ι] (r : ℝ) (hr : 0 ≤ r) (f : ι → EReal) : (r : EReal) * ∑ k, f k = ∑ k, (r : EReal) * f k := by
  classical
  have h : ∀ s : Finset ι, (r : EReal) * ∑ k ∈ s, f k = ∑ k ∈ s, (r : EReal) * f k := fun s => by
    induction s using Finset.induction_on with
    | empty => simp
    | insert a s ha ih =>
      rw [Finset.sum_insert ha, Finset.sum_insert ha,
        EReal.left_distrib_of_nonneg_of_ne_top (by exact_mod_cast hr) (EReal.coe_ne_top r), ih]
  exact h Finset.univ

theorem mul_self_nonneg (x : EReal) : 0 ≤ x * x := by
  induction x with
  | bot => simp
  | top => simp
  | coe r => rw [← EReal.coe_mul]; exact_mod_cast _root_.mul_self_nonneg r

/-- Twice the same real multiple of an extended real. -/
theorem twice (k : ℝ) (z : EReal) : (k : EReal) * z + (k : EReal) * z = ((2 * k : ℝ) : EReal) * z := by
  induction z with
  | bot =>
    rcases lt_trichotomy k 0 with h | h | h
    · rw [EReal.coe_mul_bot_of_neg h, EReal.coe_mul_bot_of_neg (by linarith)]; rfl
    · subst h; simp
    · rw [EReal.coe_mul_bot_of_pos h, EReal.coe_mul_bot_of_pos (by linarith)]; rfl
  | top =>
    rcases lt_trichotomy k 0 with h | h | h
    · rw [EReal.coe_mul_top_of_neg h, EReal.coe_mul_top_of_neg (by linarith)]; rfl
    · subst h; simp
    · rw [EReal.coe_mul_top_of_pos h, EReal.coe_mul_top_of_pos (by linarith)]; rfl
  | coe r => rw [← EReal.coe_mul, ← EReal.coe_mul, ← EReal.coe_add]; congr 1; ring

variable {n : ℕ}

/-- The mean of the squares, with the small constant. -/
def ms (x : Fin n → EReal) : EReal :=
  Ideal.div (∑ k, x k * x k) (Ideal.ofBits FTy.f32 0x44800000#32) + Ideal.ofBits FTy.f32 0x358637BD#32

/-- The reciprocal of its root. -/
def rs (x : Fin n → EReal) : EReal := Ideal.rsqrt (ms x)

/-- The gradient of the normalised row, given the gradient `u` of its product with the gain. -/
def bwd (u x : Fin n → EReal) (d : Fin n) : EReal :=
  rs x * (u d - x d * rs x * Ideal.div (∑ k, u k * (x k * rs x)) (Ideal.ofBits FTy.f32 0x44800000#32))

/-- The term reverse differentiation writes for the dependence through the root. -/
def rev (u x : Fin n → EReal) : EReal :=
  Ideal.div ((∑ k, x k * u k) * (Ideal.ofBits FTy.f32 0xBF000000#32 * Ideal.div (rs x) (ms x))) (Ideal.ofBits FTy.f32 0x44800000#32)

theorem div1024 (x : EReal) : Ideal.div x (Ideal.ofBits FTy.f32 0x44800000#32) = x * ((1 / 1024 : ℝ) : EReal) := by
  rw [bits_1024, Ideal.div_coe (by norm_num)]

/-- The two ways of writing the gradient agree on all extended reals. -/
theorem bwd_eq (u x : Fin n → EReal) (d : Fin n) : bwd u x d = u d * rs x + x d * rev u x + rev u x * x d := by
  obtain ⟨e, he, hb⟩ := bits_eps
  have hS : 0 ≤ ∑ k, x k * x k := Finset.sum_nonneg fun k _ => mul_self_nonneg _
  rcases eq_or_ne (∑ k, x k * x k) ⊤ with hT | hT
  · have hm : ms x = ⊤ := by
      unfold ms
      rw [hT, div1024, EReal.top_mul_coe_of_pos (by norm_num), hb]; rfl
    have hr : rs x = 0 := by unfold rs; rw [hm]; rfl
    have hv : rev u x = 0 := by
      unfold rev
      have : Ideal.div (rs x) (ms x) = 0 := by
        rw [hr, hm]; unfold Ideal.div; simp
      rw [this, div1024]; simp
    unfold bwd
    rw [hv, hr]; simp
  · have hxx : ∀ k, x k * x k ≠ ⊤ := fun k h => hT (top_le_iff.mp (h ▸
      Finset.single_le_sum (f := fun k => x k * x k) (fun k _ => mul_self_nonneg _) (Finset.mem_univ k)))
    have hx : ∀ k, ∃ r : ℝ, x k = (r : EReal) := fun k => by
      have h := hxx k
      generalize x k = a at h
      induction a with
      | bot => exact absurd (by simp) h
      | top => exact absurd (by simp) h
      | coe r => exact ⟨r, rfl⟩
    choose y hy using hx
    obtain ⟨s, hs⟩ : ∃ s : ℝ, ∑ k, x k * x k = (s : EReal) := by
      generalize (∑ k, x k * x k) = a at hS hT
      induction a with
      | bot => exact absurd hS (by simp)
      | top => exact absurd rfl hT
      | coe r => exact ⟨r, rfl⟩
    have hs0 : 0 ≤ s := by rw [hs] at hS; exact_mod_cast hS
    obtain ⟨q, hq, hm⟩ : ∃ q : ℝ, 0 < q ∧ ms x = (q : EReal) :=
      ⟨s * (1 / 1024) + e, by positivity, by unfold ms; rw [hs, div1024, hb, ← EReal.coe_mul, ← EReal.coe_add]⟩
    obtain ⟨r, hr, hrq, hrs⟩ : ∃ r : ℝ, 0 ≤ r ∧ r * r = 1 / q ∧ rs x = (r : EReal) := by
      refine ⟨(Real.sqrt q)⁻¹, by positivity, ?_, ?_⟩
      · rw [← mul_inv, Real.mul_self_sqrt hq.le, one_div]
      · unfold rs; rw [hm, Ideal.rsqrt_coe, if_neg (not_lt.mpr hq.le), if_neg hq.ne']
    have hsum : ∑ k, u k * (x k * (r : EReal)) = (r : EReal) * ∑ k, x k * u k := by
      rw [mul_sum r hr]
      exact Finset.sum_congr rfl fun k _ => by ac_rfl
    unfold bwd rev
    rw [hrs, hsum, hm, div1024, div1024, bits_neg_half, Ideal.div_coe hq.ne', hy d]
    generalize (∑ k, x k * u k) = Z
    rw [sub_eq_add_neg, EReal.left_distrib_of_nonneg_of_ne_top (by exact_mod_cast hr) (EReal.coe_ne_top r), add_assoc, mul_comm (u d)]
    congr 1
    have h1 : ((y d : ℝ) : EReal) * (Z * (((-(1 / 2) : ℝ) : EReal) * ((r : EReal) * ((1 / q : ℝ) : EReal))) * ((1 / 1024 : ℝ) : EReal))
        = ((y d * (-(1 / 2) * (r * (1 / q))) * (1 / 1024) : ℝ) : EReal) * Z := by
      push_cast; ac_rfl
    rw [mul_comm (Z * _ * _), h1, twice]
    have h2 : (r : EReal) * -(((y d : ℝ) : EReal) * (r : EReal) * ((r : EReal) * Z * ((1 / 1024 : ℝ) : EReal)))
        = ((-(r * (y d * r * (r * (1 / 1024)))) : ℝ) : EReal) * Z := by
      rw [mul_neg, EReal.coe_neg, neg_mul]
      congr 1
      push_cast; ac_rfl
    rw [h2]
    congr 2
    rw [← hrq]; ring

end Cert.Norm

end
-- ==== Proof.MlpSpec.lean ====
/- The feed-forward block, the last normalisation and the loss of one token, with their gradients, row by row over the extended reals. -/
module

public import proofs.«01_k».proof.Proof.Norm

@[expose] public section

noncomputable section

open Idealize.ShloMosaic
open scoped BigOperators

namespace Cert.Mlp

/-- The normalised row times its gain. -/
def norm (x g : Fin 1024 → EReal) (k : Fin 1024) : EReal := x k * Norm.rs x * g k

/-- The first product, through the rectifier; `w1` is stored transposed. -/
def relu (x g : Fin 1024 → EReal) (w1 : Fin 4096 → Fin 1024 → EReal) (n : Fin 4096) : EReal :=
  max (∑ k, norm x g k * w1 n k) 0

/-- The row after the feed-forward block. -/
def x2 (x g : Fin 1024 → EReal) (w1 w2 : Fin 4096 → Fin 1024 → EReal) (d : Fin 1024) : EReal :=
  x d + ∑ n, relu x g w1 n * relu x g w1 n * w2 n d

/-- The error of the row `y` against its target. -/
def err (y gf tg : Fin 1024 → EReal) (d : Fin 1024) : EReal := norm y gf d - tg d

/-- The loss of one token: half the mean of the squared errors. -/
def lossRow (y gf tg : Fin 1024 → EReal) : EReal :=
  Ideal.div (∑ d, err y gf tg d * err y gf tg d) (Ideal.ofBits FTy.f32 0x44800000#32)

/-- The gradient at the last normalisation's output. -/
def dy (y gf tg : Fin 1024 → EReal) (d : Fin 1024) : EReal := err y gf tg d * Ideal.ofBits FTy.f32 0x3A800000#32

/-- The gradient at the row after the block. -/
def dx2 (y gf tg : Fin 1024 → EReal) (d : Fin 1024) : EReal := Norm.bwd (fun k => dy y gf tg k * gf k) y d

/-- The gradient before the rectifier, from the gradient `u` of the row after the block and the rectified row `a`. -/
def dpre (u : Fin 1024 → EReal) (a : Fin 4096 → EReal) (w2 : Fin 4096 → Fin 1024 → EReal) (n : Fin 4096) : EReal :=
  (∑ d, u d * w2 n d) * (Ideal.ofBits FTy.f32 0x40000000#32 * a n)

/-- The gradient at the block's normalised input. -/
def dh (p : Fin 4096 → EReal) (w1 : Fin 4096 → Fin 1024 → EReal) (k : Fin 1024) : EReal := ∑ n, p n * w1 n k

end Cert.Mlp

end
-- ==== Proof.MlpRows.lean ====
/- What the kernel of the feed-forward block computes on one tile of tokens, row by row. -/
module

public import proofs.«01_k».proof.Proof.Gen.FfnIdeal.Skeleton
public import proofs.«01_k».proof.Proof.MlpSpec

@[expose] public section

set_option maxRecDepth 16384

noncomputable section

open Idealize.ShloMosaic Idealize.ShloMosaic.TcCoe Idealize.SL.Sem
open scoped BigOperators

namespace Cert.FfnIdeal.Rows

open Cert.FfnIdeal Cert.FfnIdeal.Gen

/-- Row `i` of a tile. -/
abbrev row (x : FVec Ideal S256x1024 .f32) (i : Fin 256) : Fin 1024 → EReal := fun k => x (ix2 i k)

/-- A gain vector, stored as one row. -/
abbrev gain (g : FVec Ideal S1x1024 .f32) : Fin 1024 → EReal := fun k => g (ix2 0 k)

/-- A weight of 4096 rows. -/
abbrev mat (w : FVec Ideal S4096x1024 .bf16) : Fin 4096 → Fin 1024 → EReal := fun n k => w (ix2 n k)

variable (x : FVec Ideal S256x1024 .f32) (tg : FVec Ideal S256x1024 .f32) (g gf : FVec Ideal S1x1024 .f32) (w1 w2 : FVec Ideal S4096x1024 .bf16)

/-- Rows `o … o + 1023` of a weight. -/
def cut (w : FVec Ideal S4096x1024 .bf16) (o : Nat) (h : ∀ d : Fin 2, ![o, 0] d + S1024x1024.size d ≤ S4096x1024.size d) : FVec Ideal S1024x1024 .bf16 :=
  View.ld (Val := Elt Ideal) (e' := .bf16) w (Rect.unit (s := S4096x1024) ![o, 0] S1024x1024.size h)

theorem cut0 (n k : Fin 1024) : cut w1 0 inb_S4096x1024_S1024x1024_0_0 (ix2 n k) = mat w1 ⟨n.val, by omega⟩ k := by
  unfold cut
  pointwise

theorem cut1 (n k : Fin 1024) : cut w1 1024 inb_S4096x1024_S1024x1024_1024_0 (ix2 n k) = mat w1 ⟨1024 + n.val, by omega⟩ k := by
  unfold cut
  pointwise

theorem cut2 (n k : Fin 1024) : cut w1 2048 inb_S4096x1024_S1024x1024_2048_0 (ix2 n k) = mat w1 ⟨2048 + n.val, by omega⟩ k := by
  unfold cut
  pointwise

theorem cut3 (n k : Fin 1024) : cut w1 3072 inb_S4096x1024_S1024x1024_3072_0 (ix2 n k) = mat w1 ⟨3072 + n.val, by omega⟩ k := by
  unfold cut
  pointwise

theorem pay10 (i : Fin 256) (k : Fin 1024) : k0_pay10 (F := Ideal) x g (ix2 i k) = Mlp.norm (row x i) (gain g) k := by
  pointwise [k0_pay10, k0_pay9, k0_pay8]
  rfl

theorem pay27x (i : Fin 256) (k : Fin 1024) : k0_pay9 (F := Ideal) x (ix2 i k) = row x i k * Norm.rs (row x i) := by
  pointwise [k0_pay9, k0_pay8]
  rfl

/-- The rectified product of chunk 0. -/
theorem relu0 (i : Fin 256) (n : Fin 1024) :
    k0_pay12 (F := Ideal) x g (cut w1 0 inb_S4096x1024_S1024x1024_0_0) (ix2 i n) = Mlp.relu (row x i) (gain g) (mat w1) ⟨n.val, by omega⟩ := by
  pointwise [k0_pay12, k0_pay11]
  simp only [pay10, cut0, cut1, cut2, cut3]
  rfl

theorem relu1 (i : Fin 256) (n : Fin 1024) :
    k0_pay16 (k0_pay10 (F := Ideal) x g) (cut w1 1024 inb_S4096x1024_S1024x1024_1024_0) (ix2 i n) = Mlp.relu (row x i) (gain g) (mat w1) ⟨1024 + n.val, by omega⟩ := by
  pointwise [k0_pay16, k0_pay15]
  simp only [pay10, cut0, cut1, cut2, cut3]
  rfl

theorem relu2 (i : Fin 256) (n : Fin 1024) :
    k0_pay19 (k0_pay10 (F := Ideal) x g) (cut w1 2048 inb_S4096x1024_S1024x1024_2048_0) (ix2 i n) = Mlp.relu (row x i) (gain g) (mat w1) ⟨2048 + n.val, by omega⟩ := by
  pointwise [k0_pay19, k0_pay18]
  simp only [pay10, cut0, cut1, cut2, cut3]
  rfl

theorem relu3 (i : Fin 256) (n : Fin 1024) :
    k0_pay22 (k0_pay10 (F := Ideal) x g) (cut w1 3072 inb_S4096x1024_S1024x1024_3072_0) (ix2 i n) = Mlp.relu (row x i) (gain g) (mat w1) ⟨3072 + n.val, by omega⟩ := by
  pointwise [k0_pay22]
  simp only [pay10, cut0, cut1, cut2, cut3]
  rfl

theorem act0 (i : Fin 256) (n : Fin 1024) : k0_pay13 (F := Ideal) x g (cut w1 0 inb_S4096x1024_S1024x1024_0_0) (ix2 i n)
    = Mlp.relu (row x i) (gain g) (mat w1) ⟨n.val, by omega⟩ * Mlp.relu (row x i) (gain g) (mat w1) ⟨n.val, by omega⟩ := by
  pointwise [k0_pay13, k0_pay11]
  simp only [pay10, cut0]
  rfl

theorem act1 (i : Fin 256) (n : Fin 1024) : k0_pay17 (k0_pay10 (F := Ideal) x g) (cut w1 1024 inb_S4096x1024_S1024x1024_1024_0) (ix2 i n)
    = Mlp.relu (row x i) (gain g) (mat w1) ⟨1024 + n.val, by omega⟩ * Mlp.relu (row x i) (gain g) (mat w1) ⟨1024 + n.val, by omega⟩ := by
  pointwise [k0_pay17, k0_pay15]
  simp only [pay10, cut1]
  rfl

theorem act2 (i : Fin 256) (n : Fin 1024) : k0_pay20 (k0_pay10 (F := Ideal) x g) (cut w1 2048 inb_S4096x1024_S1024x1024_2048_0) (ix2 i n)
    = Mlp.relu (row x i) (gain g) (mat w1) ⟨2048 + n.val, by omega⟩ * Mlp.relu (row x i) (gain g) (mat w1) ⟨2048 + n.val, by omega⟩ := by
  pointwise [k0_pay20, k0_pay18]
  simp only [pay10, cut2]
  rfl

theorem act3 (i : Fin 256) (n : Fin 1024) : k0_pay24 (k0_pay22 (k0_pay10 (F := Ideal) x g) (cut w1 3072 inb_S4096x1024_S1024x1024_3072_0)) (ix2 i n)
    = Mlp.relu (row x i) (gain g) (mat w1) ⟨3072 + n.val, by omega⟩ * Mlp.relu (row x i) (gain g) (mat w1) ⟨3072 + n.val, by omega⟩ := by
  pointwise [k0_pay24, k0_pay22]
  simp only [pay10, cut3]
  rfl

/-- A sum over the 4096 hidden units, in four quarters. -/
theorem quarters (f : Fin 4096 → EReal) :
    ∑ n, f n = (∑ n : Fin 1024, f ⟨n.val, by omega⟩) + (∑ n : Fin 1024, f ⟨1024 + n.val, by omega⟩) + (∑ n : Fin 1024, f ⟨2048 + n.val, by omega⟩)
      + ∑ n : Fin 1024, f ⟨3072 + n.val, by omega⟩ := by
  rw [Fin.sum_univ_tiles 4 1024 rfl, Fin.sum_univ_four]
  simp

/-- The rows after the block, as the kernel forms them. -/
abbrev acc012 : FVec Ideal S256x1024 .f32 :=
  k0_pay21 (k0_pay10 x g) (k0_pay14 x g (cut w1 0 inb_S4096x1024_S1024x1024_0_0) (cut w2 0 inb_S4096x1024_S1024x1024_0_0))
    (cut w1 1024 inb_S4096x1024_S1024x1024_1024_0) (cut w2 1024 inb_S4096x1024_S1024x1024_1024_0)
    (cut w1 2048 inb_S4096x1024_S1024x1024_2048_0) (cut w2 2048 inb_S4096x1024_S1024x1024_2048_0)

abbrev r3 : FVec Ideal S256x1024 .f32 := k0_pay22 (k0_pay10 x g) (cut w1 3072 inb_S4096x1024_S1024x1024_3072_0)

abbrev b3 : FVec Ideal S1024x1024 .bf16 := cut w2 3072 inb_S4096x1024_S1024x1024_3072_0

theorem out (i : Fin 256) (d : Fin 1024) :
    k0_pay25 (acc012 x g w1 w2) (r3 x g w1) (b3 w2) (ix2 i d) = Mlp.x2 (row x i) (gain g) (mat w1) (mat w2) d := by
  pointwise [k0_pay25, k0_pay24, k0_pay21, k0_pay20, k0_pay18, k0_pay17, k0_pay15, k0_pay14, k0_pay13, k0_pay11, k0_pay22]
  simp only [pay10, Mlp.x2, cut0, cut1, cut2, cut3, b3, quarters, add_assoc]
  rfl

abbrev yrow (i : Fin 256) : Fin 1024 → EReal := Mlp.x2 (row x i) (gain g) (mat w1) (mat w2)

theorem scale (i : Fin 256) : k0_pay26 (acc012 x g w1 w2) (r3 x g w1) (b3 w2) (ix2 i 0) = Norm.rs (yrow x g w1 w2 i) := by
  pointwise [k0_pay26]
  simp only [out]
  rfl

theorem unit (i : Fin 256) (d : Fin 1024) :
    k0_pay27 (acc012 x g w1 w2) (r3 x g w1) (b3 w2) (ix2 i d) = yrow x g w1 w2 i d * Norm.rs (yrow x g w1 w2 i) := by
  pointwise [k0_pay27]
  simp only [out, scale]

theorem error (i : Fin 256) (d : Fin 1024) :
    k0_pay28 (acc012 x g w1 w2) (r3 x g w1) (b3 w2) gf tg (ix2 i d) = Mlp.err (yrow x g w1 w2 i) (gain gf) (row tg i) d := by
  pointwise [k0_pay28]
  simp only [unit]
  rfl

theorem tileLoss (j : S8x128.Idx) :
    k0_pay30 (acc012 x g w1 w2) (r3 x g w1) (b3 w2) gf tg j
      = Ideal.ofBits FTy.f32 0x3F000000#32 * ∑ i, Mlp.lossRow (yrow x g w1 w2 i) (gain gf) (row tg i) := by
  pointwise [k0_pay30]
  simp only [error, Fin.sum_univ_one, Finset.univ_unique, Finset.sum_singleton]
  rfl

abbrev K26 : FVec Ideal S256x1 .f32 := k0_pay26 (acc012 x g w1 w2) (r3 x g w1) (b3 w2)
abbrev K27 : FVec Ideal S256x1024 .f32 := k0_pay27 (acc012 x g w1 w2) (r3 x g w1) (b3 w2)
abbrev K28 : FVec Ideal S256x1024 .f32 := k0_pay28 (acc012 x g w1 w2) (r3 x g w1) (b3 w2) gf tg

theorem back (i : Fin 256) (d : Fin 1024) :
    k0_pay34 (K26 x g w1 w2) (K27 x g w1 w2) (K28 x tg g gf w1 w2) gf (ix2 i d) = Mlp.dx2 (yrow x g w1 w2 i) (gain gf) (row tg i) d := by
  pointwise [k0_pay34, k0_pay32]
  simp only [error, unit, scale]
  rfl

theorem gainStep (acc : FVec Ideal S1x1024 .f32) (d : Fin 1024) :
    k0_pay33 (K27 x g w1 w2) (K28 x tg g gf w1 w2) acc (ix2 0 d)
      = (acc (ix2 0 d) : EReal) + ∑ i, Mlp.dy (yrow x g w1 w2 i) (gain gf) (row tg i) d * (yrow x g w1 w2 i d * Norm.rs (yrow x g w1 w2 i)) := by
  pointwise [k0_pay33, k0_pay32]
  simp only [error, unit]
  rfl

abbrev K35 : FVec Ideal S256x1024 .bf16 := k0_pay35 (K26 x g w1 w2) (K27 x g w1 w2) (K28 x tg g gf w1 w2) gf

theorem back' (i : Fin 256) (d : Fin 1024) : K35 x tg g gf w1 w2 (ix2 i d) = Mlp.dx2 (yrow x g w1 w2 i) (gain gf) (row tg i) d := by
  pointwise [K35, k0_pay35]
  exact back ..

abbrev prow (i : Fin 256) : Fin 4096 → EReal :=
  Mlp.dpre (Mlp.dx2 (yrow x g w1 w2 i) (gain gf) (row tg i)) (Mlp.relu (row x i) (gain g) (mat w1)) (mat w2)

abbrev R0 : FVec Ideal S256x1024 .f32 := k0_pay12 x g (cut w1 0 inb_S4096x1024_S1024x1024_0_0)
abbrev R1 : FVec Ideal S256x1024 .f32 := k0_pay16 (k0_pay10 x g) (cut w1 1024 inb_S4096x1024_S1024x1024_1024_0)
abbrev R2 : FVec Ideal S256x1024 .f32 := k0_pay19 (k0_pay10 x g) (cut w1 2048 inb_S4096x1024_S1024x1024_2048_0)
abbrev R3 : FVec Ideal S256x1024 .f32 := k0_pay23 (r3 x g w1)

abbrev P0 : FVec Ideal S256x1024 .bf16 :=
  k0_pay37 (K26 x g w1 w2) (K27 x g w1 w2) (K28 x tg g gf w1 w2) gf (cut w2 0 inb_S4096x1024_S1024x1024_0_0) (R0 x g w1)
abbrev P1 : FVec Ideal S256x1024 .bf16 := k0_pay38 (K35 x tg g gf w1 w2) (cut w2 1024 inb_S4096x1024_S1024x1024_1024_0) (R1 x g w1)
abbrev P2 : FVec Ideal S256x1024 .bf16 := k0_pay39 (K35 x tg g gf w1 w2) (cut w2 2048 inb_S4096x1024_S1024x1024_2048_0) (R2 x g w1)
abbrev K41 : FVec Ideal S256x1024 .f32 := k0_pay41 (K35 x tg g gf w1 w2) (b3 w2)
abbrev P3 : FVec Ideal S256x1024 .bf16 := k0_pay1 (K41 x tg g gf w1 w2) (R3 x g w1)

theorem pre0 (i : Fin 256) (n : Fin 1024) : P0 x tg g gf w1 w2 (ix2 i n) = prow x tg g gf w1 w2 i ⟨n.val, by omega⟩ := by
  pointwise [P0, k0_pay37]
  simp only [back', cut0, cut1, cut2, cut3, b3, relu0]
  rfl

theorem pre1 (i : Fin 256) (n : Fin 1024) : P1 x tg g gf w1 w2 (ix2 i n) = prow x tg g gf w1 w2 i ⟨1024 + n.val, by omega⟩ := by
  pointwise [P1, k0_pay38]
  simp only [back', cut0, cut1, cut2, cut3, b3, relu1]
  rfl

theorem pre2 (i : Fin 256) (n : Fin 1024) : P2 x tg g gf w1 w2 (ix2 i n) = prow x tg g gf w1 w2 i ⟨2048 + n.val, by omega⟩ := by
  pointwise [P2, k0_pay39]
  simp only [back', cut0, cut1, cut2, cut3, b3, relu2]
  rfl

theorem pre3 (i : Fin 256) (n : Fin 1024) : P3 x tg g gf w1 w2 (ix2 i n) = prow x tg g gf w1 w2 i ⟨3072 + n.val, by omega⟩ := by
  pointwise [P3, k0_pay1, K41, k0_pay41, k0_pay23]
  simp only [back', cut0, cut1, cut2, cut3, b3, relu3]
  rfl

abbrev K40 : FVec Ideal S256x1024 .f32 :=
  k0_pay40 (K35 x tg g gf w1 w2) k0_pay36 (P0 x tg g gf w1 w2) (cut w1 0 inb_S4096x1024_S1024x1024_0_0)
    (cut w2 1024 inb_S4096x1024_S1024x1024_1024_0) (R1 x g w1) (cut w1 1024 inb_S4096x1024_S1024x1024_1024_0)
    (cut w2 2048 inb_S4096x1024_S1024x1024_2048_0) (R2 x g w1) (cut w1 2048 inb_S4096x1024_S1024x1024_2048_0)

abbrev a3 : FVec Ideal S1024x1024 .bf16 := cut w1 3072 inb_S4096x1024_S1024x1024_3072_0

theorem hid (i : Fin 256) (k : Fin 1024) :
    k0_pay2 (K40 x tg g gf w1 w2) (K41 x tg g gf w1 w2) (R3 x g w1) (a3 w1) (ix2 i k) = Mlp.dh (prow x tg g gf w1 w2 i) (mat w1) k := by
  pointwise [k0_pay2, K40, k0_pay40, k0_pay36]
  simp only [pre0, pre1, pre2, pre3, Mlp.dh, quarters, a3, cut0, cut1, cut2, cut3]

theorem gainStep2 (acc : FVec Ideal S1x1024 .f32) (d : Fin 1024) :
    k0_pay3 (k0_pay9 x) (K40 x tg g gf w1 w2) (K41 x tg g gf w1 w2) (R3 x g w1) (a3 w1) acc (ix2 0 d)
      = (acc (ix2 0 d) : EReal) + ∑ i, Mlp.dh (prow x tg g gf w1 w2 i) (mat w1) d * (row x i d * Norm.rs (row x i)) := by
  pointwise [k0_pay3]
  simp only [hid, pay27x]

theorem dx1 (i : Fin 256) (d : Fin 1024) :
    k0_pay4 (k0_pay8 x) (k0_pay9 x) (k0_pay34 (K26 x g w1 w2) (K27 x g w1 w2) (K28 x tg g gf w1 w2) gf) (K40 x tg g gf w1 w2) (K41 x tg g gf w1 w2)
        (R3 x g w1) (a3 w1) g (ix2 i d)
      = Mlp.dx2 (yrow x g w1 w2 i) (gain gf) (row tg i) d
        + Norm.bwd (fun k => Mlp.dh (prow x tg g gf w1 w2 i) (mat w1) k * gain g k) (row x i) d := by
  pointwise [k0_pay4, k0_pay9, k0_pay8]
  simp only [hid, back]
  rfl

end Cert.FfnIdeal.Rows

end
-- ==== Proof.MlpTiles.lean ====
/- What the feed-forward block's kernel leaves in its output blocks after every tile of tokens. -/
module

public import proofs.«01_k».proof.Proof.Gen.FfnIdeal.Value
public import proofs.«01_k».proof.Proof.MlpRows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfnIdeal.Mlp

open Cert.FfnIdeal Cert.FfnIdeal.Gen Cert.FfnIdeal.Rows

variable (m : (ℓ : Loc nD τ sig) → Buf (Elt Ideal) ℓ)

/-- The first weight, transposed, as the kernel holds it. -/
abbrev W1 (c : Dev nD) : FVec Ideal S4096x1024 .bf16 := V m c main_v3

/-- The second weight. -/
abbrev W2 (c : Dev nD) : FVec Ideal S4096x1024 .bf16 := V m c main_v4

/-- What a buffer written whole by a copy holds. -/
theorem canon_whole {S : Shape} {e : EltTy} (w : S.Idx → Elt Ideal e) (L : List (View.Piece (Elt Ideal) S e)) :
    View.canon (⟨Rect.whole S, w⟩ :: L) = w := by
  funext y
  have e := View.canon_cons_emb (Val := Elt Ideal) (Rect.whole S) w L y
  rwa [show (Rect.whole S).emb y = y from Rect.emb_whole_apply S y] at e

/-- A load from a buffer written whole by a copy. -/
theorem read_copy {sig : RefSig} {κ : Kind} {sp : Space} {S : Shape} {e : EltTy} (v : View sig κ sp S e) (w : S.Idx → Elt Ideal e) (r : Rect S) :
    v.readCov (Val := Elt Ideal) [⟨Rect.whole S, w⟩] r.toLoadRect = View.ld w r := by
  rw [View.readCov_eq_canon', canon_whole]

theorem copied1 (c : Dev nD) : ReadAs.same.apply (View.read (Elt Ideal) (View.whole main_v3) (V m c main_v3)) = W1 m c := rfl

theorem copied2 (c : Dev nD) : ReadAs.same.apply (View.read (Elt Ideal) (View.whole main_v4) (V m c main_v4)) = W2 m c := rfl

/-- After every point the two scratch buffers hold the weights. -/
theorem held (c : Dev nD) : ∀ (n : ℕ) (h : n < cfg0.N),
    (outsAt0 m c n h).2.2.2.2.2.2.2.2.1 = W1 m c ∧ (outsAt0 m c n h).2.2.2.2.2.2.2.2.2 = W2 m c
  | 0, h => by
    constructor
    · rw [outsAt0_A m c ⟨0, h⟩ rfl]; frame_out; exact canon_whole _ _
    · rw [outsAt0_A m c ⟨0, h⟩ rfl]; frame_out; exact canon_whole _ _
  | n + 1, h => by
    have hN := lt_of_lt_of_eq h (show cfg0.N = 8 from N_0)
    have ih := held c n (by omega)
    constructor
    · rw [outsAt0_B m c ⟨n + 1, h⟩ (by show ¬ (n + 1) % 8 = 0; omega)]; frame_out; exact ih.1
    · rw [outsAt0_B m c ⟨n + 1, h⟩ (by show ¬ (n + 1) % 8 = 0; omega)]; frame_out; exact ih.2

theorem at9 (c : Dev nD) (t : Fin cfg0.N) :
    (dats m 0 c).after 9 t = K35 (iblk m c 0 t) (iblk m c 1 t) (iblk m c 2 t) (iblk m c 3 t) (W1 m c) (W2 m c) := by
  rw [after0_9]
  by_cases h0 : t.val % 8 = 0
  · rw [outsAt0_A m c t h0]
    frame_out
    simp only [read_copy]
    rfl
  · rw [outsAt0_B m c t h0]
    frame_out
    simp only [read_unread_whole, (held m c _ _).1, (held m c _ _).2]
    rfl

theorem at6 (c : Dev nD) (t : Fin cfg0.N) :
    (dats m 0 c).after 6 t = k0_pay10 (iblk m c 0 t) (iblk m c 2 t) := by
  rw [after0_6]
  by_cases h0 : t.val % 8 = 0
  · rw [outsAt0_A m c t h0]
    frame_out
  · rw [outsAt0_B m c t h0]
    frame_out

theorem at7 (c : Dev nD) (t : Fin cfg0.N) :
    (dats m 0 c).after 7 t = View.canon [⟨Rect.unit ![0, 3072] ![256, 1024] inb_S256x4096_S256x1024_0_3072, k0_pay24 (r3 (iblk m c 0 t) (iblk m c 2 t) (W1 m c))⟩, ⟨Rect.unit ![0, 2048] ![256, 1024] inb_S256x4096_S256x1024_0_2048, k0_pay20 (k0_pay10 (iblk m c 0 t) (iblk m c 2 t)) (cut (W1 m c) 2048 inb_S4096x1024_S1024x1024_2048_0)⟩, ⟨Rect.unit ![0, 1024] ![256, 1024] inb_S256x4096_S256x1024_0_1024, k0_pay17 (k0_pay10 (iblk m c 0 t) (iblk m c 2 t)) (cut (W1 m c) 1024 inb_S4096x1024_S1024x1024_1024_0)⟩, ⟨Rect.unit ![0, 0] ![256, 1024] inb_S256x4096_S256x1024_0_0, k0_pay13 (iblk m c 0 t) (iblk m c 2 t) (cut (W1 m c) 0 inb_S4096x1024_S1024x1024_0_0)⟩] := by
  rw [after0_7]
  by_cases h0 : t.val % 8 = 0
  · rw [outsAt0_A m c t h0]
    frame_out
    simp only [read_copy]
    rfl
  · rw [outsAt0_B m c t h0]
    frame_out
    simp only [read_unread_whole, (held m c _ _).1, (held m c _ _).2]
    rfl

theorem at8 (c : Dev nD) (t : Fin cfg0.N) :
    (dats m 0 c).after 8 t = View.canon [⟨Rect.unit ![0, 3072] ![256, 1024] inb_S256x4096_S256x1024_0_3072, P3 (iblk m c 0 t) (iblk m c 1 t) (iblk m c 2 t) (iblk m c 3 t) (W1 m c) (W2 m c)⟩, ⟨Rect.unit ![0, 2048] ![256, 1024] inb_S256x4096_S256x1024_0_2048, P2 (iblk m c 0 t) (iblk m c 1 t) (iblk m c 2 t) (iblk m c 3 t) (W1 m c) (W2 m c)⟩, ⟨Rect.unit ![0, 1024] ![256, 1024] inb_S256x4096_S256x1024_0_1024, P1 (iblk m c 0 t) (iblk m c 1 t) (iblk m c 2 t) (iblk m c 3 t) (W1 m c) (W2 m c)⟩, ⟨Rect.unit ![0, 0] ![256, 1024] inb_S256x4096_S256x1024_0_0, P0 (iblk m c 0 t) (iblk m c 1 t) (iblk m c 2 t) (iblk m c 3 t) (W1 m c) (W2 m c)⟩] := by
  rw [after0_8]
  by_cases h0 : t.val % 8 = 0
  · rw [outsAt0_A m c t h0]
    frame_open
    simp (disch := decide) only [↓ View.readCov_skip, ↓ View.readCov_cons_toLoadRect, ↓ View.readCov_fill]
    frame_out
    simp only [read_copy]
    rfl
  · rw [outsAt0_B m c t h0]
    frame_open
    simp (disch := decide) only [↓ View.readCov_skip, ↓ View.readCov_cons_toLoadRect, ↓ View.readCov_fill]
    frame_out
    simp only [read_unread_whole, (held m c _ _).1, (held m c _ _).2]
    rfl

theorem at5 (c : Dev nD) (t : Fin cfg0.N) :
    (dats m 0 c).after 5 t = k0_pay4 (k0_pay8 (iblk m c 0 t)) (k0_pay9 (iblk m c 0 t)) (k0_pay34 (K26 (iblk m c 0 t) (iblk m c 2 t) (W1 m c) (W2 m c)) (K27 (iblk m c 0 t) (iblk m c 2 t) (W1 m c) (W2 m c)) (K28 (iblk m c 0 t) (iblk m c 1 t) (iblk m c 2 t) (iblk m c 3 t) (W1 m c) (W2 m c)) (iblk m c 3 t)) (K40 (iblk m c 0 t) (iblk m c 1 t) (iblk m c 2 t) (iblk m c 3 t) (W1 m c) (W2 m c)) (K41 (iblk m c 0 t) (iblk m c 1 t) (iblk m c 2 t) (iblk m c 3 t) (W1 m c) (W2 m c)) (R3 (iblk m c 0 t) (iblk m c 2 t) (W1 m c)) (a3 (W1 m c)) (iblk m c 2 t) := by
  rw [after0_5]
  by_cases h0 : t.val % 8 = 0
  · rw [outsAt0_A m c t h0]
    frame_open
    simp (disch := decide) only [↓ View.readCov_skip, ↓ View.readCov_cons_toLoadRect, ↓ View.readCov_fill]
    frame_out
    simp only [read_copy]
    rfl
  · rw [outsAt0_B m c t h0]
    frame_open
    simp (disch := decide) only [↓ View.readCov_skip, ↓ View.readCov_cons_toLoadRect, ↓ View.readCov_fill]
    frame_out
    simp only [read_unread_whole, (held m c _ _).1, (held m c _ _).2]
    rfl

theorem at4_first (c : Dev nD) (t : Fin cfg0.N) (h0 : t.val % 8 = 0) :
    (outsAt0 m c t.val t.isLt).1 = k0_pay31 (k0_pay29 (k0_pay5 (F := Ideal))) (k0_pay30 (acc012 (iblk m c 0 t) (iblk m c 2 t) (W1 m c) (W2 m c)) (r3 (iblk m c 0 t) (iblk m c 2 t) (W1 m c)) (b3 (W2 m c)) (iblk m c 3 t) (iblk m c 1 t)) := by
  rw [outsAt0_A m c t h0]
  frame_out
  simp only [read_copy]
  rfl

theorem at4_next (c : Dev nD) (t : Fin cfg0.N) (h0 : ¬t.val % 8 = 0) :
    (outsAt0 m c t.val t.isLt).1 = k0_pay31 (k0_pay29 (outsAt0 m c (t.val - 1) (by omega)).1) (k0_pay30 (acc012 (iblk m c 0 t) (iblk m c 2 t) (W1 m c) (W2 m c)) (r3 (iblk m c 0 t) (iblk m c 2 t) (W1 m c)) (b3 (W2 m c)) (iblk m c 3 t) (iblk m c 1 t)) := by
  rw [outsAt0_B m c t h0]
  frame_out
  simp only [read_unread_whole, (held m c _ _).1, (held m c _ _).2]
  rfl

theorem at11_first (c : Dev nD) (t : Fin cfg0.N) (h0 : t.val % 8 = 0) :
    (outsAt0 m c t.val t.isLt).2.2.2.2.2.2.2.1 = k0_pay33 (K27 (iblk m c 0 t) (iblk m c 2 t) (W1 m c) (W2 m c)) (K28 (iblk m c 0 t) (iblk m c 1 t) (iblk m c 2 t) (iblk m c 3 t) (W1 m c) (W2 m c)) (k0_pay7 (F := Ideal)) := by
  rw [outsAt0_A m c t h0]
  frame_out
  simp only [read_copy]
  rfl

theorem at11_next (c : Dev nD) (t : Fin cfg0.N) (h0 : ¬t.val % 8 = 0) :
    (outsAt0 m c t.val t.isLt).2.2.2.2.2.2.2.1 = k0_pay33 (K27 (iblk m c 0 t) (iblk m c 2 t) (W1 m c) (W2 m c)) (K28 (iblk m c 0 t) (iblk m c 1 t) (iblk m c 2 t) (iblk m c 3 t) (W1 m c) (W2 m c)) (outsAt0 m c (t.val - 1) (by omega)).2.2.2.2.2.2.2.1 := by
  rw [outsAt0_B m c t h0]
  frame_out
  simp only [read_unread_whole, (held m c _ _).1, (held m c _ _).2]
  rfl

theorem at10_first (c : Dev nD) (t : Fin cfg0.N) (h0 : t.val % 8 = 0) :
    (outsAt0 m c t.val t.isLt).2.2.2.2.2.2.1 = k0_pay3 (k0_pay9 (iblk m c 0 t)) (K40 (iblk m c 0 t) (iblk m c 1 t) (iblk m c 2 t) (iblk m c 3 t) (W1 m c) (W2 m c)) (K41 (iblk m c 0 t) (iblk m c 1 t) (iblk m c 2 t) (iblk m c 3 t) (W1 m c) (W2 m c)) (R3 (iblk m c 0 t) (iblk m c 2 t) (W1 m c)) (a3 (W1 m c)) (k0_pay6 (F := Ideal)) := by
  rw [outsAt0_A m c t h0]
  frame_open
  simp (disch := decide) only [↓ View.readCov_skip, ↓ View.readCov_cons_toLoadRect, ↓ View.readCov_fill]
  frame_out
  simp only [read_copy]
  rfl

theorem at10_next (c : Dev nD) (t : Fin cfg0.N) (h0 : ¬t.val % 8 = 0) :
    (outsAt0 m c t.val t.isLt).2.2.2.2.2.2.1 = k0_pay3 (k0_pay9 (iblk m c 0 t)) (K40 (iblk m c 0 t) (iblk m c 1 t) (iblk m c 2 t) (iblk m c 3 t) (W1 m c) (W2 m c)) (K41 (iblk m c 0 t) (iblk m c 1 t) (iblk m c 2 t) (iblk m c 3 t) (W1 m c) (W2 m c)) (R3 (iblk m c 0 t) (iblk m c 2 t) (W1 m c)) (a3 (W1 m c)) (outsAt0 m c (t.val - 1) (by omega)).2.2.2.2.2.2.1 := by
  rw [outsAt0_B m c t h0]
  frame_open
  simp (disch := decide) only [↓ View.readCov_skip, ↓ View.readCov_cons_toLoadRect, ↓ View.readCov_fill]
  frame_out
  simp only [read_unread_whole, (held m c _ _).1, (held m c _ _).2]
  rfl

end Cert.FfnIdeal.Mlp

end
-- ==== Proof.Mlp.lean ====
/- The values of the feed-forward block's kernel: every array it leaves is the row-wise function of the arguments' rows. -/
module

public import proofs.«01_k».proof.Proof.Gen.FfnIdeal.Value
public import proofs.«01_k».proof.Proof.MlpTiles
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfnIdeal.Mlp

open Cert.FfnIdeal Cert.FfnIdeal.Gen Cert.FfnIdeal.Rows

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

/-- Row `r` of the tokens, of the targets. -/
abbrev xs (c : Dev nD) (r : Fin 2048) : Fin 1024 → EReal := fun k => m ((c : Thread nD τ).loc main_arg0) (ix2 r k)
abbrev ts (c : Dev nD) (r : Fin 2048) : Fin 1024 → EReal := fun k => m ((c : Thread nD τ).loc main_arg1) (ix2 r k)

/-- The two gains. -/
abbrev g2 (c : Dev nD) : Fin 1024 → EReal := fun k => m ((c : Thread nD τ).loc main_arg2) (ix1 k)
abbrev gl (c : Dev nD) : Fin 1024 → EReal := fun k => m ((c : Thread nD τ).loc main_arg3) (ix1 k)

/-- The two weights, the first transposed. -/
abbrev u1 (c : Dev nD) : Fin 4096 → Fin 1024 → EReal := fun n k => m ((c : Thread nD τ).loc main_arg4) (ix2 k n)
abbrev u2 (c : Dev nD) : Fin 4096 → Fin 1024 → EReal := fun n k => m ((c : Thread nD τ).loc main_arg5) (ix2 n k)

theorem mat1 (c : Dev nD) : mat (W1 m c) = u1 m c := by
  funext n k
  show V m c main_v3 (ix2 n k) = _
  entry_read
  pointwise

theorem mat2 (c : Dev nD) : mat (W2 m c) = u2 m c := by
  funext n k
  show V m c main_v4 (ix2 n k) = _
  entry_read
  pointwise

theorem gain2 (c : Dev nD) (t : Fin cfg0.N) : gain (iblk m c 2 t) = g2 m c := by
  funext k
  show iblk m c 2 t (ix2 0 k) = _
  unfold iblk
  blk_simp
  entry_read
  pointwise
  blk_point [idx t]

theorem gain3 (c : Dev nD) (t : Fin cfg0.N) : gain (iblk m c 3 t) = gl m c := by
  funext k
  show iblk m c 3 t (ix2 0 k) = _
  unfold iblk
  blk_simp
  entry_read
  pointwise
  blk_point [idx t]

/-- The place of row `i` of tile `t`. -/
abbrev at_ (t : Fin cfg0.N) (i : Fin 256) : Fin 2048 := ⟨t.val * 256 + i.val, by have := lt_of_lt_of_eq t.isLt (show cfg0.N = 8 from N_0); omega⟩

theorem row0 (c : Dev nD) (t : Fin cfg0.N) (i : Fin 256) : row (iblk m c 0 t) i = xs m c (at_ t i) := by
  funext k
  show iblk m c 0 t (ix2 i k) = _
  blk_point [iblk, V, idx t]

theorem row1 (c : Dev nD) (t : Fin cfg0.N) (i : Fin 256) : row (iblk m c 1 t) i = ts m c (at_ t i) := by
  funext k
  show iblk m c 1 t (ix2 i k) = _
  blk_point [iblk, V, idx t]

/-- The rows the kernel's arrays hold, of the arguments' rows. -/
abbrev ys (c : Dev nD) (r : Fin 2048) : Fin 1024 → EReal := Mlp.x2 (xs m c r) (g2 m c) (u1 m c) (u2 m c)
abbrev rl (c : Dev nD) (r : Fin 2048) : Fin 4096 → EReal := Mlp.relu (xs m c r) (g2 m c) (u1 m c)
abbrev ds (c : Dev nD) (r : Fin 2048) : Fin 1024 → EReal := Mlp.dx2 (ys m c r) (gl m c) (ts m c r)
abbrev ps (c : Dev nD) (r : Fin 2048) : Fin 4096 → EReal := Mlp.dpre (ds m c r) (rl m c r) (u2 m c)
abbrev hs (c : Dev nD) (r : Fin 2048) : Fin 1024 → EReal := Mlp.dh (ps m c r) (u1 m c)

/-- The array of the gradient of the rows after the block. -/
def D9 (c : Dev nD) : FVec Ideal S2048x1024 .bf16 := fun j : S2048x1024.Idx => ds m c (j 0) (j 1)

/-- The array of the normalised rows. -/
def D6 (c : Dev nD) : FVec Ideal S2048x1024 .bf16 := fun j : S2048x1024.Idx => Mlp.norm (xs m c (j 0)) (g2 m c) (j 1)

/-- The array of the gradient of the rows before the block. -/
def D5 (c : Dev nD) : FVec Ideal S2048x1024 .f32 := fun j : S2048x1024.Idx => ds m c (j 0) (j 1) + Norm.bwd (fun k => hs m c (j 0) k * g2 m c k) (xs m c (j 0)) (j 1)

/-- The array of the activations. -/
def D7 (c : Dev nD) : FVec Ideal S2048x4096 .bf16 := fun j : S2048x4096.Idx => rl m c (j 0) (j 1) * rl m c (j 0) (j 1)

/-- The array of the gradient before the rectifier. -/
def D8 (c : Dev nD) : FVec Ideal S2048x4096 .bf16 := fun j : S2048x4096.Idx => ps m c (j 0) (j 1)

/-- The array of the loss, tile by tile. -/
def D4 (c : Dev nD) : FVec Ideal S8x128 .f32 := fun j : S8x128.Idx => ∑ t : Fin cfg0.N, Ideal.ofBits FTy.f32 0x3F000000#32 * ∑ i : Fin 256, Mlp.lossRow (ys m c (at_ t i)) (gl m c) (ts m c (at_ t i))

/-- The array of the gradient of the last gain. -/
def D11 (c : Dev nD) : FVec Ideal S1x1024 .f32 := fun j : S1x1024.Idx => ∑ r, Mlp.dy (ys m c r) (gl m c) (ts m c r) (j 1) * (ys m c r (j 1) * Norm.rs (ys m c r))

/-- The array of the gradient of the block's gain. -/
def D10 (c : Dev nD) : FVec Ideal S1x1024 .f32 := fun j : S1x1024.Idx => ∑ r, hs m c r (j 1) * (xs m c r (j 1) * Norm.rs (xs m c r))

theorem yrow_eq (c : Dev nD) (t : Fin cfg0.N) (i : Fin 256) : yrow (iblk m c 0 t) (iblk m c 2 t) (W1 m c) (W2 m c) i = ys m c (at_ t i) := by
  unfold yrow ys
  rw [row0, gain2, mat1, mat2]

theorem prow_eq (c : Dev nD) (t : Fin cfg0.N) (i : Fin 256) :
    prow (iblk m c 0 t) (iblk m c 1 t) (iblk m c 2 t) (iblk m c 3 t) (W1 m c) (W2 m c) i = ps m c (at_ t i) := by
  unfold prow ps ds rl
  rw [yrow_eq, row0, row1, gain2, gain3, mat1, mat2]

theorem relu_eq (c : Dev nD) (t : Fin cfg0.N) (i : Fin 256) : Mlp.relu (row (iblk m c 0 t) i) (gain (iblk m c 2 t)) (mat (W1 m c)) = rl m c (at_ t i) := by
  unfold rl
  rw [row0, gain2, mat1]

theorem emb5 (t : Fin cfg0.N) (i : Fin 256) (d : Fin 1024) : (win0_5.blk t).view.emb (ix2 i d) = ix2 (at_ t i) d := by
  blk_ext [idx t]

theorem emb6 (t : Fin cfg0.N) (i : Fin 256) (d : Fin 1024) : (win0_6.blk t).view.emb (ix2 i d) = ix2 (at_ t i) d := by
  blk_ext [idx t]

theorem emb9 (t : Fin cfg0.N) (i : Fin 256) (d : Fin 1024) : (win0_9.blk t).view.emb (ix2 i d) = ix2 (at_ t i) d := by
  blk_ext [idx t]

theorem emb7 (t : Fin cfg0.N) (i : Fin 256) (d : Fin 4096) : (win0_7.blk t).view.emb (ix2 i d) = ix2 (at_ t i) d := by
  blk_ext [idx t]

theorem emb8 (t : Fin cfg0.N) (i : Fin 256) (d : Fin 4096) : (win0_8.blk t).view.emb (ix2 i d) = ix2 (at_ t i) d := by
  blk_ext [idx t]

theorem final9 (c : Dev nD) : (dats m 0 c).arrAt 9 (cfgs 0).N = D9 m c := by
  refine (dats m 0 c).arrAt_eq_of_covers 9 _ (by decide +kernel) fun t _ y => ?_
  blk_simp
  rw [at9]
  idx_vars y
  refine Eq.trans ?_ (congrArg (D9 m c) (emb9 t y0 y1).symm)
  rw [back', yrow_eq, row1, gain3]
  rfl

theorem final6 (c : Dev nD) : (dats m 0 c).arrAt 6 (cfgs 0).N = D6 m c := by
  refine (dats m 0 c).arrAt_eq_of_covers 6 _ (by decide +kernel) fun t _ y => ?_
  blk_simp
  rw [at6]
  idx_vars y
  refine Eq.trans ?_ (congrArg (D6 m c) (emb6 t y0 y1).symm)
  rw [pay10, row0, gain2]
  rfl

theorem final5 (c : Dev nD) : (dats m 0 c).arrAt 5 (cfgs 0).N = D5 m c := by
  refine (dats m 0 c).arrAt_eq_of_covers 5 _ (by decide +kernel) fun t _ y => ?_
  blk_simp
  rw [at5]
  idx_vars y
  refine Eq.trans ?_ (congrArg (D5 m c) (emb5 t y0 y1).symm)
  rw [dx1, yrow_eq, row0, row1, gain2, gain3, mat1]
  simp only [prow_eq]
  rfl

theorem place7 (o : ℕ) (t : Fin cfg0.N) (y : ((cfg0.win 7).xblock (cfg0.grid.coords t)).Idx) (i : Fin 256) (n : Fin 1024) (D : FVec Ideal S2048x4096 .bf16)
    (h : o + n.val < 4096) (h0 : (y 0 : ℕ) = i) (h1 : (y 1 : ℕ) = o + n) : D ((win0_7.blk t).view.emb y) = D (ix2 (at_ t i) ⟨o + n.val, h⟩) := by
  blk_point [idx t]

theorem place8 (o : ℕ) (t : Fin cfg0.N) (y : ((cfg0.win 8).xblock (cfg0.grid.coords t)).Idx) (i : Fin 256) (n : Fin 1024) (D : FVec Ideal S2048x4096 .bf16)
    (h : o + n.val < 4096) (h0 : (y 0 : ℕ) = i) (h1 : (y 1 : ℕ) = o + n) : D ((win0_8.blk t).view.emb y) = D (ix2 (at_ t i) ⟨o + n.val, h⟩) := by
  blk_point [idx t]

theorem final7 (c : Dev nD) : (dats m 0 c).arrAt 7 (cfgs 0).N = D7 m c := by
  refine (dats m 0 c).arrAt_eq_of_covers 7 _ (by decide +kernel) fun t _ y => ?_
  blk_simp
  rw [at7]
  canon_tiles x h
  case piece0 =>
    idx_vars x
    refine Eq.trans ?_ (place7 3072 t y x0 x1 (D7 m c) (by omega) (by omega) (by omega)).symm
    exact (act3 _ _ _ x0 x1).trans (by rw [relu_eq]; rfl)
  case piece1 =>
    idx_vars x
    refine Eq.trans ?_ (place7 2048 t y x0 x1 (D7 m c) (by omega) (by omega) (by omega)).symm
    exact (act2 _ _ _ x0 x1).trans (by rw [relu_eq]; rfl)
  case piece2 =>
    idx_vars x
    refine Eq.trans ?_ (place7 1024 t y x0 x1 (D7 m c) (by omega) (by omega) (by omega)).symm
    exact (act1 _ _ _ x0 x1).trans (by rw [relu_eq]; rfl)
  case piece3 =>
    idx_vars x
    refine Eq.trans ?_ (place7 0 t y x0 x1 (D7 m c) (by omega) (by omega) (by omega)).symm
    exact (act0 _ _ _ x0 x1).trans (by rw [relu_eq]; simp only [D7, Nat.zero_add]; rfl)

theorem final8 (c : Dev nD) : (dats m 0 c).arrAt 8 (cfgs 0).N = D8 m c := by
  refine (dats m 0 c).arrAt_eq_of_covers 8 _ (by decide +kernel) fun t _ y => ?_
  blk_simp
  rw [at8]
  canon_tiles x h
  case piece0 =>
    idx_vars x
    refine Eq.trans ?_ (place8 3072 t y x0 x1 (D8 m c) (by omega) (by omega) (by omega)).symm
    rw [pre3, prow_eq]
    rfl
  case piece1 =>
    idx_vars x
    refine Eq.trans ?_ (place8 2048 t y x0 x1 (D8 m c) (by omega) (by omega) (by omega)).symm
    rw [pre2, prow_eq]
    rfl
  case piece2 =>
    idx_vars x
    refine Eq.trans ?_ (place8 1024 t y x0 x1 (D8 m c) (by omega) (by omega) (by omega)).symm
    rw [pre1, prow_eq]
    rfl
  case piece3 =>
    idx_vars x
    refine Eq.trans ?_ (place8 0 t y x0 x1 (D8 m c) (by omega) (by omega) (by omega)).symm
    rw [pre0, prow_eq]
    simp only [Nat.zero_add]
    rfl

theorem part11 (c : Dev nD) (t : Fin cfg0.N) (acc : FVec Ideal S1x1024 .f32) (j : S1x1024.Idx) :
    k0_pay33 (K27 (iblk m c 0 t) (iblk m c 2 t) (W1 m c) (W2 m c)) (K28 (iblk m c 0 t) (iblk m c 1 t) (iblk m c 2 t) (iblk m c 3 t) (W1 m c) (W2 m c)) acc j
      = (acc j : EReal) + ∑ i, Mlp.dy (ys m c (at_ t i)) (gl m c) (ts m c (at_ t i)) (j 1) * (ys m c (at_ t i) (j 1) * Norm.rs (ys m c (at_ t i))) := by
  idx_vars j
  obtain rfl : j0 = 0 := Subsingleton.elim _ _
  rw [gainStep, gain3]
  simp only [yrow_eq, row1]

theorem part10 (c : Dev nD) (t : Fin cfg0.N) (acc : FVec Ideal S1x1024 .f32) (j : S1x1024.Idx) :
    k0_pay3 (k0_pay9 (iblk m c 0 t)) (K40 (iblk m c 0 t) (iblk m c 1 t) (iblk m c 2 t) (iblk m c 3 t) (W1 m c) (W2 m c))
        (K41 (iblk m c 0 t) (iblk m c 1 t) (iblk m c 2 t) (iblk m c 3 t) (W1 m c) (W2 m c)) (R3 (iblk m c 0 t) (iblk m c 2 t) (W1 m c)) (a3 (W1 m c)) acc j
      = (acc j : EReal) + ∑ i, hs m c (at_ t i) (j 1) * (xs m c (at_ t i) (j 1) * Norm.rs (xs m c (at_ t i))) := by
  idx_vars j
  obtain rfl : j0 = 0 := Subsingleton.elim _ _
  rw [gainStep2, mat1]
  refine congrArg₂ _ rfl (Finset.sum_congr rfl fun i _ => ?_)
  rw [prow_eq, row0]

theorem part4 (c : Dev nD) (t : Fin cfg0.N) (acc : FVec Ideal S8x128 .f32) (j : S8x128.Idx) :
    k0_pay31 (k0_pay29 acc) (k0_pay30 (acc012 (iblk m c 0 t) (iblk m c 2 t) (W1 m c) (W2 m c)) (r3 (iblk m c 0 t) (iblk m c 2 t) (W1 m c)) (b3 (W2 m c)) (iblk m c 3 t) (iblk m c 1 t)) j
      = (acc j : EReal) + Ideal.ofBits FTy.f32 0x3F000000#32 * ∑ i, Mlp.lossRow (ys m c (at_ t i)) (gl m c) (ts m c (at_ t i)) := by
  pointwise [k0_pay31, k0_pay29]
  rw [tileLoss, gain3]
  simp only [yrow_eq, row1]

theorem zero5 (j : S8x128.Idx) : k0_pay5 (F := Ideal) j = (0 : EReal) := by pointwise [k0_pay5]
theorem zero6 (j : S1x1024.Idx) : k0_pay6 (F := Ideal) j = (0 : EReal) := by pointwise [k0_pay6]
theorem zero7 (j : S1x1024.Idx) : k0_pay7 (F := Ideal) j = (0 : EReal) := by pointwise [k0_pay7]

theorem final4 (c : Dev nD) : (dats m 0 c).arrAt 4 (cfgs 0).N = D4 m c := by
  refine (dats m 0 c).arrAt_eq_of_after_last 4 t0_7 (by decide +kernel) _ fun j => ?_
  blk_simp
  rw [after0_4, Pipeline.eq_sum_fin_of_reset_step_apply_last (fun n h => (outsAt0 m c n h).1) 8 (fun _ => 0)
    (fun t j => Ideal.ofBits FTy.f32 0x3F000000#32 * ∑ i : Fin 256, Mlp.lossRow (ys m c (at_ t i)) (gl m c) (ts m c (at_ t i)))
    (fun t h j => by rw [at4_first m c t h]; rw [part4, zero5])
    (fun t h j => by rw [at4_next m c t h]; rw [part4])
    (le_of_eq N_0) t0_7 rfl j, zero_add]
  rfl

theorem final11 (c : Dev nD) : (dats m 0 c).arrAt 11 (cfgs 0).N = D11 m c := by
  refine (dats m 0 c).arrAt_eq_of_after_last 11 t0_7 (by decide +kernel) _ fun j => ?_
  blk_simp
  rw [after0_11, Pipeline.eq_sum_fin_of_reset_step_apply_last (fun n h => (outsAt0 m c n h).2.2.2.2.2.2.2.1) 8 (fun _ => 0)
    (fun t j => ∑ i : Fin 256, Mlp.dy (ys m c (at_ t i)) (gl m c) (ts m c (at_ t i)) (j 1) * (ys m c (at_ t i) (j 1) * Norm.rs (ys m c (at_ t i))))
    (fun t h j => by rw [at11_first m c t h]; rw [part11, zero7])
    (fun t h j => by rw [at11_next m c t h]; rw [part11])
    (le_of_eq N_0) t0_7 rfl j, zero_add]
  exact (Fin.sum_univ_tiles (M := EReal) cfg0.N 256 (by rw [show cfg0.N = 8 from N_0]) (fun r : Fin 2048 => Mlp.dy (ys m c r) (gl m c) (ts m c r) (j 1) * (ys m c r (j 1) * Norm.rs (ys m c r)))).symm

theorem final10 (c : Dev nD) : (dats m 0 c).arrAt 10 (cfgs 0).N = D10 m c := by
  refine (dats m 0 c).arrAt_eq_of_after_last 10 t0_7 (by decide +kernel) _ fun j => ?_
  blk_simp
  rw [after0_10, Pipeline.eq_sum_fin_of_reset_step_apply_last (fun n h => (outsAt0 m c n h).2.2.2.2.2.2.1) 8 (fun _ => 0)
    (fun t j => ∑ i : Fin 256, hs m c (at_ t i) (j 1) * (xs m c (at_ t i) (j 1) * Norm.rs (xs m c (at_ t i))))
    (fun t h j => by rw [at10_first m c t h]; rw [part10, zero6])
    (fun t h j => by rw [at10_next m c t h]; rw [part10])
    (le_of_eq N_0) t0_7 rfl j, zero_add]
  exact (Fin.sum_univ_tiles (M := EReal) cfg0.N 256 (by rw [show cfg0.N = 8 from N_0]) (fun r : Fin 2048 => hs m c r (j 1) * (xs m c r (j 1) * Norm.rs (xs m c r)))).symm

end Cert.FfnIdeal.Mlp

end
-- ==== Proof.MlpRef.lean ====
/- The reference of the feed-forward block, row by row, and its agreement with the kernel's arrays. -/
module

public import proofs.«01_k».proof.Proof.Gen.FfnReferenceIdeal.Run
public import proofs.«01_k».proof.Proof.MlpSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.FfnReferenceIdeal.Rows

open Cert.FfnReferenceIdeal Cert.FfnReferenceIdeal.Gen Cert.FfnReferenceIdeal.Value

variable (V0 : Valuation τ sig (Elt Ideal))

/-- The arguments. -/
abbrev A0 : FVec Ideal S2048x1024 .f32 := V0 (Proc.devRef .tc main_arg0)
abbrev A1 : FVec Ideal S2048x1024 .f32 := V0 (Proc.devRef .tc main_arg1)
abbrev A2 : FVec Ideal S1024 .f32 := V0 (Proc.devRef .tc main_arg2)
abbrev A3 : FVec Ideal S1024 .f32 := V0 (Proc.devRef .tc main_arg3)
abbrev A4 : FVec Ideal S1024x4096 .f32 := V0 (Proc.devRef .tc main_arg4)
abbrev A5 : FVec Ideal S4096x1024 .f32 := V0 (Proc.devRef .tc main_arg5)

/-- Their rows. -/
abbrev xs (r : Fin 2048) : Fin 1024 → EReal := fun k => A0 V0 (ix2 r k)
abbrev ts (r : Fin 2048) : Fin 1024 → EReal := fun k => A1 V0 (ix2 r k)
abbrev g2 : Fin 1024 → EReal := fun k => A2 V0 (ix1 k)
abbrev gl : Fin 1024 → EReal := fun k => A3 V0 (ix1 k)
abbrev u1 : Fin 4096 → Fin 1024 → EReal := fun n k => A4 V0 (ix2 k n)
abbrev u2 : Fin 4096 → Fin 1024 → EReal := fun n k => A5 V0 (ix2 n k)

abbrev ys (r : Fin 2048) : Fin 1024 → EReal := Mlp.x2 (xs V0 r) (g2 V0) (u1 V0) (u2 V0)
abbrev rl (r : Fin 2048) : Fin 4096 → EReal := Mlp.relu (xs V0 r) (g2 V0) (u1 V0)
abbrev ds (r : Fin 2048) : Fin 1024 → EReal := Mlp.dx2 (ys V0 r) (gl V0) (ts V0 r)
abbrev ps (r : Fin 2048) : Fin 4096 → EReal := Mlp.dpre (ds V0 r) (rl V0 r) (u2 V0)
abbrev hs (r : Fin 2048) : Fin 1024 → EReal := Mlp.dh (ps V0 r) (u1 V0)

/-- The scale of the error: the reference's quotient and double against the kernel's reciprocal. -/
theorem scale (e : EReal) : Ideal.div (Ideal.ofBits FTy.f32 0x3F000000#32) (Ideal.ofBits FTy.f32 0x44800000#32) * (Ideal.ofBits FTy.f32 0x40000000#32 * e)
    = e * Ideal.ofBits FTy.f32 0x3A800000#32 := by
  rw [Norm.div1024, Norm.bits_half, Norm.bits_two, Norm.bits_recip, ← mul_assoc, ← EReal.coe_mul, ← EReal.coe_mul, mul_comm]
  norm_num

/-- The rectifier's gradient: where the rectified value is zero, so is the product with it. -/
theorem gate (a b : EReal) : (if 0 < a then b * (Ideal.ofBits FTy.f32 0x40000000#32 * max a 0) else 0)
    = b * (Ideal.ofBits FTy.f32 0x40000000#32 * max a 0) := by
  split_ifs with h
  · rfl
  · rw [max_eq_right (not_lt.mp h), mul_zero, mul_zero]

theorem at6 (r : Fin 2048) (z : Fin 1) : (res_main_v6 V0 : FVec Ideal S2048x1 .f32) (ix2 r z) = Norm.ms (xs V0 r) := by
  pointwise [res_main_v6]
  rfl

theorem at7 (r : Fin 2048) (z : Fin 1) : (res_main_v7 V0 : FVec Ideal S2048x1 .f32) (ix2 r z) = Norm.rs (xs V0 r) := by
  pointwise [res_main_v7]
  rw [at6]
  rfl

theorem at12 (r : Fin 2048) (d : Fin 1024) : (res_main_v12 V0 : FVec Ideal S2048x1024 .f32) (ix2 r d) = xs V0 r d * Norm.rs (xs V0 r) := by
  pointwise [res_main_v12]
  rw [at7]

theorem at13 (d : Fin 1024) : (res_main_v13 V0 : FVec Ideal S1x1024 .f32) (ix2 0 d) = g2 V0 d := by
  pointwise [res_main_v13]

theorem at15 (r : Fin 2048) (d : Fin 1024) : (res_main_v15 V0 : FVec Ideal S2048x1024 .f32) (ix2 r d) = Mlp.norm (xs V0 r) (g2 V0) d := by
  pointwise [res_main_v15]
  rw [at12, at13]
  rfl

theorem at16 (r : Fin 2048) (n : Fin 4096) : (res_main_v16 V0 : FVec Ideal S2048x4096 .f32) (ix2 r n) = ∑ k, Mlp.norm (xs V0 r) (g2 V0) k * u1 V0 n k := by
  pointwise [res_main_v16]
  simp only [at15]

theorem at17 (r : Fin 2048) (n : Fin 4096) : (res_main_v17 V0 : FVec Ideal S2048x4096 .f32) (ix2 r n) = rl V0 r n := by
  pointwise [res_main_v17]
  rw [at16]
  rfl

theorem at21 (r : Fin 2048) (n : Fin 4096) : (res_main_v21 V0 : FVec Ideal S2048x4096 .f32) (ix2 r n) = rl V0 r n * rl V0 r n := by
  pointwise [res_main_v21]
  rw [at17]

theorem at25 (r : Fin 2048) (d : Fin 1024) : (res_main_v25 V0 : FVec Ideal S2048x1024 .f32) (ix2 r d) = ys V0 r d := by
  pointwise [res_main_v25]
  simp only [at21]
  rfl

theorem at32 (r : Fin 2048) (z : Fin 1) : (res_main_v32 V0 : FVec Ideal S2048x1 .f32) (ix2 r z) = Norm.ms (ys V0 r) := by
  pointwise [res_main_v32]
  simp only [at25]
  rfl

theorem at33 (r : Fin 2048) (z : Fin 1) : (res_main_v33 V0 : FVec Ideal S2048x1 .f32) (ix2 r z) = Norm.rs (ys V0 r) := by
  pointwise [res_main_v33]
  rw [at32]
  rfl

theorem at38 (r : Fin 2048) (d : Fin 1024) : (res_main_v38 V0 : FVec Ideal S2048x1024 .f32) (ix2 r d) = ys V0 r d * Norm.rs (ys V0 r) := by
  pointwise [res_main_v38]
  rw [at25, at33]

theorem at39 (d : Fin 1024) : (res_main_v39 V0 : FVec Ideal S1x1024 .f32) (ix2 0 d) = gl V0 d := by
  pointwise [res_main_v39]

theorem at42 (r : Fin 2048) (d : Fin 1024) : (res_main_v42 V0 : FVec Ideal S2048x1024 .f32) (ix2 r d) = Mlp.err (ys V0 r) (gl V0) (ts V0 r) d := by
  pointwise [res_main_v42]
  rw [at38, at39]
  rfl

theorem at56 (r : Fin 2048) (d : Fin 1024) : (res_main_v56 V0 : FVec Ideal S2048x1024 .f32) (ix2 r d) = Mlp.dy (ys V0 r) (gl V0) (ts V0 r) d := by
  pointwise [res_main_v56]
  rw [at42]
  exact scale _

theorem at61 (r : Fin 2048) (d : Fin 1024) : (res_main_v61 V0 : FVec Ideal S2048x1024 .f32) (ix2 r d) = Mlp.dy (ys V0 r) (gl V0) (ts V0 r) d * gl V0 d := by
  pointwise [res_main_v61]
  rw [at56, at39]

theorem at72 (r : Fin 2048) (d : Fin 1024) : (res_main_v72 V0 : FVec Ideal S2048x1024 .f32) (ix2 r d) = Norm.rev (fun k => Mlp.dy (ys V0 r) (gl V0) (ts V0 r) k * gl V0 k) (ys V0 r) := by
  pointwise [res_main_v72]
  simp only [at25, at61, at32, at33, Finset.univ_unique, Finset.sum_singleton]
  rfl

theorem at76 (r : Fin 2048) (d : Fin 1024) : (res_main_v76 V0 : FVec Ideal S2048x1024 .f32) (ix2 r d) = ds V0 r d := by
  pointwise [res_main_v76]
  rw [at25, at61, at33, at72]
  exact (Norm.bwd_eq (fun k => Mlp.dy (ys V0 r) (gl V0) (ts V0 r) k * gl V0 k) (ys V0 r) d).symm

theorem at80 (r : Fin 2048) (n : Fin 4096) : (res_main_v80 V0 : FVec Ideal S2048x4096 .f32) (ix2 r n) = ps V0 r n := by
  pointwise [res_main_v80]
  simp only [at16, at76, at17]
  exact gate _ _

theorem at81 (r : Fin 2048) (d : Fin 1024) : (res_main_v81 V0 : FVec Ideal S2048x1024 .f32) (ix2 r d) = hs V0 r d := by
  pointwise [res_main_v81]
  simp only [at80]
  rfl

theorem at86 (r : Fin 2048) (d : Fin 1024) : (res_main_v86 V0 : FVec Ideal S2048x1024 .f32) (ix2 r d) = hs V0 r d * g2 V0 d := by
  pointwise [res_main_v86]
  rw [at81, at13]

theorem at97 (r : Fin 2048) (d : Fin 1024) : (res_main_v97 V0 : FVec Ideal S2048x1024 .f32) (ix2 r d) = Norm.rev (fun k => hs V0 r k * g2 V0 k) (xs V0 r) := by
  pointwise [res_main_v97]
  simp only [at86, at6, at7, Finset.univ_unique, Finset.sum_singleton]
  rfl

end Cert.FfnReferenceIdeal.Rows

end
-- ==== Proof.MlpPair.lean ====
/- The feed-forward block's kernel and its reference: the same arrays. -/
module

public import proofs.«01_k».proof.Proof.Mlp
public import proofs.«01_k».proof.Proof.MlpRef

@[expose] public section

set_option maxRecDepth 16384

noncomputable section

open Idealize.ShloMosaic Idealize.ShloMosaic.TcCoe Idealize.SL.Sem
open scoped BigOperators

namespace Cert.FfnIdeal.Pair

open Cert.FfnIdeal Cert.FfnIdeal.Gen

abbrev RVal := Valuation Cert.FfnReferenceIdeal.τ Cert.FfnReferenceIdeal.sig (Elt Ideal)

variable (m : (ℓ : Loc nD τ sig) → Buf (Elt Ideal) ℓ) (c : Dev nD) (V0 : RVal)

/-- The two programs were given the same arguments. -/
structure Same : Prop where
  h0 : Cert.FfnReferenceIdeal.Rows.A0 V0 = m ((c : Thread nD τ).loc main_arg0)
  h1 : Cert.FfnReferenceIdeal.Rows.A1 V0 = m ((c : Thread nD τ).loc main_arg1)
  h2 : Cert.FfnReferenceIdeal.Rows.A2 V0 = m ((c : Thread nD τ).loc main_arg2)
  h3 : Cert.FfnReferenceIdeal.Rows.A3 V0 = m ((c : Thread nD τ).loc main_arg3)
  h4 : Cert.FfnReferenceIdeal.Rows.A4 V0 = m ((c : Thread nD τ).loc main_arg4)
  h5 : Cert.FfnReferenceIdeal.Rows.A5 V0 = m ((c : Thread nD τ).loc main_arg5)

variable {m c V0} (S : Same m c V0)
include S

theorem xs_eq (r : Fin 2048) : Cert.FfnReferenceIdeal.Rows.xs V0 r = Mlp.xs m c r := by funext k; exact congrFun S.h0 (ix2 r k)
theorem ts_eq (r : Fin 2048) : Cert.FfnReferenceIdeal.Rows.ts V0 r = Mlp.ts m c r := by funext k; exact congrFun S.h1 (ix2 r k)
theorem g2_eq : Cert.FfnReferenceIdeal.Rows.g2 V0 = Mlp.g2 m c := by funext k; exact congrFun S.h2 (ix1 k)
theorem gl_eq : Cert.FfnReferenceIdeal.Rows.gl V0 = Mlp.gl m c := by funext k; exact congrFun S.h3 (ix1 k)
theorem u1_eq : Cert.FfnReferenceIdeal.Rows.u1 V0 = Mlp.u1 m c := by funext n k; exact congrFun S.h4 (ix2 k n)
theorem u2_eq : Cert.FfnReferenceIdeal.Rows.u2 V0 = Mlp.u2 m c := by funext n k; exact congrFun S.h5 (ix2 n k)

theorem ys_eq (r : Fin 2048) : Cert.FfnReferenceIdeal.Rows.ys V0 r = Mlp.ys m c r := by
  unfold Cert.FfnReferenceIdeal.Rows.ys; rw [xs_eq S, g2_eq S, u1_eq S, u2_eq S]
theorem rl_eq (r : Fin 2048) : Cert.FfnReferenceIdeal.Rows.rl V0 r = Mlp.rl m c r := by
  unfold Cert.FfnReferenceIdeal.Rows.rl; rw [xs_eq S, g2_eq S, u1_eq S]
theorem ds_eq (r : Fin 2048) : Cert.FfnReferenceIdeal.Rows.ds V0 r = Mlp.ds m c r := by
  unfold Cert.FfnReferenceIdeal.Rows.ds; rw [ys_eq S, ts_eq S, gl_eq S]
theorem ps_eq (r : Fin 2048) : Cert.FfnReferenceIdeal.Rows.ps V0 r = Mlp.ps m c r := by
  unfold Cert.FfnReferenceIdeal.Rows.ps; rw [ds_eq S, rl_eq S, u2_eq S]
theorem hs_eq (r : Fin 2048) : Cert.FfnReferenceIdeal.Rows.hs V0 r = Mlp.hs m c r := by
  unfold Cert.FfnReferenceIdeal.Rows.hs; rw [ps_eq S, u1_eq S]

section Reference
open Cert.FfnReferenceIdeal Cert.FfnReferenceIdeal.Gen Cert.FfnReferenceIdeal.Value Cert.FfnReferenceIdeal.Rows

theorem eq9 : (truncf .bf16 (res_main_v76 V0) Cert.FfnReferenceIdeal.Gen.bitsLt_bf16_f32 : FVec Ideal S2048x1024 .bf16) = Mlp.D9 m c := by
  funext j
  idx_vars j
  pointwise
  rw [at76, ds_eq S]
  rfl

theorem eq6 : (truncf .bf16 (res_main_v15 V0) Cert.FfnReferenceIdeal.Gen.bitsLt_bf16_f32 : FVec Ideal S2048x1024 .bf16) = Mlp.D6 m c := by
  funext j
  idx_vars j
  pointwise
  rw [at15, xs_eq S, g2_eq S]
  rfl

theorem eq7 : (truncf .bf16 (res_main_v21 V0) Cert.FfnReferenceIdeal.Gen.bitsLt_bf16_f32 : FVec Ideal S2048x4096 .bf16) = Mlp.D7 m c := by
  funext j
  idx_vars j
  pointwise
  rw [at21, rl_eq S]
  rfl

theorem eq8 : (truncf .bf16 (res_main_v80 V0) Cert.FfnReferenceIdeal.Gen.bitsLt_bf16_f32 : FVec Ideal S2048x4096 .bf16) = Mlp.D8 m c := by
  funext j
  idx_vars j
  pointwise
  rw [at80, ps_eq S]
  rfl

theorem eq5 : (addf (res_main_v76 V0) (addf (addf (mulf (res_main_v86 V0) (broadcastInDim S2048x1024 ![0, 1] bcast_S2048x1_S2048x1024_0_1 (res_main_v7 V0))) (mulf (V0 (Proc.devRef .tc Cert.FfnReferenceIdeal.main_arg0)) (res_main_v97 V0))) (mulf (res_main_v97 V0) (V0 (Proc.devRef .tc Cert.FfnReferenceIdeal.main_arg0)))) : FVec Ideal S2048x1024 .f32)
    = Mlp.D5 m c := by
  funext j
  idx_vars j
  pointwise
  rw [at76, at86, at7, at97]
  have e := Norm.bwd_eq (fun k => hs V0 j0 k * g2 V0 k) (xs V0 j0) j1
  refine (congrArg (ds V0 j0 j1 + ·) e.symm).trans ?_
  rw [ds_eq S, hs_eq S, xs_eq S, g2_eq S]
  rfl

theorem eq10 : (broadcastInDim S1x1024 ![1] Cert.FfnReferenceIdeal.Gen.bcast_S1024_S1x1024_1 (Host.reduceAdd (shapeCast _ (Host.reduceAdd (mulf (res_main_v12 V0) (res_main_v81 V0)) (constant S_ .f32 0x00000000#32) reducesTo_S2048x1024_S1024_d0 h_S_) Cert.FfnReferenceIdeal.Gen.shapeCasts_S1024_S1x1024) (constant S_ .f32 0x00000000#32) reducesTo_S1x1024_S1024_d0 h_S_) : FVec Ideal S1x1024 .f32)
    = Mlp.D10 m c := by
  funext j
  idx_vars j
  pointwise
  simp only [at12, at81, Finset.univ_unique, Finset.sum_singleton, xs_eq S, hs_eq S]
  refine Finset.sum_congr rfl fun r _ => ?_
  refine (mul_comm (G := EReal) _ _).trans ?_
  rw [xs_eq S]
  rfl

theorem eq11 : (broadcastInDim S1x1024 ![1] Cert.FfnReferenceIdeal.Gen.bcast_S1024_S1x1024_1 (Host.reduceAdd (shapeCast _ (Host.reduceAdd (mulf (res_main_v38 V0) (res_main_v56 V0)) (constant S_ .f32 0x00000000#32) reducesTo_S2048x1024_S1024_d0 h_S_) Cert.FfnReferenceIdeal.Gen.shapeCasts_S1024_S1x1024) (constant S_ .f32 0x00000000#32) reducesTo_S1x1024_S1024_d0 h_S_) : FVec Ideal S1x1024 .f32)
    = Mlp.D11 m c := by
  funext j
  idx_vars j
  pointwise
  simp only [at38, at56, Finset.univ_unique, Finset.sum_singleton, ys_eq S, ts_eq S, gl_eq S]
  refine Finset.sum_congr rfl fun r _ => ?_
  exact mul_comm (G := EReal) _ _

theorem eq4 : (broadcastInDim S8x128 ![] bcast_S_S8x128 (mulf (constant S_ .f32 0x3F000000#32) (Host.reduceAdd (Host.divf (Host.reduceAdd (mulf (res_main_v42 V0) (res_main_v42 V0)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_)) : FVec Ideal S8x128 .f32)
    = Mlp.D4 m c := by
  funext j
  idx_vars j
  pointwise
  simp only [at42, ys_eq S, ts_eq S, gl_eq S]
  unfold Mlp.D4
  rw [Norm.bits_half]
  rw [← Norm.mul_sum (1 / 2) (by norm_num)]
  refine congrArg _ ?_
  exact Fin.sum_univ_tiles (M := EReal) cfg0.N 256 (by rw [show cfg0.N = 8 from N_0]) (fun r : Fin 2048 => Cert.Mlp.lossRow (Mlp.ys m c r) (Mlp.gl m c) (Mlp.ts m c r))

end Reference

end Cert.FfnIdeal.Pair

end
-- ==== Proof.GradFf1.lean ====
/- The value of the gradient of the first feed-forward weight (transposed): the kernel's array is the reference's term. -/
module

public import proofs.«01_k».proof.Proof.Gen.GradFf1Ideal.Value
public import proofs.«01_k».proof.Proof.Gen.GradFf1ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GradFf1Ideal.Product

open Cert.GradFf1Ideal Cert.GradFf1Ideal.Gen

variable (m : (ℓ : Loc nD τ sig) → Buf (Elt Ideal) ℓ)

section Reference
open Cert.GradFf1ReferenceIdeal Cert.GradFf1ReferenceIdeal.Gen

/-- The reference's gradient, a function of the two factors. -/
abbrev ref (a : FVec Ideal S2048x4096 .bf16) (b : FVec Ideal S2048x1024 .bf16) : FVec Ideal S4096x1024 .bf16 :=
  truncf .bf16 (transpose S4096x1024 [1, 0] (transpose S1024x4096 [1, 0] (Host.dotGeneral dot_S2048x4096_S2048x1024_S4096x1024_0_0_1_1_n_n none (extf .f32 a Cert.GradFf1ReferenceIdeal.Gen.bitsLt_bf16_f32) (extf .f32 b Cert.GradFf1ReferenceIdeal.Gen.bitsLt_bf16_f32)) transposes_S4096x1024_S1024x4096_1_0) transposes_S1024x4096_S4096x1024_1_0) Cert.GradFf1ReferenceIdeal.Gen.bitsLt_bf16_f32

end Reference

theorem idx : ∀ t : Fin cfg0.N, win0_0.index t = ![0, t.val] ∧ win0_1.index t = ![0, 0] ∧ win0_2.index t = ![t.val, 0] :=
  (by decide +kernel : ∀ t : Fin grid0.N, _)

theorem final2 (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, ref]
  refine Fin.sum_fin_congr fun x => ?_
  blk_point [iblk, V, idx t]

end Cert.GradFf1Ideal.Product

end
-- ==== Proof.GradFf2.lean ====
/- The value of the gradient of the second feed-forward weight: the kernel's array is the reference's term. -/
module

public import proofs.«01_k».proof.Proof.Gen.GradFf2Ideal.Value
public import proofs.«01_k».proof.Proof.Gen.GradFf2ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GradFf2Ideal.Product

open Cert.GradFf2Ideal Cert.GradFf2Ideal.Gen

variable (m : (ℓ : Loc nD τ sig) → Buf (Elt Ideal) ℓ)

section Reference
open Cert.GradFf2ReferenceIdeal Cert.GradFf2ReferenceIdeal.Gen

/-- The reference's gradient, a function of the two factors. -/
abbrev ref (a : FVec Ideal S2048x4096 .bf16) (b : FVec Ideal S2048x1024 .bf16) : FVec Ideal S4096x1024 .bf16 :=
  truncf .bf16 (transpose S4096x1024 [1, 0] (Host.dotGeneral dot_S2048x1024_S2048x4096_S1024x4096_0_0_1_1_n_n none (extf .f32 b Cert.GradFf2ReferenceIdeal.Gen.bitsLt_bf16_f32) (extf .f32 a Cert.GradFf2ReferenceIdeal.Gen.bitsLt_bf16_f32)) transposes_S1024x4096_S4096x1024_1_0) Cert.GradFf2ReferenceIdeal.Gen.bitsLt_bf16_f32

end Reference

theorem idx : ∀ t : Fin cfg0.N, win0_0.index t = ![0, t.val] ∧ win0_1.index t = ![0, 0] ∧ win0_2.index t = ![t.val, 0] :=
  (by decide +kernel : ∀ t : Fin grid0.N, _)

theorem final2 (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, ref]
  refine Fin.sum_fin_congr fun x => ?_
  rw [mul_comm]
  blk_point [iblk, V, idx t]

end Cert.GradFf2Ideal.Product

end
-- ==== Proof.GradAttO.lean ====
/- The value of the gradient of the attention branch's output weight (transposed): the kernel's array is the reference's term. -/
module

public import proofs.«01_k».proof.Proof.Gen.GradAttOIdeal.Value
public import proofs.«01_k».proof.Proof.Gen.GradAttOReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GradAttOIdeal.Product

open Cert.GradAttOIdeal Cert.GradAttOIdeal.Gen

variable (m : (ℓ : Loc nD τ sig) → Buf (Elt Ideal) ℓ)

section Reference
open Cert.GradAttOReferenceIdeal Cert.GradAttOReferenceIdeal.Gen

/-- The reference's gradient, a function of the two factors. -/
abbrev ref (a : FVec Ideal S2048x1024 .bf16) (b : FVec Ideal S2048x512 .bf16) : FVec Ideal S1024x512 .bf16 :=
  truncf .bf16 (transpose S1024x512 [1, 0] (transpose S512x1024 [1, 0] (Host.dotGeneral dot_S2048x1024_S2048x512_S1024x512_0_0_1_1_n_n none (extf .f32 a Cert.GradAttOReferenceIdeal.Gen.bitsLt_bf16_f32) (extf .f32 b Cert.GradAttOReferenceIdeal.Gen.bitsLt_bf16_f32)) transposes_S1024x512_S512x1024_1_0) transposes_S512x1024_S1024x512_1_0) Cert.GradAttOReferenceIdeal.Gen.bitsLt_bf16_f32

end Reference

theorem idx : ∀ t : Fin cfg0.N, win0_0.index t = ![0, t.val] ∧ win0_1.index t = ![0, 0] ∧ win0_2.index t = ![t.val, 0] :=
  (by decide +kernel : ∀ t : Fin grid0.N, _)

theorem final2 (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, ref]
  refine Fin.sum_fin_congr fun x => ?_
  blk_point [iblk, V, idx t]

end Cert.GradAttOIdeal.Product

end
-- ==== Proof.GradRecO.lean ====
/- The value of the gradient of the recurrent branch's output weight: the kernel's array is the reference's term. -/
module

public import proofs.«01_k».proof.Proof.Gen.GradRecOIdeal.Value
public import proofs.«01_k».proof.Proof.Gen.GradRecOReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GradRecOIdeal.Product

open Cert.GradRecOIdeal Cert.GradRecOIdeal.Gen

variable (m : (ℓ : Loc nD τ sig) → Buf (Elt Ideal) ℓ)

section Reference
open Cert.GradRecOReferenceIdeal Cert.GradRecOReferenceIdeal.Gen

/-- The reference's gradient, a function of the two factors. -/
abbrev ref (a : FVec Ideal S2048x1024 .bf16) (b : FVec Ideal S2048x1024 .bf16) : FVec Ideal S1024x1024 .bf16 :=
  truncf .bf16 (transpose S1024x1024 [1, 0] (Host.dotGeneral dot_S2048x1024_S2048x1024_S1024x1024_0_0_1_1_n_n none (extf .f32 b Cert.GradRecOReferenceIdeal.Gen.bitsLt_bf16_f32) (extf .f32 a Cert.GradRecOReferenceIdeal.Gen.bitsLt_bf16_f32)) transposes_S1024x1024_S1024x1024_1_0) Cert.GradRecOReferenceIdeal.Gen.bitsLt_bf16_f32

end Reference

theorem idx : ∀ t : Fin cfg0.N, win0_0.index t = ![0, t.val] ∧ win0_1.index t = ![0, 0] ∧ win0_2.index t = ![t.val, 0] :=
  (by decide +kernel : ∀ t : Fin grid0.N, _)

theorem final2 (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, ref]
  refine Fin.sum_fin_congr fun x => ?_
  rw [mul_comm]
  blk_point [iblk, V, idx t]

end Cert.GradRecOIdeal.Product

end
-- ==== Proof.GradOut.lean ====
/- The value of the gradient of the merge's output weight: the kernel's array is the reference's term. -/
module

public import proofs.«01_k».proof.Proof.Gen.GradOutIdeal.Value
public import proofs.«01_k».proof.Proof.Gen.GradOutReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GradOutIdeal.Product

open Cert.GradOutIdeal Cert.GradOutIdeal.Gen

variable (m : (ℓ : Loc nD τ sig) → Buf (Elt Ideal) ℓ)

section Reference
open Cert.GradOutReferenceIdeal Cert.GradOutReferenceIdeal.Gen

/-- The reference's gradient, a function of the two factors. -/
abbrev ref (a : FVec Ideal S2048x1024 .bf16) (b : FVec Ideal S2048x1024 .f32) : FVec Ideal S1024x1024 .bf16 :=
  truncf .bf16 (transpose S1024x1024 [1, 0] (Host.dotGeneral dot_S2048x1024_S2048x1024_S1024x1024_0_0_1_1_n_n none b (extf .f32 a Cert.GradOutReferenceIdeal.Gen.bitsLt_bf16_f32)) transposes_S1024x1024_S1024x1024_1_0) Cert.GradOutReferenceIdeal.Gen.bitsLt_bf16_f32

end Reference

theorem idx : ∀ t : Fin cfg0.N, win0_0.index t = ![0, t.val] ∧ win0_1.index t = ![0, 0] ∧ win0_2.index t = ![t.val, 0] :=
  (by decide +kernel : ∀ t : Fin grid0.N, _)

theorem final2 (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, ref]
  refine Fin.sum_fin_congr fun x => ?_
  rw [mul_comm]
  blk_point [iblk, V, idx t]

end Cert.GradOutIdeal.Product

end
-- ==== Proof.GradIn.lean ====
/- The value of the gradient of the input projection: each result array of the kernel is the reference's term. -/
module

public import proofs.«01_k».proof.Proof.Gen.GradInIdeal.Value
public import proofs.«01_k».proof.Proof.Gen.GradInReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GradInIdeal.Product

section Reference
open Cert.GradInReferenceIdeal Cert.GradInReferenceIdeal.Gen

/-- The seven gradients side by side, in the order of the projection's columns. -/
def cat (a0 : FVec Ideal S3x2048x512 .bf16) (a1 a2 : FVec Ideal S2x2048x1024 .bf16) : FVec Ideal S2048x5632 .bf16 :=
  concatenate S2048x5632 1 [⟨S2048x512, ((shapeCast _ (extractStridedSlice S1x2048x512 ![0, 0, 0] a0 Cert.GradInReferenceIdeal.Gen.slices_S3x2048x512_S1x2048x512_0_0_0) Cert.GradInReferenceIdeal.Gen.shapeCasts_S1x2048x512_S2048x512) : (⟨S2048x512, .bf16⟩ : BufTy).Contents (Elt Ideal))⟩, ⟨S2048x512, ((shapeCast _ (extractStridedSlice S1x2048x512 ![1, 0, 0] a0 Cert.GradInReferenceIdeal.Gen.slices_S3x2048x512_S1x2048x512_1_0_0) Cert.GradInReferenceIdeal.Gen.shapeCasts_S1x2048x512_S2048x512) : (⟨S2048x512, .bf16⟩ : BufTy).Contents (Elt Ideal))⟩, ⟨S2048x512, ((shapeCast _ (extractStridedSlice S1x2048x512 ![2, 0, 0] a0 Cert.GradInReferenceIdeal.Gen.slices_S3x2048x512_S1x2048x512_2_0_0) Cert.GradInReferenceIdeal.Gen.shapeCasts_S1x2048x512_S2048x512) : (⟨S2048x512, .bf16⟩ : BufTy).Contents (Elt Ideal))⟩, ⟨S2048x1024, ((shapeCast _ (extractStridedSlice S1x2048x1024 ![0, 0, 0] a1 Cert.GradInReferenceIdeal.Gen.slices_S2x2048x1024_S1x2048x1024_0_0_0) Cert.GradInReferenceIdeal.Gen.shapeCasts_S1x2048x1024_S2048x1024) : (⟨S2048x1024, .bf16⟩ : BufTy).Contents (Elt Ideal))⟩, ⟨S2048x1024, ((shapeCast _ (extractStridedSlice S1x2048x1024 ![1, 0, 0] a1 Cert.GradInReferenceIdeal.Gen.slices_S2x2048x1024_S1x2048x1024_1_0_0) Cert.GradInReferenceIdeal.Gen.shapeCasts_S1x2048x1024_S2048x1024) : (⟨S2048x1024, .bf16⟩ : BufTy).Contents (Elt Ideal))⟩, ⟨S2048x1024, ((shapeCast _ (extractStridedSlice S1x2048x1024 ![0, 0, 0] a2 Cert.GradInReferenceIdeal.Gen.slices_S2x2048x1024_S1x2048x1024_0_0_0) Cert.GradInReferenceIdeal.Gen.shapeCasts_S1x2048x1024_S2048x1024) : (⟨S2048x1024, .bf16⟩ : BufTy).Contents (Elt Ideal))⟩, ⟨S2048x1024, ((shapeCast _ (extractStridedSlice S1x2048x1024 ![1, 0, 0] a2 Cert.GradInReferenceIdeal.Gen.slices_S2x2048x1024_S1x2048x1024_1_0_0) Cert.GradInReferenceIdeal.Gen.shapeCasts_S1x2048x1024_S2048x1024) : (⟨S2048x1024, .bf16⟩ : BufTy).Contents (Elt Ideal))⟩] Cert.GradInReferenceIdeal.Gen.concatenates_S2048x512_S2048x512_S2048x512_S2048x1024_S2048x1024_S2048x1024_S2048x1024_S2048x5632_d1

variable (a0 : FVec Ideal S3x2048x512 .bf16) (a1 a2 : FVec Ideal S2x2048x1024 .bf16) (r : Fin 2048) (j : Fin 5632)

/-- A read at equal coordinates. -/
theorem slot {p q s : ℕ} {α : Type} (f : (⟨3, ![p, q, s]⟩ : Shape).Idx → α) {x x' : Fin p} {r : Fin q} {k k' : Fin s} (hx : x.val = x'.val) (hk : k.val = k'.val) : f (ix3 x r k) = f (ix3 x' r k') := by
  obtain rfl := Fin.ext hx
  obtain rfl := Fin.ext hk
  rfl

theorem cat_q (h : j.val < 1536) : cat a0 a1 a2 (ix2 r j) = a0 (ix3 ⟨j.val / 512, by omega⟩ r ⟨j.val % 512, by omega⟩) := by
  unfold cat
  pointwise
  rcases (show (0 ≤ j.val ∧ j.val < 512) ∨ (512 ≤ j.val ∧ j.val < 1024) ∨ (1024 ≤ j.val ∧ j.val < 1536) by omega) with ⟨h1, h2⟩ | ⟨h1, h2⟩ | ⟨h1, h2⟩
  · rw [dif_pos (by omega)]
    exact slot a0 (show 0 = j.val / 512 by omega) (show j.val = j.val % 512 by omega)
  · rw [dif_neg (by omega), dif_pos (by omega)]
    exact slot a0 (show 1 = j.val / 512 by omega) (show j.val - 512 = j.val % 512 by omega)
  · rw [dif_neg (by omega), dif_neg (by omega), dif_pos (by omega)]
    exact slot a0 (show 2 = j.val / 512 by omega) (show j.val - 512 - 512 = j.val % 512 by omega)

theorem cat_u (h : 1536 ≤ j.val) (h' : j.val < 3584) : cat a0 a1 a2 (ix2 r j) = a1 (ix3 ⟨(j.val - 1536) / 1024, by omega⟩ r ⟨(j.val - 1536) % 1024, by omega⟩) := by
  unfold cat
  pointwise
  rcases (show (1536 ≤ j.val ∧ j.val < 2560) ∨ (2560 ≤ j.val ∧ j.val < 3584) by omega) with ⟨h1, h2⟩ | ⟨h1, h2⟩
  · rw [dif_neg (by omega), dif_neg (by omega), dif_neg (by omega), dif_pos (by omega)]
    exact slot a1 (show 0 = (j.val - 1536) / 1024 by omega) (show j.val - 512 - 512 - 512 = (j.val - 1536) % 1024 by omega)
  · rw [dif_neg (by omega), dif_neg (by omega), dif_neg (by omega), dif_neg (by omega), dif_pos (by omega)]
    exact slot a1 (show 1 = (j.val - 1536) / 1024 by omega) (show j.val - 512 - 512 - 512 - 1024 = (j.val - 1536) % 1024 by omega)

theorem cat_g (h : 3584 ≤ j.val) : cat a0 a1 a2 (ix2 r j) = a2 (ix3 ⟨(j.val - 3584) / 1024, by omega⟩ r ⟨(j.val - 3584) % 1024, by omega⟩) := by
  unfold cat
  pointwise
  rcases (show (3584 ≤ j.val ∧ j.val < 4608) ∨ (4608 ≤ j.val ∧ j.val < 5632) by omega) with ⟨h1, h2⟩ | ⟨h1, h2⟩
  · rw [dif_neg (by omega), dif_neg (by omega), dif_neg (by omega), dif_neg (by omega), dif_neg (by omega), dif_pos (by omega)]
    exact slot a2 (show 0 = (j.val - 3584) / 1024 by omega) (show j.val - 512 - 512 - 512 - 1024 - 1024 = (j.val - 3584) % 1024 by omega)
  · rw [dif_neg (by omega), dif_neg (by omega), dif_neg (by omega), dif_neg (by omega), dif_neg (by omega), dif_neg (by omega)]
    exact slot a2 (show 1 = (j.val - 3584) / 1024 by omega) (show j.val - 512 - 512 - 512 - 1024 - 1024 - 1024 = (j.val - 3584) % 1024 by omega)

/-- The reference's gradient of the weight. -/
abbrev refW (h : FVec Ideal S2048x1024 .bf16) : FVec Ideal S5632x1024 .bf16 :=
  truncf .bf16 (transpose S5632x1024 [1, 0] (transpose S1024x5632 [1, 0] (Host.dotGeneral dot_S2048x5632_S2048x1024_S5632x1024_0_0_1_1_n_n none (extf .f32 (cat a0 a1 a2) bitsLt_bf16_f32) (extf .f32 h bitsLt_bf16_f32)) transposes_S5632x1024_S1024x5632_1_0) transposes_S1024x5632_S5632x1024_1_0) bitsLt_bf16_f32

/-- The reference's gradient of the bias. -/
abbrev refB : FVec Ideal S1x5632 .f32 :=
  broadcastInDim S1x5632 ![1] bcast_S5632_S1x5632_1 (Host.reduceAdd (shapeCast _ (Host.reduceAdd (extf .f32 (cat a0 a1 a2) bitsLt_bf16_f32) (constant S_ .f32 0x00000000#32) reducesTo_S2048x5632_S5632_d0 h_S_) shapeCasts_S5632_S1x5632) (constant S_ .f32 0x00000000#32) reducesTo_S1x5632_S5632_d0 h_S_)

/-- The weight's gradient, element by element. -/
theorem refW_at (h : FVec Ideal S2048x1024 .bf16) (k : Fin 1024) : refW a0 a1 a2 h (ix2 j k) = ∑ r : Fin 2048, cat a0 a1 a2 (ix2 r j) * h (ix2 r k) := by
  pointwise [refW]

/-- The bias's gradient, element by element. -/
theorem refB_at (z : Fin 1) : refB a0 a1 a2 (ix2 z j) = ∑ r : Fin 2048, cat a0 a1 a2 (ix2 r j) := by
  pointwise [refB]
  simp only [Finset.univ_unique, Finset.sum_singleton]

end Reference

open Cert.GradInIdeal Cert.GradInIdeal.Gen

variable (m : (ℓ : Loc nD τ sig) → Buf (Elt Ideal) ℓ) (c : Dev nD)

theorem idx : ∀ t : Fin cfg0.N, win0_0.index t = ![min t.val 2, 0, 0] ∧ win0_1.index t = ![min (t.val - 3) 3 / 2, 0, min (t.val - 3) 3 % 2]
    ∧ win0_2.index t = ![min (t.val - 7) 3 / 2, 0, min (t.val - 7) 3 % 2] ∧ win0_3.index t = ![0, 0] ∧ win0_4.index t = ![t.val, 0] ∧ win0_5.index t = ![0, t.val] :=
  (by decide +kernel : ∀ t : Fin grid0.N, _)

/-- The row of the result a point's row is. -/
def at_ (t : Fin cfg0.N) (i : Fin 512) : Fin 5632 := ⟨t.val * 512 + i.val, by have := lt_of_lt_of_eq t.isLt (show cfg0.N = 11 from N_0); omega⟩

def DW : FVec Ideal S5632x1024 .bf16 := refW (m ((c : Thread nD τ).loc main_arg0)) (m ((c : Thread nD τ).loc main_arg1)) (m ((c : Thread nD τ).loc main_arg2)) (m ((c : Thread nD τ).loc main_arg3))
def DB : FVec Ideal S1x5632 .f32 := refB (m ((c : Thread nD τ).loc main_arg0)) (m ((c : Thread nD τ).loc main_arg1)) (m ((c : Thread nD τ).loc main_arg2))

theorem emb4 (t : Fin cfg0.N) (i : Fin 512) (k : Fin 1024) : (win0_4.blk t).view.emb (ix2 i k) = ix2 (at_ t i) k := by
  blk_ext [idx t]
  rfl

theorem emb5 (t : Fin cfg0.N) (z : Fin 1) (i : Fin 512) : (win0_5.blk t).view.emb (ix2 z i) = ix2 z (at_ t i) := by
  blk_ext [idx t]
  rfl

theorem final4 : (dats m 0 c).arrAt 4 (cfgs 0).N = DW m c := by
  refine (dats m 0 c).arrAt_eq_of_covers 4 _ (by decide +kernel) fun t _ y => ?_
  blk_simp
  rw [after0_4]
  have ht := lt_of_lt_of_eq t.isLt (show cfg0.N = 11 from N_0)
  idx_vars y
  refine Eq.trans ?_ (congrArg (DW m c) (emb4 t y0 y1).symm)
  unfold DW
  rw [refW_at]
  rcases (show t.val < 3 ∨ (3 ≤ t.val ∧ t.val ≤ 6) ∨ 7 ≤ t.val by omega) with h | h | h
  · rw [outsAt0_A m c t h (by omega) (by omega)]
    frame_out
    pointwise [k0_pay2, k0_pay1]
    refine Fin.sum_fin_congr fun x => ?_
    rw [cat_q _ _ _ _ _ (by unfold at_; simp only []; omega)]
    blk_point [iblk, V, idx t, at_]
  · rw [outsAt0_B m c t (by omega) (by omega) (by omega)]
    frame_out
    pointwise [k0_pay5, k0_pay4]
    refine Fin.sum_fin_congr fun x => ?_
    rw [cat_u _ _ _ _ _ (by unfold at_; simp only []; omega) (by unfold at_; simp only []; omega)]
    blk_point [iblk, V, idx t, at_]
  · rw [outsAt0_C m c t (by omega) (by omega) h]
    frame_out
    pointwise [k0_pay8, k0_pay7]
    refine Fin.sum_fin_congr fun x => ?_
    rw [cat_g _ _ _ _ _ (by unfold at_; simp only []; omega)]
    blk_point [iblk, V, idx t, at_]

theorem final5 : (dats m 0 c).arrAt 5 (cfgs 0).N = DB m c := by
  refine (dats m 0 c).arrAt_eq_of_covers 5 _ (by decide +kernel) fun t _ y => ?_
  blk_simp
  rw [after0_5]
  have ht := lt_of_lt_of_eq t.isLt (show cfg0.N = 11 from N_0)
  idx_vars y
  refine Eq.trans ?_ (congrArg (DB m c) (emb5 t y0 y1).symm)
  unfold DB
  rw [refB_at]
  rcases (show t.val < 3 ∨ (3 ≤ t.val ∧ t.val ≤ 6) ∨ 7 ≤ t.val by omega) with h | h | h
  · rw [outsAt0_A m c t h (by omega) (by omega)]
    frame_out
    pointwise [k0_pay3, k0_pay1]
    refine Fin.sum_fin_congr fun x => ?_
    rw [cat_q _ _ _ _ _ (by unfold at_; simp only []; omega)]
    blk_point [iblk, V, idx t, at_]
  · rw [outsAt0_B m c t (by omega) (by omega) (by omega)]
    frame_out
    pointwise [k0_pay6, k0_pay4]
    refine Fin.sum_fin_congr fun x => ?_
    rw [cat_u _ _ _ _ _ (by unfold at_; simp only []; omega) (by unfold at_; simp only []; omega)]
    blk_point [iblk, V, idx t, at_]
  · rw [outsAt0_C m c t (by omega) (by omega) h]
    frame_out
    pointwise [k0_pay9, k0_pay7]
    refine Fin.sum_fin_congr fun x => ?_
    rw [cat_g _ _ _ _ _ (by unfold at_; simp only []; omega)]
    blk_point [iblk, V, idx t, at_]

end Cert.GradInIdeal.Product

end
-- ==== Proof.Dx.lean ====
/- The value of the gradient through the input projection and its normalisation: each result array of the kernel is the reference's term. -/
module

public import proofs.«01_k».proof.Proof.Gen.DxIdeal.Value
public import proofs.«01_k».proof.Proof.Gen.DxReferenceIdeal.Run
public import proofs.«01_k».proof.Proof.Norm
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.DxIdeal.Back

/-- A sum over the 5632 columns of the projection, in its seven parts. -/
theorem parts (f : Fin 5632 → EReal) : ∑ n, f n
    = (∑ n : Fin 512, f ⟨n.val, by omega⟩) + (∑ n : Fin 512, f ⟨512 + n.val, by omega⟩) + (∑ n : Fin 512, f ⟨1024 + n.val, by omega⟩)
      + (∑ n : Fin 1024, f ⟨1536 + n.val, by omega⟩) + (∑ n : Fin 1024, f ⟨2560 + n.val, by omega⟩)
      + (∑ n : Fin 1024, f ⟨3584 + n.val, by omega⟩) + ∑ n : Fin 1024, f ⟨4608 + n.val, by omega⟩ := by
  have h := Fin.sum_univ_add (a := 1536) (b := 4096) (fun i => f ⟨i.val, i.isLt⟩)
  have h3 := Fin.sum_univ_tiles (M := EReal) 3 512 rfl (fun i : Fin 1536 => f ⟨i.val, by omega⟩)
  have h4 := Fin.sum_univ_tiles (M := EReal) 4 1024 rfl (fun i : Fin 4096 => f ⟨1536 + i.val, by omega⟩)
  rw [Fin.sum_univ_three] at h3
  rw [Fin.sum_univ_four] at h4
  refine h.trans ?_
  refine (congrArg₂ (· + ·) h3 h4).trans ?_
  simp only [← add_assoc]
  simp

/-- The gradient at the normalised row: the seven parts of the row's gradient against the weight's row. -/
def back (a : Fin 3 → Fin 512 → EReal) (b d : Fin 2 → Fin 1024 → EReal) (v : Fin 5632 → EReal) : EReal :=
  (∑ n : Fin 512, a 0 n * v ⟨n.val, by omega⟩) + (∑ n : Fin 512, a 1 n * v ⟨512 + n.val, by omega⟩) + (∑ n : Fin 512, a 2 n * v ⟨1024 + n.val, by omega⟩)
    + (∑ n : Fin 1024, b 0 n * v ⟨1536 + n.val, by omega⟩) + (∑ n : Fin 1024, b 1 n * v ⟨2560 + n.val, by omega⟩)
    + (∑ n : Fin 1024, d 0 n * v ⟨3584 + n.val, by omega⟩) + ∑ n : Fin 1024, d 1 n * v ⟨4608 + n.val, by omega⟩

section Reference
open Cert.DxReferenceIdeal Cert.DxReferenceIdeal.Gen

/-- The seven gradients side by side, in the order of the projection's columns. -/
def cat (a0 : FVec Ideal S3x2048x512 .bf16) (a1 a2 : FVec Ideal S2x2048x1024 .bf16) : FVec Ideal S2048x5632 .bf16 :=
  concatenate S2048x5632 1 [⟨S2048x512, ((shapeCast _ (extractStridedSlice S1x2048x512 ![0, 0, 0] a0 Cert.DxReferenceIdeal.Gen.slices_S3x2048x512_S1x2048x512_0_0_0) Cert.DxReferenceIdeal.Gen.shapeCasts_S1x2048x512_S2048x512) : (⟨S2048x512, .bf16⟩ : BufTy).Contents (Elt Ideal))⟩, ⟨S2048x512, ((shapeCast _ (extractStridedSlice S1x2048x512 ![1, 0, 0] a0 Cert.DxReferenceIdeal.Gen.slices_S3x2048x512_S1x2048x512_1_0_0) Cert.DxReferenceIdeal.Gen.shapeCasts_S1x2048x512_S2048x512) : (⟨S2048x512, .bf16⟩ : BufTy).Contents (Elt Ideal))⟩, ⟨S2048x512, ((shapeCast _ (extractStridedSlice S1x2048x512 ![2, 0, 0] a0 Cert.DxReferenceIdeal.Gen.slices_S3x2048x512_S1x2048x512_2_0_0) Cert.DxReferenceIdeal.Gen.shapeCasts_S1x2048x512_S2048x512) : (⟨S2048x512, .bf16⟩ : BufTy).Contents (Elt Ideal))⟩, ⟨S2048x1024, ((shapeCast _ (extractStridedSlice S1x2048x1024 ![0, 0, 0] a1 Cert.DxReferenceIdeal.Gen.slices_S2x2048x1024_S1x2048x1024_0_0_0) Cert.DxReferenceIdeal.Gen.shapeCasts_S1x2048x1024_S2048x1024) : (⟨S2048x1024, .bf16⟩ : BufTy).Contents (Elt Ideal))⟩, ⟨S2048x1024, ((shapeCast _ (extractStridedSlice S1x2048x1024 ![1, 0, 0] a1 Cert.DxReferenceIdeal.Gen.slices_S2x2048x1024_S1x2048x1024_1_0_0) Cert.DxReferenceIdeal.Gen.shapeCasts_S1x2048x1024_S2048x1024) : (⟨S2048x1024, .bf16⟩ : BufTy).Contents (Elt Ideal))⟩, ⟨S2048x1024, ((shapeCast _ (extractStridedSlice S1x2048x1024 ![0, 0, 0] a2 Cert.DxReferenceIdeal.Gen.slices_S2x2048x1024_S1x2048x1024_0_0_0) Cert.DxReferenceIdeal.Gen.shapeCasts_S1x2048x1024_S2048x1024) : (⟨S2048x1024, .bf16⟩ : BufTy).Contents (Elt Ideal))⟩, ⟨S2048x1024, ((shapeCast _ (extractStridedSlice S1x2048x1024 ![1, 0, 0] a2 Cert.DxReferenceIdeal.Gen.slices_S2x2048x1024_S1x2048x1024_1_0_0) Cert.DxReferenceIdeal.Gen.shapeCasts_S1x2048x1024_S2048x1024) : (⟨S2048x1024, .bf16⟩ : BufTy).Contents (Elt Ideal))⟩] Cert.DxReferenceIdeal.Gen.concatenates_S2048x512_S2048x512_S2048x512_S2048x1024_S2048x1024_S2048x1024_S2048x1024_S2048x5632_d1

variable (a0 : FVec Ideal S3x2048x512 .bf16) (a1 a2 : FVec Ideal S2x2048x1024 .bf16) (r : Fin 2048) (j : Fin 5632)

/-- A read at equal coordinates. -/
theorem slot {p q s : ℕ} {α : Type} (f : (⟨3, ![p, q, s]⟩ : Shape).Idx → α) {x x' : Fin p} {r : Fin q} {k k' : Fin s} (hx : x.val = x'.val) (hk : k.val = k'.val) : f (ix3 x r k) = f (ix3 x' r k') := by
  obtain rfl := Fin.ext hx
  obtain rfl := Fin.ext hk
  rfl

theorem cat_q (h : j.val < 1536) : cat a0 a1 a2 (ix2 r j) = a0 (ix3 ⟨j.val / 512, by omega⟩ r ⟨j.val % 512, by omega⟩) := by
  unfold cat
  pointwise
  rcases (show (0 ≤ j.val ∧ j.val < 512) ∨ (512 ≤ j.val ∧ j.val < 1024) ∨ (1024 ≤ j.val ∧ j.val < 1536) by omega) with ⟨h1, h2⟩ | ⟨h1, h2⟩ | ⟨h1, h2⟩
  · rw [dif_pos (by omega)]
    exact slot a0 (show 0 = j.val / 512 by omega) (show j.val = j.val % 512 by omega)
  · rw [dif_neg (by omega), dif_pos (by omega)]
    exact slot a0 (show 1 = j.val / 512 by omega) (show j.val - 512 = j.val % 512 by omega)
  · rw [dif_neg (by omega), dif_neg (by omega), dif_pos (by omega)]
    exact slot a0 (show 2 = j.val / 512 by omega) (show j.val - 512 - 512 = j.val % 512 by omega)

theorem cat_u (h : 1536 ≤ j.val) (h' : j.val < 3584) : cat a0 a1 a2 (ix2 r j) = a1 (ix3 ⟨(j.val - 1536) / 1024, by omega⟩ r ⟨(j.val - 1536) % 1024, by omega⟩) := by
  unfold cat
  pointwise
  rcases (show (1536 ≤ j.val ∧ j.val < 2560) ∨ (2560 ≤ j.val ∧ j.val < 3584) by omega) with ⟨h1, h2⟩ | ⟨h1, h2⟩
  · rw [dif_neg (by omega), dif_neg (by omega), dif_neg (by omega), dif_pos (by omega)]
    exact slot a1 (show 0 = (j.val - 1536) / 1024 by omega) (show j.val - 512 - 512 - 512 = (j.val - 1536) % 1024 by omega)
  · rw [dif_neg (by omega), dif_neg (by omega), dif_neg (by omega), dif_neg (by omega), dif_pos (by omega)]
    exact slot a1 (show 1 = (j.val - 1536) / 1024 by omega) (show j.val - 512 - 512 - 512 - 1024 = (j.val - 1536) % 1024 by omega)

theorem cat_g (h : 3584 ≤ j.val) : cat a0 a1 a2 (ix2 r j) = a2 (ix3 ⟨(j.val - 3584) / 1024, by omega⟩ r ⟨(j.val - 3584) % 1024, by omega⟩) := by
  unfold cat
  pointwise
  rcases (show (3584 ≤ j.val ∧ j.val < 4608) ∨ (4608 ≤ j.val ∧ j.val < 5632) by omega) with ⟨h1, h2⟩ | ⟨h1, h2⟩
  · rw [dif_neg (by omega), dif_neg (by omega), dif_neg (by omega), dif_neg (by omega), dif_neg (by omega), dif_pos (by omega)]
    exact slot a2 (show 0 = (j.val - 3584) / 1024 by omega) (show j.val - 512 - 512 - 512 - 1024 - 1024 = (j.val - 3584) % 1024 by omega)
  · rw [dif_neg (by omega), dif_neg (by omega), dif_neg (by omega), dif_neg (by omega), dif_neg (by omega), dif_neg (by omega)]
    exact slot a2 (show 1 = (j.val - 3584) / 1024 by omega) (show j.val - 512 - 512 - 512 - 1024 - 1024 - 1024 = (j.val - 3584) % 1024 by omega)

theorem cat0 (n : Fin 512) : cat a0 a1 a2 (ix2 r ⟨n.val, by omega⟩) = a0 (ix3 0 r n) :=
  (cat_q _ _ _ _ _ (by simp only []; omega)).trans (slot a0 (show (n.val) / 512 = 0 by omega) (show (n.val) % 512 = n.val by omega))

theorem cat1 (n : Fin 512) : cat a0 a1 a2 (ix2 r ⟨512 + n.val, by omega⟩) = a0 (ix3 1 r n) :=
  (cat_q _ _ _ _ _ (by simp only []; omega)).trans (slot a0 (show (512 + n.val) / 512 = 1 by omega) (show (512 + n.val) % 512 = n.val by omega))

theorem cat2 (n : Fin 512) : cat a0 a1 a2 (ix2 r ⟨1024 + n.val, by omega⟩) = a0 (ix3 2 r n) :=
  (cat_q _ _ _ _ _ (by simp only []; omega)).trans (slot a0 (show (1024 + n.val) / 512 = 2 by omega) (show (1024 + n.val) % 512 = n.val by omega))

theorem cat3 (n : Fin 1024) : cat a0 a1 a2 (ix2 r ⟨1536 + n.val, by omega⟩) = a1 (ix3 0 r n) :=
  (cat_u _ _ _ _ _ (by simp only []; omega) (by simp only []; omega)).trans (slot a1 (show (1536 + n.val - 1536) / 1024 = 0 by omega) (show (1536 + n.val - 1536) % 1024 = n.val by omega))

theorem cat4 (n : Fin 1024) : cat a0 a1 a2 (ix2 r ⟨2560 + n.val, by omega⟩) = a1 (ix3 1 r n) :=
  (cat_u _ _ _ _ _ (by simp only []; omega) (by simp only []; omega)).trans (slot a1 (show (2560 + n.val - 1536) / 1024 = 1 by omega) (show (2560 + n.val - 1536) % 1024 = n.val by omega))

theorem cat5 (n : Fin 1024) : cat a0 a1 a2 (ix2 r ⟨3584 + n.val, by omega⟩) = a2 (ix3 0 r n) :=
  (cat_g _ _ _ _ _ (by simp only []; omega)).trans (slot a2 (show (3584 + n.val - 3584) / 1024 = 0 by omega) (show (3584 + n.val - 3584) % 1024 = n.val by omega))

theorem cat6 (n : Fin 1024) : cat a0 a1 a2 (ix2 r ⟨4608 + n.val, by omega⟩) = a2 (ix3 1 r n) :=
  (cat_g _ _ _ _ _ (by simp only []; omega)).trans (slot a2 (show (4608 + n.val - 3584) / 1024 = 1 by omega) (show (4608 + n.val - 3584) % 1024 = n.val by omega))

variable (w : FVec Ideal S1024x5632 .f32) (x : FVec Ideal S2048x1024 .f32) (g : FVec Ideal S1024 .f32) (dx1 : FVec Ideal S2048x1024 .f32)

/-- The gradient at the normalised rows, by the reference. -/
def refDh : FVec Ideal S2048x1024 .f32 :=
  Host.dotGeneral dot_S2048x5632_S1024x5632_S2048x1024_1_1_0_0_n_n none (extf .f32 (cat a0 a1 a2) Cert.DxReferenceIdeal.Gen.bitsLt_bf16_f32) w

/-- The mean of the squares of the rows, and the reciprocal of its root. -/
def refMs : FVec Ideal S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

def refRs : FVec Ideal S2048x1 .f32 := Host.rsqrt (refMs x)

/-- The gradient at the normalised rows before the gain. -/
def refU : FVec Ideal S2048x1024 .f32 :=
  mulf (refDh a0 a1 a2 w) (broadcastInDim S2048x1024 ![0, 1] bcast_S1x1024_S2048x1024_0_1 (broadcastInDim S1x1024 ![1] Cert.DxReferenceIdeal.Gen.bcast_S1024_S1x1024_1 g))

/-- The term through the root. -/
def refV : FVec Ideal S2048x1024 .f32 :=
  broadcastInDim S2048x1024 ![0] bcast_S2048_S2048x1024_0 (Host.reduceAdd (Host.divf (mulf (shapeCast _ (Host.reduceAdd (mulf x (refU a0 a1 a2 w g)) (constant S_ .f32 0x00000000#32) reducesTo_S2048x1024_S2048_d1 h_S_) shapeCasts_S2048_S2048x1) (mulf (broadcastInDim S2048x1 ![] bcast_S_S2048x1 (constant S_ .f32 0xBF000000#32)) (Host.divf (refRs x) (refMs x)))) (broadcastInDim S2048x1 ![] bcast_S_S2048x1 (constant S_ .f32 0x44800000#32))) (constant S_ .f32 0x00000000#32) reducesTo_S2048x1_S2048_d1 h_S_)

/-- The two results. -/
def D6 : FVec Ideal S2048x1024 .f32 :=
  addf dx1 (addf (addf (mulf (refU a0 a1 a2 w g) (broadcastInDim S2048x1024 ![0, 1] bcast_S2048x1_S2048x1024_0_1 (refRs x))) (mulf x (refV a0 a1 a2 w x g))) (mulf (refV a0 a1 a2 w x g) x))

def D7 : FVec Ideal S1x1024 .f32 :=
  broadcastInDim S1x1024 ![1] Cert.DxReferenceIdeal.Gen.bcast_S1024_S1x1024_1 (Host.reduceAdd (shapeCast _ (Host.reduceAdd (mulf (mulf x (broadcastInDim S2048x1024 ![0, 1] bcast_S2048x1_S2048x1024_0_1 (refRs x))) (refDh a0 a1 a2 w)) (constant S_ .f32 0x00000000#32) reducesTo_S2048x1024_S1024_d0 h_S_) Cert.DxReferenceIdeal.Gen.shapeCasts_S1024_S1x1024) (constant S_ .f32 0x00000000#32) reducesTo_S1x1024_S1024_d0 h_S_)

abbrev gx (k : Fin 1024) : EReal := back (fun s n => a0 (ix3 s r n)) (fun s n => a1 (ix3 s r n)) (fun s n => a2 (ix3 s r n)) (fun n => w (ix2 k n))
abbrev xr : Fin 1024 → EReal := fun k => x (ix2 r k)
abbrev ur (k : Fin 1024) : EReal := gx a0 a1 a2 r w k * g (ix1 k)

theorem refDh_at (k : Fin 1024) : refDh a0 a1 a2 w (ix2 r k) = gx a0 a1 a2 r w k := by
  pointwise [refDh]
  refine (parts _).trans ?_
  simp only [cat0, cat1, cat2, cat3, cat4, cat5, cat6]
  rfl

theorem refMs_at (z : Fin 1) : refMs x (ix2 r z) = Norm.ms (xr r x) := by
  pointwise [refMs]
  rfl

theorem refRs_at (z : Fin 1) : refRs x (ix2 r z) = Norm.rs (xr r x) := by
  pointwise [refRs]
  rw [refMs_at]
  rfl

theorem refU_at (k : Fin 1024) : refU a0 a1 a2 w g (ix2 r k) = ur a0 a1 a2 r w g k := by
  pointwise [refU]
  rw [refDh_at]

theorem refV_at (k : Fin 1024) : refV a0 a1 a2 w x g (ix2 r k) = Norm.rev (ur a0 a1 a2 r w g) (xr r x) := by
  pointwise [refV]
  simp only [Finset.univ_unique, Finset.sum_singleton, refU_at, refRs_at, refMs_at]
  rfl

theorem D6_at (k : Fin 1024) : D6 a0 a1 a2 w x g dx1 (ix2 r k) = dx1 (ix2 r k) + Norm.bwd (ur a0 a1 a2 r w g) (xr r x) k := by
  pointwise [D6]
  rw [Norm.bwd_eq, refU_at, refRs_at, refV_at]

theorem D7_at (z : Fin 1) (k : Fin 1024) : D7 a0 a1 a2 w x (ix2 z k) = ∑ r : Fin 2048, gx a0 a1 a2 r w k * (x (ix2 r k) * Norm.rs (xr r x)) := by
  pointwise [D7]
  simp only [Finset.univ_unique, Finset.sum_singleton, refDh_at, refRs_at]
  exact Finset.sum_congr rfl fun r _ => mul_comm (G := EReal) _ _

end Reference

open Cert.DxIdeal Cert.DxIdeal.Gen

section Rows

/-- Row `i` of a tile. -/
abbrev row (x : FVec Ideal S512x1024 .f32) (i : Fin 512) : Fin 1024 → EReal := fun k => x (ix2 i k)

/-- The gain, stored as one row. -/
abbrev gain (g : FVec Ideal S1x1024 .f32) : Fin 1024 → EReal := fun k => g (ix2 0 k)

/-- Rows `o … o + 511`, and `o … o + 1023`, of the weight. -/
def cutW (w : FVec Ideal S5632x1024 .bf16) (o : Nat) (h : ∀ d : Fin 2, ![o, 0] d + S512x1024.size d ≤ S5632x1024.size d) : FVec Ideal S512x1024 .bf16 :=
  View.ld (Val := Elt Ideal) (e' := .bf16) w (Rect.unit (s := S5632x1024) ![o, 0] S512x1024.size h)

def cutV (w : FVec Ideal S5632x1024 .bf16) (o : Nat) (h : ∀ d : Fin 2, ![o, 0] d + S1024x1024.size d ≤ S5632x1024.size d) : FVec Ideal S1024x1024 .bf16 :=
  View.ld (Val := Elt Ideal) (e' := .bf16) w (Rect.unit (s := S5632x1024) ![o, 0] S1024x1024.size h)

/-- One slice of the gradients of the attention's three inputs; of two of the others. -/
def cutA (a : FVec Ideal S3x512x512 .bf16) (o : Nat) (h : ∀ d : Fin 3, ![o, 0, 0] d + S1x512x512.size d ≤ S3x512x512.size d) : FVec Ideal S1x512x512 .bf16 :=
  View.ld (Val := Elt Ideal) (e' := .bf16) a (Rect.unit (s := S3x512x512) ![o, 0, 0] S1x512x512.size h)

def cutB (a : FVec Ideal S2x512x1024 .bf16) (o : Nat) (h : ∀ d : Fin 3, ![o, 0, 0] d + S1x512x1024.size d ≤ S2x512x1024.size d) : FVec Ideal S1x512x1024 .bf16 :=
  View.ld (Val := Elt Ideal) (e' := .bf16) a (Rect.unit (s := S2x512x1024) ![o, 0, 0] S1x512x1024.size h)

variable (a0 : FVec Ideal S3x512x512 .bf16) (a1 a2 : FVec Ideal S2x512x1024 .bf16) (w : FVec Ideal S5632x1024 .bf16)
  (x : FVec Ideal S512x1024 .f32) (g : FVec Ideal S1x1024 .f32) (dx1 : FVec Ideal S512x1024 .f32)

theorem cutW_0 (n : Fin 512) (k : Fin 1024) : cutW w 0 inb_S5632x1024_S512x1024_0_0 (ix2 n k) = w (ix2 ⟨n.val, by omega⟩ k) := by
  unfold cutW
  pointwise

theorem cutW_512 (n : Fin 512) (k : Fin 1024) : cutW w 512 inb_S5632x1024_S512x1024_512_0 (ix2 n k) = w (ix2 ⟨512 + n.val, by omega⟩ k) := by
  unfold cutW
  pointwise

theorem cutW_1024 (n : Fin 512) (k : Fin 1024) : cutW w 1024 inb_S5632x1024_S512x1024_1024_0 (ix2 n k) = w (ix2 ⟨1024 + n.val, by omega⟩ k) := by
  unfold cutW
  pointwise

theorem cutV_1536 (n k : Fin 1024) : cutV w 1536 inb_S5632x1024_S1024x1024_1536_0 (ix2 n k) = w (ix2 ⟨1536 + n.val, by omega⟩ k) := by
  unfold cutV
  pointwise

theorem cutV_2560 (n k : Fin 1024) : cutV w 2560 inb_S5632x1024_S1024x1024_2560_0 (ix2 n k) = w (ix2 ⟨2560 + n.val, by omega⟩ k) := by
  unfold cutV
  pointwise

theorem cutV_3584 (n k : Fin 1024) : cutV w 3584 inb_S5632x1024_S1024x1024_3584_0 (ix2 n k) = w (ix2 ⟨3584 + n.val, by omega⟩ k) := by
  unfold cutV
  pointwise

theorem cutV_4608 (n k : Fin 1024) : cutV w 4608 inb_S5632x1024_S1024x1024_4608_0 (ix2 n k) = w (ix2 ⟨4608 + n.val, by omega⟩ k) := by
  unfold cutV
  pointwise

theorem cutA_0 (z : Fin 1) (i n : Fin 512) : cutA a0 0 inb_S3x512x512_S1x512x512_0_0_0 (ix3 z i n) = a0 (ix3 0 i n) := by
  obtain rfl : z = 0 := Subsingleton.elim _ _
  unfold cutA
  pointwise

theorem cutA_1 (z : Fin 1) (i n : Fin 512) : cutA a0 1 inb_S3x512x512_S1x512x512_1_0_0 (ix3 z i n) = a0 (ix3 1 i n) := by
  obtain rfl : z = 0 := Subsingleton.elim _ _
  unfold cutA
  pointwise

theorem cutA_2 (z : Fin 1) (i n : Fin 512) : cutA a0 2 inb_S3x512x512_S1x512x512_2_0_0 (ix3 z i n) = a0 (ix3 2 i n) := by
  obtain rfl : z = 0 := Subsingleton.elim _ _
  unfold cutA
  pointwise

theorem cutB_0 (z : Fin 1) (i : Fin 512) (n : Fin 1024) : cutB a1 0 inb_S2x512x1024_S1x512x1024_0_0_0 (ix3 z i n) = a1 (ix3 0 i n) := by
  obtain rfl : z = 0 := Subsingleton.elim _ _
  unfold cutB
  pointwise

theorem cutB_1 (z : Fin 1) (i : Fin 512) (n : Fin 1024) : cutB a1 1 inb_S2x512x1024_S1x512x1024_1_0_0 (ix3 z i n) = a1 (ix3 1 i n) := by
  obtain rfl : z = 0 := Subsingleton.elim _ _
  unfold cutB
  pointwise

/-- The gradient at the normalised rows of a tile, as the kernel forms it. -/
abbrev first4 : FVec Ideal S512x1024 .f32 :=
  k0_pay3 (cutA a0 0 inb_S3x512x512_S1x512x512_0_0_0) (cutW w 0 inb_S5632x1024_S512x1024_0_0) (cutA a0 1 inb_S3x512x512_S1x512x512_1_0_0) (cutW w 512 inb_S5632x1024_S512x1024_512_0)
    (cutA a0 2 inb_S3x512x512_S1x512x512_2_0_0) (cutW w 1024 inb_S5632x1024_S512x1024_1024_0) (cutB a1 0 inb_S2x512x1024_S1x512x1024_0_0_0) (cutV w 1536 inb_S5632x1024_S1024x1024_1536_0)
abbrev fifth : FVec Ideal S512x1024 .f32 := k0_pay4 (cutB a1 1 inb_S2x512x1024_S1x512x1024_1_0_0) (cutV w 2560 inb_S5632x1024_S1024x1024_2560_0)
abbrev dhT : FVec Ideal S512x1024 .f32 :=
  k0_pay5 (first4 a0 a1 w) (fifth a1 w) (cutB a2 0 inb_S2x512x1024_S1x512x1024_0_0_0) (cutV w 3584 inb_S5632x1024_S1024x1024_3584_0) (cutB a2 1 inb_S2x512x1024_S1x512x1024_1_0_0) (cutV w 4608 inb_S5632x1024_S1024x1024_4608_0)

abbrev gt (i : Fin 512) (k : Fin 1024) : EReal := back (fun s n => a0 (ix3 s i n)) (fun s n => a1 (ix3 s i n)) (fun s n => a2 (ix3 s i n)) (fun n => w (ix2 n k))

theorem dhT_at (i : Fin 512) (k : Fin 1024) : dhT a0 a1 a2 w (ix2 i k) = gt a0 a1 a2 w i k := by
  unfold dhT first4 fifth
  pointwise [k0_pay5, k0_pay4, k0_pay3]
  simp only [cutA_0, cutA_1, cutA_2, cutB_0, cutB_1, cutW_0, cutW_512, cutW_1024, cutV_1536, cutV_2560, cutV_3584, cutV_4608]
  rfl

theorem pay6 (i : Fin 512) (z : Fin 1) : k0_pay6 (F := Ideal) x (ix2 i z) = Norm.rs (row x i) := by
  pointwise [k0_pay6]
  rfl

theorem pay7 (i : Fin 512) (k : Fin 1024) : k0_pay7 (F := Ideal) x (ix2 i k) = x (ix2 i k) * Norm.rs (row x i) := by
  pointwise [k0_pay7]
  rw [pay6]

theorem pay9 (i : Fin 512) (k : Fin 1024) : k0_pay9 (F := Ideal) g (ix2 i k) = gain g k := by
  pointwise [k0_pay9]

theorem pay1 (dh : FVec Ideal S512x1024 .f32) (i : Fin 512) (k : Fin 1024) : k0_pay1 (F := Ideal) dh (k0_pay6 x) (k0_pay7 x) dx1 (k0_pay9 g) (ix2 i k)
    = dx1 (ix2 i k) + Norm.bwd (fun k => dh (ix2 i k) * gain g k) (row x i) k := by
  pointwise [k0_pay1]
  simp only [pay6, pay7, pay9]
  rfl

theorem pay8 (acc : FVec Ideal S1x1024 .f32) (k : Fin 1024) :
    k0_pay8 (F := Ideal) (first4 a0 a1 w) (fifth a1 w) (cutB a2 0 inb_S2x512x1024_S1x512x1024_0_0_0) (cutV w 3584 inb_S5632x1024_S1024x1024_3584_0) (cutB a2 1 inb_S2x512x1024_S1x512x1024_1_0_0) (cutV w 4608 inb_S5632x1024_S1024x1024_4608_0) x acc (ix2 0 k)
      = acc (ix2 0 k) + ∑ i : Fin 512, gt a0 a1 a2 w i k * (x (ix2 i k) * Norm.rs (row x i)) := by
  pointwise [k0_pay8]
  simp only [dhT_at, pay7]

end Rows

variable (m : (ℓ : Loc nD τ sig) → Buf (Elt Ideal) ℓ) (c : Dev nD)

/-- The weight, transposed, as the kernel holds it. -/
abbrev W : FVec Ideal S5632x1024 .bf16 := V m c main_v1

/-- What a buffer written whole by a copy holds. -/
theorem canon_whole {S : Shape} {e : EltTy} (w : S.Idx → Elt Ideal e) (L : List (View.Piece (Elt Ideal) S e)) :
    View.canon (⟨Rect.whole S, w⟩ :: L) = w := by
  funext y
  have e := View.canon_cons_emb (Val := Elt Ideal) (Rect.whole S) w L y
  rwa [show (Rect.whole S).emb y = y from Rect.emb_whole_apply S y] at e

/-- A load from a buffer written whole by a copy. -/
theorem read_copy {sig : RefSig} {κ : Kind} {sp : Space} {S : Shape} {e : EltTy} (v : View sig κ sp S e) (w : S.Idx → Elt Ideal e) (r : Rect S) :
    v.readCov (Val := Elt Ideal) [⟨Rect.whole S, w⟩] r.toLoadRect = View.ld w r := by
  rw [View.readCov_eq_canon', canon_whole]

/-- After every point the scratch buffer holds the weight. -/
theorem held : ∀ (n : ℕ) (h : n < cfg0.N), (outsAt0 m c n h).2.2 = W m c
  | 0, h => by
    rw [outsAt0_A m c ⟨0, h⟩ rfl]; frame_out; exact canon_whole _ _
  | n + 1, h => by
    have hN := lt_of_lt_of_eq h (show cfg0.N = 4 from N_0)
    have ih := held n (by omega)
    rw [outsAt0_B m c ⟨n + 1, h⟩ (by show ¬ (n + 1) % 4 = 0; omega)]; frame_out; exact ih

theorem at6 (t : Fin cfg0.N) : (dats m 0 c).after 6 t
    = k0_pay1 (dhT (iblk m c 0 t) (iblk m c 1 t) (iblk m c 2 t) (W m c)) (k0_pay6 (iblk m c 3 t)) (k0_pay7 (iblk m c 3 t)) (iblk m c 5 t) (k0_pay9 (iblk m c 4 t)) := by
  rw [after0_6]
  by_cases h0 : t.val % 4 = 0
  · rw [outsAt0_A m c t h0]
    frame_open
    simp (disch := decide) only [↓ View.readCov_skip, ↓ View.readCov_cons_toLoadRect, ↓ View.readCov_fill]
    frame_out
    simp only [read_copy]
    rfl
  · rw [outsAt0_B m c t h0]
    frame_open
    simp (disch := decide) only [↓ View.readCov_skip, ↓ View.readCov_cons_toLoadRect, ↓ View.readCov_fill]
    frame_out
    simp only [read_unread_whole, held m c _ _]
    rfl

/-- The accumulated gain's gradient of a tile. -/
abbrev step (t : Fin cfg0.N) (acc : FVec Ideal S1x1024 .f32) : FVec Ideal S1x1024 .f32 :=
  k0_pay8 (F := Ideal) (first4 (iblk m c 0 t) (iblk m c 1 t) (W m c)) (fifth (iblk m c 1 t) (W m c)) (cutB (iblk m c 2 t) 0 inb_S2x512x1024_S1x512x1024_0_0_0) (cutV (W m c) 3584 inb_S5632x1024_S1024x1024_3584_0)
    (cutB (iblk m c 2 t) 1 inb_S2x512x1024_S1x512x1024_1_0_0) (cutV (W m c) 4608 inb_S5632x1024_S1024x1024_4608_0) (iblk m c 3 t) acc

theorem at7_first (t : Fin cfg0.N) (h0 : t.val % 4 = 0) : (outsAt0 m c t.val t.isLt).2.1 = step m c t (k0_pay2 (F := Ideal)) := by
  rw [outsAt0_A m c t h0]
  frame_open
  simp (disch := decide) only [↓ View.readCov_skip, ↓ View.readCov_cons_toLoadRect, ↓ View.readCov_fill]
  frame_out
  simp only [read_copy]
  rfl

theorem at7_next (t : Fin cfg0.N) (h0 : ¬t.val % 4 = 0) : (outsAt0 m c t.val t.isLt).2.1 = step m c t (outsAt0 m c (t.val - 1) (by omega)).2.1 := by
  rw [outsAt0_B m c t h0]
  frame_open
  simp (disch := decide) only [↓ View.readCov_skip, ↓ View.readCov_cons_toLoadRect, ↓ View.readCov_fill]
  frame_out
  simp only [read_unread_whole, held m c _ _]
  rfl

theorem idx : ∀ t : Fin cfg0.N, win0_0.index t = ![0, t.val, 0] ∧ win0_1.index t = ![0, t.val, 0] ∧ win0_2.index t = ![0, t.val, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

/-- The arguments. -/
abbrev A0 : FVec Ideal S3x2048x512 .bf16 := m ((c : Thread nD τ).loc main_arg0)
abbrev A1 : FVec Ideal S2x2048x1024 .bf16 := m ((c : Thread nD τ).loc main_arg1)
abbrev A2 : FVec Ideal S2x2048x1024 .bf16 := m ((c : Thread nD τ).loc main_arg2)
abbrev U : FVec Ideal S1024x5632 .f32 := m ((c : Thread nD τ).loc main_arg3)
abbrev X : FVec Ideal S2048x1024 .f32 := m ((c : Thread nD τ).loc main_arg4)
abbrev G : FVec Ideal S1024 .f32 := m ((c : Thread nD τ).loc main_arg5)
abbrev E : FVec Ideal S2048x1024 .f32 := m ((c : Thread nD τ).loc main_arg6)

/-- The place of row `i` of tile `t`. -/
abbrev at_ (t : Fin cfg0.N) (i : Fin 512) : Fin 2048 := ⟨t.val * 512 + i.val, by have := lt_of_lt_of_eq t.isLt (show cfg0.N = 4 from N_0); omega⟩

theorem in0 (t : Fin cfg0.N) (i : Fin 512) : (fun (s : Fin 3) (n : Fin 512) => (show FVec Ideal S3x512x512 .bf16 from iblk m c 0 t) (ix3 s i n)) = fun s n => A0 m c (ix3 s (at_ t i) n) := by
  funext s n
  show iblk m c 0 t (ix3 s i n) = _
  blk_point [iblk, V, idx t]

theorem in1 (t : Fin cfg0.N) (i : Fin 512) : (fun (s : Fin 2) (n : Fin 1024) => (show FVec Ideal S2x512x1024 .bf16 from iblk m c 1 t) (ix3 s i n)) = fun s n => A1 m c (ix3 s (at_ t i) n) := by
  funext s n
  show iblk m c 1 t (ix3 s i n) = _
  blk_point [iblk, V, idx t]

theorem in2 (t : Fin cfg0.N) (i : Fin 512) : (fun (s : Fin 2) (n : Fin 1024) => (show FVec Ideal S2x512x1024 .bf16 from iblk m c 2 t) (ix3 s i n)) = fun s n => A2 m c (ix3 s (at_ t i) n) := by
  funext s n
  show iblk m c 2 t (ix3 s i n) = _
  blk_point [iblk, V, idx t]

theorem row3 (t : Fin cfg0.N) (i : Fin 512) : row (iblk m c 3 t) i = xr (at_ t i) (X m c) := by
  funext k
  show iblk m c 3 t (ix2 i k) = _
  blk_point [iblk, V, idx t]

theorem row5 (t : Fin cfg0.N) (i : Fin 512) : row (iblk m c 5 t) i = fun k => E m c (ix2 (at_ t i) k) := by
  funext k
  show iblk m c 5 t (ix2 i k) = _
  blk_point [iblk, V, idx t]

theorem gain4 (t : Fin cfg0.N) : gain (iblk m c 4 t) = fun k => G m c (ix1 k) := by
  funext k
  show iblk m c 4 t (ix2 0 k) = _
  unfold iblk
  blk_simp
  entry_read
  pointwise
  blk_point [idx t]

theorem weight (n : Fin 5632) (k : Fin 1024) : W m c (ix2 n k) = U m c (ix2 k n) := by
  show V m c main_v1 (ix2 n k) = _
  entry_read
  pointwise

theorem gt_eq (t : Fin cfg0.N) (i : Fin 512) (k : Fin 1024) :
    gt (iblk m c 0 t) (iblk m c 1 t) (iblk m c 2 t) (W m c) i k = gx (A0 m c) (A1 m c) (A2 m c) (at_ t i) (U m c) k := by
  unfold gx
  rw [← in0, ← in1, ← in2, ← funext fun n => weight m c n k]

theorem emb6 (t : Fin cfg0.N) (i : Fin 512) (d : Fin 1024) : (win0_6.blk t).view.emb (ix2 i d) = ix2 (at_ t i) d := by
  blk_ext [idx t]

/-- The kernel's first array. -/
abbrev R6 : FVec Ideal S2048x1024 .f32 := D6 (A0 m c) (A1 m c) (A2 m c) (U m c) (X m c) (G m c) (E m c)
abbrev R7 : FVec Ideal S1x1024 .f32 := D7 (A0 m c) (A1 m c) (A2 m c) (U m c) (X m c)

theorem final6 : (dats m 0 c).arrAt 6 (cfgs 0).N = R6 m c := by
  refine (dats m 0 c).arrAt_eq_of_covers 6 _ (by decide +kernel) fun t _ y => ?_
  blk_simp
  rw [at6]
  idx_vars y
  refine Eq.trans ?_ (congrArg (R6 m c) (emb6 t y0 y1).symm)
  unfold R6
  rw [D6_at]
  refine (pay1 _ _ _ _ y0 y1).trans ?_
  refine congrArg₂ (· + ·) (congrFun (row5 m c t y0) y1) ?_
  rw [row3, gain4]
  refine congrArg (fun u => Norm.bwd u _ y1) (funext fun k => ?_)
  rw [dhT_at, gt_eq]

theorem part7 (t : Fin cfg0.N) (acc : FVec Ideal S1x1024 .f32) (j : S1x1024.Idx) :
    step m c t acc j = (acc j : EReal) + ∑ i : Fin 512, gx (A0 m c) (A1 m c) (A2 m c) (at_ t i) (U m c) (j 1) * (X m c (ix2 (at_ t i) (j 1)) * Norm.rs (xr (at_ t i) (X m c))) := by
  idx_vars j
  obtain rfl : j0 = 0 := Subsingleton.elim _ _
  refine (pay8 _ _ _ _ _ acc j1).trans ?_
  refine congrArg₂ _ rfl (Finset.sum_congr rfl fun i _ => ?_)
  rw [gt_eq, row3]
  exact congrArg (fun z : EReal => gx (A0 m c) (A1 m c) (A2 m c) (at_ t i) (U m c) j1 * (z * Norm.rs (xr (at_ t i) (X m c)))) (congrFun (row3 m c t i) j1)

theorem zero7 (j : S1x1024.Idx) : k0_pay2 (F := Ideal) j = (0 : EReal) := by pointwise [k0_pay2]

theorem final7 : (dats m 0 c).arrAt 7 (cfgs 0).N = R7 m c := by
  refine (dats m 0 c).arrAt_eq_of_after_last 7 t0_3 (by decide +kernel) _ fun j => ?_
  blk_simp
  rw [after0_7, Pipeline.eq_sum_fin_of_reset_step_apply_last (fun n h => (outsAt0 m c n h).2.1) 4 (fun _ => 0)
    (fun t j => ∑ i : Fin 512, gx (A0 m c) (A1 m c) (A2 m c) (at_ t i) (U m c) (j 1) * (X m c (ix2 (at_ t i) (j 1)) * Norm.rs (xr (at_ t i) (X m c))))
    (fun t h j => by rw [at7_first m c t h]; rw [part7, zero7])
    (fun t h j => by rw [at7_next m c t h]; rw [part7])
    (le_of_eq N_0) t0_3 rfl j, zero_add]
  refine (Fin.sum_univ_tiles (M := EReal) cfg0.N 512 (by rw [show cfg0.N = 4 from N_0]) (fun r : Fin 2048 => gx (A0 m c) (A1 m c) (A2 m c) r (U m c) (j 1) * (X m c (ix2 r (j 1)) * Norm.rs (xr r (X m c))))).symm.trans ?_
  idx_vars j
  exact (D7_at _ _ _ _ _ j0 j1).symm

end Cert.DxIdeal.Back

end
-- ==== Proof.InProj.lean ====
/- The value of the input projection: each result array of the kernel is the reference's term. -/
module

public import proofs.«01_k».proof.Proof.Gen.InProjIdeal.Value
public import proofs.«01_k».proof.Proof.Gen.InProjReferenceIdeal.Run
public import proofs.«01_k».proof.Proof.MlpSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InProjIdeal.Proj

section Reference
open Cert.InProjReferenceIdeal Cert.InProjReferenceIdeal.Gen

variable (x : FVec Ideal S2048x1024 .f32) (g : FVec Ideal S1024 .f32) (w : FVec Ideal S1024x5632 .f32) (b : FVec Ideal S5632 .f32)

/-- The normalised rows, by the reference. -/
def refH : FVec Ideal S2048x1024 .f32 :=
  mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 g))

/-- All the columns of the projection, by the reference. -/
def refZ : FVec Ideal S2048x5632 .f32 :=
  addf (Host.dotGeneral dot_S2048x1024_S1024x5632_S2048x5632_1_0_0_1_n_n none (refH x g) w) (broadcastInDim S2048x5632 ![0, 1] bcast_S1x5632_S2048x5632_0_1 (broadcastInDim S1x5632 ![1] bcast_S5632_S1x5632_1 b))

/-- The four results. -/
def D3 : FVec Ideal S2048x1536 .bf16 := truncf .bf16 (extractStridedSlice S2048x1536 ![0, 0] (refZ x g w b) slices_S2048x5632_S2048x1536_0_0) bitsLt_bf16_f32
def D4 : FVec Ideal S2048x2048 .f32 := extractStridedSlice S2048x2048 ![0, 1536] (refZ x g w b) slices_S2048x5632_S2048x2048_0_1536
def D5 : FVec Ideal S2048x2048 .f32 := extractStridedSlice S2048x2048 ![0, 3584] (refZ x g w b) slices_S2048x5632_S2048x2048_0_3584
def D6 : FVec Ideal S2048x1024 .bf16 := truncf .bf16 (refH x g) bitsLt_bf16_f32

theorem refH_at (r : Fin 2048) (k : Fin 1024) : refH x g (ix2 r k) = Cert.Mlp.norm (fun k => x (ix2 r k)) (fun k => g (ix1 k)) k := by
  pointwise [refH]
  rfl

/-- One element of the projection: the row `u`, the weight's column `v`, the bias. -/
def dot (u : Fin 1024 → EReal) (v : Fin 1024 → EReal) (b : EReal) : EReal := (∑ k, u k * v k) + b

theorem refZ_at (r : Fin 2048) (n : Fin 5632) : refZ x g w b (ix2 r n)
    = dot (Cert.Mlp.norm (fun k => x (ix2 r k)) (fun k => g (ix1 k))) (fun k => w (ix2 k n)) (b (ix1 n)) := by
  pointwise [refZ]
  simp only [refH_at]
  rfl

theorem D3_at (r : Fin 2048) (n : Fin 1536) : D3 x g w b (ix2 r n) = refZ x g w b (ix2 r ⟨n.val, by omega⟩) := by
  pointwise [D3]

theorem D4_at (r : Fin 2048) (n : Fin 2048) : D4 x g w b (ix2 r n) = refZ x g w b (ix2 r ⟨1536 + n.val, by omega⟩) := by
  pointwise [D4]

theorem D5_at (r : Fin 2048) (n : Fin 2048) : D5 x g w b (ix2 r n) = refZ x g w b (ix2 r ⟨3584 + n.val, by omega⟩) := by
  pointwise [D5]

theorem D6_at (r : Fin 2048) (k : Fin 1024) : D6 x g (ix2 r k) = refH x g (ix2 r k) := by
  pointwise [D6]

end Reference

open Cert.InProjIdeal Cert.InProjIdeal.Gen

section Rows

/-- Row `i` of a tile. -/
abbrev row (x : FVec Ideal S512x1024 .f32) (i : Fin 512) : Fin 1024 → EReal := fun k => x (ix2 i k)

/-- The gain, stored as one row. -/
abbrev gain (g : FVec Ideal S1x1024 .f32) : Fin 1024 → EReal := fun k => g (ix2 0 k)

/-- Rows `o … o + 511` of the weight. -/
def cutW (w : FVec Ideal S5632x1024 .bf16) (o : Nat) (h : ∀ d : Fin 2, ![o, 0] d + S512x1024.size d ≤ S5632x1024.size d) : FVec Ideal S512x1024 .bf16 :=
  View.ld (Val := Elt Ideal) (e' := .bf16) w (Rect.unit (s := S5632x1024) ![o, 0] S512x1024.size h)

/-- Columns `o … o + 511` of the bias. -/
def cutB (b : FVec Ideal S1x5632 .f32) (o : Nat) (h : ∀ d : Fin 2, ![0, o] d + S1x512.size d ≤ S1x5632.size d) : FVec Ideal S1x512 .f32 :=
  View.ld (Val := Elt Ideal) (e' := .f32) b (Rect.unit (s := S1x5632) ![0, o] S1x512.size h)

variable (x : FVec Ideal S512x1024 .f32) (g : FVec Ideal S1x1024 .f32) (w : FVec Ideal S5632x1024 .bf16) (b : FVec Ideal S1x5632 .f32)

/-- One element of the projection of a tile. -/
abbrev el (i : Fin 512) (n : Fin 5632) : EReal := dot (Cert.Mlp.norm (row x i) (gain g)) (fun k => w (ix2 n k)) (b (ix2 0 n))

theorem pay3 (i : Fin 512) (k : Fin 1024) : k0_pay3 (F := Ideal) x g (ix2 i k) = Cert.Mlp.norm (row x i) (gain g) k := by
  pointwise [k0_pay3]
  rfl

theorem cutW_0 (n : Fin 512) (k : Fin 1024) : cutW w 0 inb_S5632x1024_S512x1024_0_0 (ix2 n k) = w (ix2 ⟨n.val, by omega⟩ k) := by
  unfold cutW
  pointwise

theorem cutB_0 (z : Fin 1) (n : Fin 512) : cutB b 0 inb_S1x5632_S1x512_0_0 (ix2 z n) = b (ix2 0 ⟨n.val, by omega⟩) := by
  obtain rfl : z = 0 := Subsingleton.elim _ _
  unfold cutB
  pointwise

/-- The columns from 0 on. -/
abbrev T0 : FVec Ideal S512x512 .bf16 := k0_pay4 x g (cutW w 0 inb_S5632x1024_S512x1024_0_0) (cutB b 0 inb_S1x5632_S1x512_0_0)

theorem col0 (i n : Fin 512) : T0 x g w b (ix2 i n) = el x g w b i ⟨0 + n.val, by omega⟩ := by
  unfold T0
  pointwise [k0_pay4]
  simp only [pay3, cutW_0, cutB_0, Nat.zero_add]
  rfl

theorem cutW_512 (n : Fin 512) (k : Fin 1024) : cutW w 512 inb_S5632x1024_S512x1024_512_0 (ix2 n k) = w (ix2 ⟨512 + n.val, by omega⟩ k) := by
  unfold cutW
  pointwise

theorem cutB_512 (z : Fin 1) (n : Fin 512) : cutB b 512 inb_S1x5632_S1x512_0_512 (ix2 z n) = b (ix2 0 ⟨512 + n.val, by omega⟩) := by
  obtain rfl : z = 0 := Subsingleton.elim _ _
  unfold cutB
  pointwise

/-- The columns from 512 on. -/
abbrev T512 : FVec Ideal S512x512 .bf16 := k0_pay7 (k0_pay5 x g (cutW w 512 inb_S5632x1024_S512x1024_512_0)) (k0_pay6 (cutB b 512 inb_S1x5632_S1x512_0_512))

theorem col512 (i n : Fin 512) : T512 x g w b (ix2 i n) = el x g w b i ⟨512 + n.val, by omega⟩ := by
  unfold T512
  pointwise [k0_pay7, k0_pay5, k0_pay6]
  simp only [pay3, cutW_512, cutB_512]
  rfl

theorem cutW_1024 (n : Fin 512) (k : Fin 1024) : cutW w 1024 inb_S5632x1024_S512x1024_1024_0 (ix2 n k) = w (ix2 ⟨1024 + n.val, by omega⟩ k) := by
  unfold cutW
  pointwise

theorem cutB_1024 (z : Fin 1) (n : Fin 512) : cutB b 1024 inb_S1x5632_S1x512_0_1024 (ix2 z n) = b (ix2 0 ⟨1024 + n.val, by omega⟩) := by
  obtain rfl : z = 0 := Subsingleton.elim _ _
  unfold cutB
  pointwise

/-- The columns from 1024 on. -/
abbrev T1024 : FVec Ideal S512x512 .bf16 := k0_pay8 (k0_pay3 x g) (cutW w 1024 inb_S5632x1024_S512x1024_1024_0) (cutB b 1024 inb_S1x5632_S1x512_0_1024)

theorem col1024 (i n : Fin 512) : T1024 x g w b (ix2 i n) = el x g w b i ⟨1024 + n.val, by omega⟩ := by
  unfold T1024
  pointwise [k0_pay8]
  simp only [pay3, cutW_1024, cutB_1024]
  rfl

theorem cutW_1536 (n : Fin 512) (k : Fin 1024) : cutW w 1536 inb_S5632x1024_S512x1024_1536_0 (ix2 n k) = w (ix2 ⟨1536 + n.val, by omega⟩ k) := by
  unfold cutW
  pointwise

theorem cutB_1536 (z : Fin 1) (n : Fin 512) : cutB b 1536 inb_S1x5632_S1x512_0_1536 (ix2 z n) = b (ix2 0 ⟨1536 + n.val, by omega⟩) := by
  obtain rfl : z = 0 := Subsingleton.elim _ _
  unfold cutB
  pointwise

/-- The columns from 1536 on. -/
abbrev T1536 : FVec Ideal S512x512 .f32 := k0_pay9 (k0_pay3 x g) (cutW w 1536 inb_S5632x1024_S512x1024_1536_0) (cutB b 1536 inb_S1x5632_S1x512_0_1536)

theorem col1536 (i n : Fin 512) : T1536 x g w b (ix2 i n) = el x g w b i ⟨1536 + n.val, by omega⟩ := by
  unfold T1536
  pointwise [k0_pay9]
  simp only [pay3, cutW_1536, cutB_1536]
  rfl

theorem cutW_2048 (n : Fin 512) (k : Fin 1024) : cutW w 2048 inb_S5632x1024_S512x1024_2048_0 (ix2 n k) = w (ix2 ⟨2048 + n.val, by omega⟩ k) := by
  unfold cutW
  pointwise

theorem cutB_2048 (z : Fin 1) (n : Fin 512) : cutB b 2048 inb_S1x5632_S1x512_0_2048 (ix2 z n) = b (ix2 0 ⟨2048 + n.val, by omega⟩) := by
  obtain rfl : z = 0 := Subsingleton.elim _ _
  unfold cutB
  pointwise

/-- The columns from 2048 on. -/
abbrev T2048 : FVec Ideal S512x512 .f32 := k0_pay10 (k0_pay3 x g) (cutW w 2048 inb_S5632x1024_S512x1024_2048_0) (cutB b 2048 inb_S1x5632_S1x512_0_2048)

theorem col2048 (i n : Fin 512) : T2048 x g w b (ix2 i n) = el x g w b i ⟨2048 + n.val, by omega⟩ := by
  unfold T2048
  pointwise [k0_pay10]
  simp only [pay3, cutW_2048, cutB_2048]
  rfl

theorem cutW_2560 (n : Fin 512) (k : Fin 1024) : cutW w 2560 inb_S5632x1024_S512x1024_2560_0 (ix2 n k) = w (ix2 ⟨2560 + n.val, by omega⟩ k) := by
  unfold cutW
  pointwise

theorem cutB_2560 (z : Fin 1) (n : Fin 512) : cutB b 2560 inb_S1x5632_S1x512_0_2560 (ix2 z n) = b (ix2 0 ⟨2560 + n.val, by omega⟩) := by
  obtain rfl : z = 0 := Subsingleton.elim _ _
  unfold cutB
  pointwise

/-- The columns from 2560 on. -/
abbrev T2560 : FVec Ideal S512x512 .f32 := k0_pay12 (k0_pay11 (k0_pay3 x g) (cutW w 2560 inb_S5632x1024_S512x1024_2560_0)) (cutB b 2560 inb_S1x5632_S1x512_0_2560)

theorem col2560 (i n : Fin 512) : T2560 x g w b (ix2 i n) = el x g w b i ⟨2560 + n.val, by omega⟩ := by
  unfold T2560
  pointwise [k0_pay12, k0_pay11]
  simp only [pay3, cutW_2560, cutB_2560]
  rfl

theorem cutW_3072 (n : Fin 512) (k : Fin 1024) : cutW w 3072 inb_S5632x1024_S512x1024_3072_0 (ix2 n k) = w (ix2 ⟨3072 + n.val, by omega⟩ k) := by
  unfold cutW
  pointwise

theorem cutB_3072 (z : Fin 1) (n : Fin 512) : cutB b 3072 inb_S1x5632_S1x512_0_3072 (ix2 z n) = b (ix2 0 ⟨3072 + n.val, by omega⟩) := by
  obtain rfl : z = 0 := Subsingleton.elim _ _
  unfold cutB
  pointwise

/-- The columns from 3072 on. -/
abbrev T3072 : FVec Ideal S512x512 .f32 := k0_pay13 (k0_pay3 x g) (cutW w 3072 inb_S5632x1024_S512x1024_3072_0) (cutB b 3072 inb_S1x5632_S1x512_0_3072)

theorem col3072 (i n : Fin 512) : T3072 x g w b (ix2 i n) = el x g w b i ⟨3072 + n.val, by omega⟩ := by
  unfold T3072
  pointwise [k0_pay13]
  simp only [pay3, cutW_3072, cutB_3072]
  rfl

theorem cutW_3584 (n : Fin 512) (k : Fin 1024) : cutW w 3584 inb_S5632x1024_S512x1024_3584_0 (ix2 n k) = w (ix2 ⟨3584 + n.val, by omega⟩ k) := by
  unfold cutW
  pointwise

theorem cutB_3584 (z : Fin 1) (n : Fin 512) : cutB b 3584 inb_S1x5632_S1x512_0_3584 (ix2 z n) = b (ix2 0 ⟨3584 + n.val, by omega⟩) := by
  obtain rfl : z = 0 := Subsingleton.elim _ _
  unfold cutB
  pointwise

/-- The columns from 3584 on. -/
abbrev T3584 : FVec Ideal S512x512 .f32 := k0_pay14 (k0_pay3 x g) (cutW w 3584 inb_S5632x1024_S512x1024_3584_0) (cutB b 3584 inb_S1x5632_S1x512_0_3584)

theorem col3584 (i n : Fin 512) : T3584 x g w b (ix2 i n) = el x g w b i ⟨3584 + n.val, by omega⟩ := by
  unfold T3584
  pointwise [k0_pay14]
  simp only [pay3, cutW_3584, cutB_3584]
  rfl

theorem cutW_4096 (n : Fin 512) (k : Fin 1024) : cutW w 4096 inb_S5632x1024_S512x1024_4096_0 (ix2 n k) = w (ix2 ⟨4096 + n.val, by omega⟩ k) := by
  unfold cutW
  pointwise

theorem cutB_4096 (z : Fin 1) (n : Fin 512) : cutB b 4096 inb_S1x5632_S1x512_0_4096 (ix2 z n) = b (ix2 0 ⟨4096 + n.val, by omega⟩) := by
  obtain rfl : z = 0 := Subsingleton.elim _ _
  unfold cutB
  pointwise

/-- The columns from 4096 on. -/
abbrev T4096 : FVec Ideal S512x512 .f32 := k0_pay15 (k0_pay3 x g) (cutW w 4096 inb_S5632x1024_S512x1024_4096_0) (cutB b 4096 inb_S1x5632_S1x512_0_4096)

theorem col4096 (i n : Fin 512) : T4096 x g w b (ix2 i n) = el x g w b i ⟨4096 + n.val, by omega⟩ := by
  unfold T4096
  pointwise [k0_pay15]
  simp only [pay3, cutW_4096, cutB_4096]
  rfl

theorem cutW_4608 (n : Fin 512) (k : Fin 1024) : cutW w 4608 inb_S5632x1024_S512x1024_4608_0 (ix2 n k) = w (ix2 ⟨4608 + n.val, by omega⟩ k) := by
  unfold cutW
  pointwise

theorem cutB_4608 (z : Fin 1) (n : Fin 512) : cutB b 4608 inb_S1x5632_S1x512_0_4608 (ix2 z n) = b (ix2 0 ⟨4608 + n.val, by omega⟩) := by
  obtain rfl : z = 0 := Subsingleton.elim _ _
  unfold cutB
  pointwise

/-- The columns from 4608 on. -/
abbrev T4608 : FVec Ideal S512x512 .f32 := k0_pay1 (k0_pay16 (k0_pay3 x g) (cutW w 4608 inb_S5632x1024_S512x1024_4608_0)) (cutB b 4608 inb_S1x5632_S1x512_0_4608)

theorem col4608 (i n : Fin 512) : T4608 x g w b (ix2 i n) = el x g w b i ⟨4608 + n.val, by omega⟩ := by
  unfold T4608
  pointwise [k0_pay1, k0_pay16]
  simp only [pay3, cutW_4608, cutB_4608]
  rfl

theorem cutW_5120 (n : Fin 512) (k : Fin 1024) : cutW w 5120 inb_S5632x1024_S512x1024_5120_0 (ix2 n k) = w (ix2 ⟨5120 + n.val, by omega⟩ k) := by
  unfold cutW
  pointwise

theorem cutB_5120 (z : Fin 1) (n : Fin 512) : cutB b 5120 inb_S1x5632_S1x512_0_5120 (ix2 z n) = b (ix2 0 ⟨5120 + n.val, by omega⟩) := by
  obtain rfl : z = 0 := Subsingleton.elim _ _
  unfold cutB
  pointwise

/-- The columns from 5120 on. -/
abbrev T5120 : FVec Ideal S512x512 .f32 := k0_pay2 (k0_pay3 x g) (cutW w 5120 inb_S5632x1024_S512x1024_5120_0) (cutB b 5120 inb_S1x5632_S1x512_0_5120)

theorem col5120 (i n : Fin 512) : T5120 x g w b (ix2 i n) = el x g w b i ⟨5120 + n.val, by omega⟩ := by
  unfold T5120
  pointwise [k0_pay2]
  simp only [pay3, cutW_5120, cutB_5120]
  rfl

end Rows

variable (m : (ℓ : Loc nD τ sig) → Buf (Elt Ideal) ℓ) (c : Dev nD)

/-- The weight, transposed, as the kernel holds it. -/
abbrev W : FVec Ideal S5632x1024 .bf16 := V m c main_v2

/-- What a buffer written whole by a copy holds. -/
theorem canon_whole {S : Shape} {e : EltTy} (w : S.Idx → Elt Ideal e) (L : List (View.Piece (Elt Ideal) S e)) :
    View.canon (⟨Rect.whole S, w⟩ :: L) = w := by
  funext y
  have e := View.canon_cons_emb (Val := Elt Ideal) (Rect.whole S) w L y
  rwa [show (Rect.whole S).emb y = y from Rect.emb_whole_apply S y] at e

/-- A load from a buffer written whole by a copy. -/
theorem read_copy {sig : RefSig} {κ : Kind} {sp : Space} {S : Shape} {e : EltTy} (v : View sig κ sp S e) (w : S.Idx → Elt Ideal e) (r : Rect S) :
    v.readCov (Val := Elt Ideal) [⟨Rect.whole S, w⟩] r.toLoadRect = View.ld w r := by
  rw [View.readCov_eq_canon', canon_whole]

/-- After every point the scratch buffer holds the weight. -/
theorem held : ∀ (n : ℕ) (h : n < cfg0.N), (outsAt0 m c n h).2.2.2.2 = W m c
  | 0, h => by
    rw [outsAt0_A m c ⟨0, h⟩ rfl]; frame_out; exact canon_whole _ _
  | n + 1, h => by
    have hN := lt_of_lt_of_eq h (show cfg0.N = 4 from N_0)
    have ih := held n (by omega)
    rw [outsAt0_B m c ⟨n + 1, h⟩ (by show ¬ (n + 1) % 4 = 0; omega)]; frame_out; exact ih

theorem at3 (t : Fin cfg0.N) : (dats m 0 c).after 3 t = View.canon [⟨Rect.unit ![0, 1024] ![512, 512] inb_S512x1536_S512x512_0_1024, T1024 (iblk m c 0 t) (iblk m c 1 t) (W m c) (iblk m c 2 t)⟩, ⟨Rect.unit ![0, 512] ![512, 512] inb_S512x1536_S512x512_0_512, T512 (iblk m c 0 t) (iblk m c 1 t) (W m c) (iblk m c 2 t)⟩, ⟨Rect.unit ![0, 0] ![512, 512] inb_S512x1536_S512x512_0_0, T0 (iblk m c 0 t) (iblk m c 1 t) (W m c) (iblk m c 2 t)⟩] := by
  rw [after0_3]
  by_cases h0 : t.val % 4 = 0
  · rw [outsAt0_A m c t h0]
    frame_out
    simp only [read_copy]
    rfl
  · rw [outsAt0_B m c t h0]
    frame_out
    simp only [read_unread_whole, held m c _ _]
    rfl

theorem at4 (t : Fin cfg0.N) : (dats m 0 c).after 4 t = View.canon [⟨Rect.unit ![0, 1536] ![512, 512] inb_S512x2048_S512x512_0_1536, T3072 (iblk m c 0 t) (iblk m c 1 t) (W m c) (iblk m c 2 t)⟩, ⟨Rect.unit ![0, 1024] ![512, 512] inb_S512x2048_S512x512_0_1024, T2560 (iblk m c 0 t) (iblk m c 1 t) (W m c) (iblk m c 2 t)⟩, ⟨Rect.unit ![0, 512] ![512, 512] inb_S512x2048_S512x512_0_512, T2048 (iblk m c 0 t) (iblk m c 1 t) (W m c) (iblk m c 2 t)⟩, ⟨Rect.unit ![0, 0] ![512, 512] inb_S512x2048_S512x512_0_0, T1536 (iblk m c 0 t) (iblk m c 1 t) (W m c) (iblk m c 2 t)⟩] := by
  rw [after0_4]
  by_cases h0 : t.val % 4 = 0
  · rw [outsAt0_A m c t h0]
    frame_out
    simp only [read_copy]
    rfl
  · rw [outsAt0_B m c t h0]
    frame_out
    simp only [read_unread_whole, held m c _ _]
    rfl

theorem at5 (t : Fin cfg0.N) : (dats m 0 c).after 5 t = View.canon [⟨Rect.unit ![0, 1536] ![512, 512] inb_S512x2048_S512x512_0_1536, T5120 (iblk m c 0 t) (iblk m c 1 t) (W m c) (iblk m c 2 t)⟩, ⟨Rect.unit ![0, 1024] ![512, 512] inb_S512x2048_S512x512_0_1024, T4608 (iblk m c 0 t) (iblk m c 1 t) (W m c) (iblk m c 2 t)⟩, ⟨Rect.unit ![0, 512] ![512, 512] inb_S512x2048_S512x512_0_512, T4096 (iblk m c 0 t) (iblk m c 1 t) (W m c) (iblk m c 2 t)⟩, ⟨Rect.unit ![0, 0] ![512, 512] inb_S512x2048_S512x512_0_0, T3584 (iblk m c 0 t) (iblk m c 1 t) (W m c) (iblk m c 2 t)⟩] := by
  rw [after0_5]
  by_cases h0 : t.val % 4 = 0
  · rw [outsAt0_A m c t h0]
    frame_out
    simp only [read_copy]
    rfl
  · rw [outsAt0_B m c t h0]
    frame_out
    simp only [read_unread_whole, held m c _ _]
    rfl

theorem at6 (t : Fin cfg0.N) : (dats m 0 c).after 6 t = k0_pay3 (iblk m c 0 t) (iblk m c 1 t) := by
  rw [after0_6]
  by_cases h0 : t.val % 4 = 0
  · rw [outsAt0_A m c t h0]
    frame_out
  · rw [outsAt0_B m c t h0]
    frame_out

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The arguments. -/
abbrev X : FVec Ideal S2048x1024 .f32 := m ((c : Thread nD τ).loc main_arg0)
abbrev G : FVec Ideal S1024 .f32 := m ((c : Thread nD τ).loc main_arg1)
abbrev U : FVec Ideal S1024x5632 .f32 := m ((c : Thread nD τ).loc main_arg2)
abbrev B : FVec Ideal S5632 .f32 := m ((c : Thread nD τ).loc main_arg3)

/-- The place of row `i` of tile `t`. -/
abbrev at_ (t : Fin cfg0.N) (i : Fin 512) : Fin 2048 := ⟨t.val * 512 + i.val, by have := lt_of_lt_of_eq t.isLt (show cfg0.N = 4 from N_0); omega⟩

theorem row0 (t : Fin cfg0.N) (i : Fin 512) : row (iblk m c 0 t) i = fun k => X m c (ix2 (at_ t i) k) := by
  funext k
  show iblk m c 0 t (ix2 i k) = _
  blk_point [iblk, V, idx t]

theorem gain1 (t : Fin cfg0.N) : gain (iblk m c 1 t) = fun k => G m c (ix1 k) := by
  funext k
  show iblk m c 1 t (ix2 0 k) = _
  unfold iblk
  blk_simp
  entry_read
  pointwise
  blk_point [idx t]

theorem bias2 (t : Fin cfg0.N) (n : Fin 5632) : (show FVec Ideal S1x5632 .f32 from iblk m c 2 t) (ix2 0 n) = B m c (ix1 n) := by
  show iblk m c 2 t (ix2 0 n) = _
  unfold iblk
  blk_simp
  entry_read
  pointwise
  blk_point [idx t]

theorem weight (n : Fin 5632) (k : Fin 1024) : W m c (ix2 n k) = U m c (ix2 k n) := by
  show V m c main_v2 (ix2 n k) = _
  entry_read
  pointwise

/-- An element of a tile's projection is the reference's. -/
theorem el_eq (t : Fin cfg0.N) (i : Fin 512) (n : Fin 5632) : el (iblk m c 0 t) (iblk m c 1 t) (W m c) (iblk m c 2 t) i n = refZ (X m c) (G m c) (U m c) (B m c) (ix2 (at_ t i) n) := by
  rw [refZ_at]
  unfold el
  rw [row0, gain1, funext (weight m c n)]
  exact congrArg _ (bias2 m c t n)

theorem place3 (o : ℕ) (t : Fin cfg0.N) (y : ((cfg0.win 3).xblock (cfg0.grid.coords t)).Idx) (i n : Fin 512) (D : FVec Ideal S2048x1536 .bf16)
    (h : o + n.val < 1536) (h0 : (y 0 : ℕ) = i) (h1 : (y 1 : ℕ) = o + n) : D ((win0_3.blk t).view.emb y) = D (ix2 (at_ t i) ⟨o + n.val, h⟩) := by
  blk_point [idx t]

theorem place4 (o : ℕ) (t : Fin cfg0.N) (y : ((cfg0.win 4).xblock (cfg0.grid.coords t)).Idx) (i n : Fin 512) (D : FVec Ideal S2048x2048 .f32)
    (h : o + n.val < 2048) (h0 : (y 0 : ℕ) = i) (h1 : (y 1 : ℕ) = o + n) : D ((win0_4.blk t).view.emb y) = D (ix2 (at_ t i) ⟨o + n.val, h⟩) := by
  blk_point [idx t]

theorem place5 (o : ℕ) (t : Fin cfg0.N) (y : ((cfg0.win 5).xblock (cfg0.grid.coords t)).Idx) (i n : Fin 512) (D : FVec Ideal S2048x2048 .f32)
    (h : o + n.val < 2048) (h0 : (y 0 : ℕ) = i) (h1 : (y 1 : ℕ) = o + n) : D ((win0_5.blk t).view.emb y) = D (ix2 (at_ t i) ⟨o + n.val, h⟩) := by
  blk_point [idx t]

theorem emb6 (t : Fin cfg0.N) (i : Fin 512) (d : Fin 1024) : (win0_6.blk t).view.emb (ix2 i d) = ix2 (at_ t i) d := by
  blk_ext [idx t]

theorem final6 : (dats m 0 c).arrAt 6 (cfgs 0).N = D6 (X m c) (G m c) := by
  refine (dats m 0 c).arrAt_eq_of_covers 6 _ (by decide +kernel) fun t _ y => ?_
  blk_simp
  rw [at6]
  idx_vars y
  refine Eq.trans ?_ (congrArg (D6 (X m c) (G m c)) (emb6 t y0 y1).symm)
  rw [D6_at, refH_at, pay3, row0, gain1]

theorem final3 : (dats m 0 c).arrAt 3 (cfgs 0).N = D3 (X m c) (G m c) (U m c) (B m c) := by
  refine (dats m 0 c).arrAt_eq_of_covers 3 _ (by decide +kernel) fun t _ y => ?_
  blk_simp
  rw [at3]
  canon_tiles x h
  case piece0 =>
    idx_vars x
    refine Eq.trans ?_ (place3 1024 t y x0 x1 (D3 (X m c) (G m c) (U m c) (B m c)) (by omega) (by omega) (by omega)).symm
    rw [D3_at]
    refine (col1024 _ _ _ _ x0 x1).trans ((el_eq m c t x0 _).trans (congrArg (fun n => refZ (X m c) (G m c) (U m c) (B m c) (ix2 (at_ t x0) n)) (Fin.ext ?_)))
    simp only []
  case piece1 =>
    idx_vars x
    refine Eq.trans ?_ (place3 512 t y x0 x1 (D3 (X m c) (G m c) (U m c) (B m c)) (by omega) (by omega) (by omega)).symm
    rw [D3_at]
    refine (col512 _ _ _ _ x0 x1).trans ((el_eq m c t x0 _).trans (congrArg (fun n => refZ (X m c) (G m c) (U m c) (B m c) (ix2 (at_ t x0) n)) (Fin.ext ?_)))
    simp only []
  case piece2 =>
    idx_vars x
    refine Eq.trans ?_ (place3 0 t y x0 x1 (D3 (X m c) (G m c) (U m c) (B m c)) (by omega) (by omega) (by omega)).symm
    rw [D3_at]
    refine (col0 _ _ _ _ x0 x1).trans ((el_eq m c t x0 _).trans (congrArg (fun n => refZ (X m c) (G m c) (U m c) (B m c) (ix2 (at_ t x0) n)) (Fin.ext ?_)))
    simp only []

theorem final4 : (dats m 0 c).arrAt 4 (cfgs 0).N = D4 (X m c) (G m c) (U m c) (B m c) := by
  refine (dats m 0 c).arrAt_eq_of_covers 4 _ (by decide +kernel) fun t _ y => ?_
  blk_simp
  rw [at4]
  canon_tiles x h
  case piece0 =>
    idx_vars x
    refine Eq.trans ?_ (place4 1536 t y x0 x1 (D4 (X m c) (G m c) (U m c) (B m c)) (by omega) (by omega) (by omega)).symm
    rw [D4_at]
    refine (col3072 _ _ _ _ x0 x1).trans ((el_eq m c t x0 _).trans (congrArg (fun n => refZ (X m c) (G m c) (U m c) (B m c) (ix2 (at_ t x0) n)) (Fin.ext ?_)))
    simp only []
    omega
  case piece1 =>
    idx_vars x
    refine Eq.trans ?_ (place4 1024 t y x0 x1 (D4 (X m c) (G m c) (U m c) (B m c)) (by omega) (by omega) (by omega)).symm
    rw [D4_at]
    refine (col2560 _ _ _ _ x0 x1).trans ((el_eq m c t x0 _).trans (congrArg (fun n => refZ (X m c) (G m c) (U m c) (B m c) (ix2 (at_ t x0) n)) (Fin.ext ?_)))
    simp only []
    omega
  case piece2 =>
    idx_vars x
    refine Eq.trans ?_ (place4 512 t y x0 x1 (D4 (X m c) (G m c) (U m c) (B m c)) (by omega) (by omega) (by omega)).symm
    rw [D4_at]
    refine (col2048 _ _ _ _ x0 x1).trans ((el_eq m c t x0 _).trans (congrArg (fun n => refZ (X m c) (G m c) (U m c) (B m c) (ix2 (at_ t x0) n)) (Fin.ext ?_)))
    simp only []
    omega
  case piece3 =>
    idx_vars x
    refine Eq.trans ?_ (place4 0 t y x0 x1 (D4 (X m c) (G m c) (U m c) (B m c)) (by omega) (by omega) (by omega)).symm
    rw [D4_at]
    refine (col1536 _ _ _ _ x0 x1).trans ((el_eq m c t x0 _).trans (congrArg (fun n => refZ (X m c) (G m c) (U m c) (B m c) (ix2 (at_ t x0) n)) (Fin.ext ?_)))
    simp only []
    omega

theorem final5 : (dats m 0 c).arrAt 5 (cfgs 0).N = D5 (X m c) (G m c) (U m c) (B m c) := by
  refine (dats m 0 c).arrAt_eq_of_covers 5 _ (by decide +kernel) fun t _ y => ?_
  blk_simp
  rw [at5]
  canon_tiles x h
  case piece0 =>
    idx_vars x
    refine Eq.trans ?_ (place5 1536 t y x0 x1 (D5 (X m c) (G m c) (U m c) (B m c)) (by omega) (by omega) (by omega)).symm
    rw [D5_at]
    refine (col5120 _ _ _ _ x0 x1).trans ((el_eq m c t x0 _).trans (congrArg (fun n => refZ (X m c) (G m c) (U m c) (B m c) (ix2 (at_ t x0) n)) (Fin.ext ?_)))
    simp only []
    omega
  case piece1 =>
    idx_vars x
    refine Eq.trans ?_ (place5 1024 t y x0 x1 (D5 (X m c) (G m c) (U m c) (B m c)) (by omega) (by omega) (by omega)).symm
    rw [D5_at]
    refine (col4608 _ _ _ _ x0 x1).trans ((el_eq m c t x0 _).trans (congrArg (fun n => refZ (X m c) (G m c) (U m c) (B m c) (ix2 (at_ t x0) n)) (Fin.ext ?_)))
    simp only []
    omega
  case piece2 =>
    idx_vars x
    refine Eq.trans ?_ (place5 512 t y x0 x1 (D5 (X m c) (G m c) (U m c) (B m c)) (by omega) (by omega) (by omega)).symm
    rw [D5_at]
    refine (col4096 _ _ _ _ x0 x1).trans ((el_eq m c t x0 _).trans (congrArg (fun n => refZ (X m c) (G m c) (U m c) (B m c) (ix2 (at_ t x0) n)) (Fin.ext ?_)))
    simp only []
    omega
  case piece3 =>
    idx_vars x
    refine Eq.trans ?_ (place5 0 t y x0 x1 (D5 (X m c) (G m c) (U m c) (B m c)) (by omega) (by omega) (by omega)).symm
    rw [D5_at]
    refine (col3584 _ _ _ _ x0 x1).trans ((el_eq m c t x0 _).trans (congrArg (fun n => refZ (X m c) (G m c) (U m c) (B m c) (ix2 (at_ t x0) n)) (Fin.ext ?_)))
    simp only []
    omega

end Cert.InProjIdeal.Proj

end
-- ==== Proof.Mixing.lean ====
/- The value of the gated merge: each result array of the kernel is the reference's term. -/
module

public import proofs.«01_k».proof.Proof.Gen.MixIdeal.Value
public import proofs.«01_k».proof.Proof.Gen.MixReferenceIdeal.Run
public import proofs.«01_k».proof.Proof.Gate
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MixIdeal.Mixing

open Cert.MixIdeal Cert.MixIdeal.Gen
open Cert.Gate (gate)

variable (m : (ℓ : Loc nD τ sig) → Buf (Elt Ideal) ℓ)

section Reference
open Cert.MixReferenceIdeal Cert.MixReferenceIdeal.Gen

/-- The gate's half of `gg` at column offset 0 through the logistic function. -/
abbrev gateA (gg : FVec Ideal S2048x2048 .f32) : FVec Ideal S2048x1024 .f32 :=
  Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 0] gg slices_S2048x2048_S2048x1024_0_0))))

/-- The other half, at column offset 1024. -/
abbrev gateR (gg : FVec Ideal S2048x2048 .f32) : FVec Ideal S2048x1024 .f32 :=
  Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 1024] gg slices_S2048x2048_S2048x1024_0_1024))))

/-- The merged rows: each branch through its weight, times its gate. -/
abbrev merged (att : FVec Ideal S2048x512 .bf16) (yrec : FVec Ideal S2048x1024 .bf16) (gg : FVec Ideal S2048x2048 .f32) (wao : FVec Ideal S512x1024 .f32) (wro : FVec Ideal S1024x1024 .f32) : FVec Ideal S2048x1024 .f32 :=
  addf (mulf (gateA gg) (Host.dotGeneral dot_S2048x512_S512x1024_S2048x1024_1_0_0_1_n_n none (extf .f32 att Cert.MixReferenceIdeal.Gen.bitsLt_bf16_f32) wao))
    (mulf (gateR gg) (Host.dotGeneral dot_S2048x1024_S1024x1024_S2048x1024_1_0_0_1_n_n none (extf .f32 yrec Cert.MixReferenceIdeal.Gen.bitsLt_bf16_f32) wro))

abbrev refX (x : FVec Ideal S2048x1024 .f32) (att : FVec Ideal S2048x512 .bf16) (yrec : FVec Ideal S2048x1024 .bf16) (gg : FVec Ideal S2048x2048 .f32) (wao : FVec Ideal S512x1024 .f32) (wro wout : FVec Ideal S1024x1024 .f32) : FVec Ideal S2048x1024 .f32 :=
  addf x (Host.dotGeneral dot_S2048x1024_S1024x1024_S2048x1024_1_0_0_1_n_n none (merged att yrec gg wao wro) wout)

abbrev refMixed (att : FVec Ideal S2048x512 .bf16) (yrec : FVec Ideal S2048x1024 .bf16) (gg : FVec Ideal S2048x2048 .f32) (wao : FVec Ideal S512x1024 .f32) (wro : FVec Ideal S1024x1024 .f32) : FVec Ideal S2048x1024 .bf16 :=
  truncf .bf16 (merged att yrec gg wao wro) Cert.MixReferenceIdeal.Gen.bitsLt_bf16_f32

end Reference

theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

/-- The staged weight of the attention half is the transpose of the argument. -/
theorem staged5 (c : Dev nD) (t : Fin cfg0.N) (a : Fin 1024) (b : Fin 512) :
    (show FVec Ideal S1024x512 .bf16 from iblk m c 5 t) (ix2 a b) = m ((c : Thread nD τ).loc main_arg4) (ix2 b a) := by
  show iblk m c 5 t (ix2 a b) = _
  unfold iblk
  blk_simp
  entry_read
  pointwise
  blk_point [idx t]

/-- The same for the whole block, as the host operations that made it. -/
theorem staged5_eq (c : Dev nD) (t : Fin cfg0.N) :
    iblk m c 5 t = (truncf .bf16 (transpose S1024x512 [1, 0] (m ((c : Thread nD τ).loc main_arg4)) transposes_S512x1024_S1024x512_1_0) bitsLt_bf16_f32 : FVec Ideal S1024x512 .bf16) := by
  refine funext fun j => ?_
  idx_vars j
  refine (staged5 m c t _ _).trans ?_
  pointwise

theorem final9 (c : Dev nD) : (dats m 0 c).arrAt 9 (cfgs 0).N
    = refMixed (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]; unfold out0_9; frame_out
  rw [staged5_eq]
  pointwise [k0_pay2, refMixed, merged, gateA, gateR]
  simp only [gate]
  blk_point [iblk, V, idx t]

theorem final8 (c : Dev nD) : (dats m 0 c).arrAt 8 (cfgs 0).N
    = refX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; unfold out0_8; frame_out
  rw [staged5_eq]
  pointwise [k0_pay1, k0_pay2, k0_pay3, refX, merged, gateA, gateR]
  simp only [gate]
  blk_point [iblk, V, idx t]

end Cert.MixIdeal.Mixing

end
-- ==== Proof.Adam.lean ====
/- The value of one AdamW step: the kernel's three arrays are the reference's. -/
module

public import proofs.«01_k».proof.Proof.Gen.AdamIdeal.Value
public import proofs.«01_k».proof.Proof.Gen.AdamReferenceIdeal.Run
public import Idealize.ShloMosaic.Lib.Claim
public import Idealize.ShloMosaic.PureOps.IdealRules

@[expose] public section

noncomputable section

open Idealize.ShloMosaic Idealize.ShloMosaic.TcCoe Idealize.SL.Sem

namespace Cert.AdamIdeal.Step

theorem bits_bias1 : Ideal.ofBits FTy.f32 0x3F26BD02#32 = ((5463681 / 8388608 : ℝ) : EReal) := by
  simp [Ideal.ofBits, Ideal.ieee, -EReal.coe_mul]; norm_num

theorem bits_bias2 : Ideal.ofBits FTy.f32 0x3C231ACC#32 = ((2672307 / 268435456 : ℝ) : EReal) := by
  simp [Ideal.ofBits, Ideal.ieee, -EReal.coe_mul]; norm_num

/-- The kernel's first named constant is the inverse of the rounded correction of the first moment. -/
theorem inv_bias1 : Named.named (F := Ideal) Cert.AdamIdeal.κ "inv_bias1" (φ := .f32) 0x3FC48605#32 = ((8388608 / 5463681 : ℝ) : EReal) :=
  IdealRules.named_const.ideal_named_scalar _ _ _ _ rfl

/-- The kernel's second named constant is the inverse of the rounded correction of the second moment. -/
theorem inv_bias2 : Named.named (F := Ideal) Cert.AdamIdeal.κ "inv_bias2" (φ := .f32) 0x42C8E6D3#32 = ((268435456 / 2672307 : ℝ) : EReal) :=
  IdealRules.named_const.ideal_named_scalar _ _ _ _ rfl

theorem div_bias1 (x : EReal) : Ideal.div x (Ideal.ofBits FTy.f32 0x3F26BD02#32) = x * ((8388608 / 5463681 : ℝ) : EReal) := by
  rw [bits_bias1, Ideal.div_coe (by norm_num)]; norm_num

theorem div_bias2 (x : EReal) : Ideal.div x (Ideal.ofBits FTy.f32 0x3C231ACC#32) = x * ((268435456 / 2672307 : ℝ) : EReal) := by
  rw [bits_bias2, Ideal.div_coe (by norm_num)]; norm_num

section Reference
open Cert.AdamReferenceIdeal Cert.AdamReferenceIdeal.Gen

/-- The reference's change of the weight, of the weight, its gradient and its two moments. -/
abbrev ref (w g u v : FVec Ideal S512x1024 .f32) : FVec Ideal S512x1024 .f32 :=
  mulf (broadcastInDim S512x1024 ![] bcast_S_S512x1024 (constant S_ .f32 0xBA83126F#32)) (addf (Host.divf (Host.divf (addf (mulf (broadcastInDim S512x1024 ![] bcast_S_S512x1024 (constant S_ .f32 0x3F666666#32)) u) (mulf (broadcastInDim S512x1024 ![] bcast_S_S512x1024 (constant S_ .f32 0x3DCCCCCD#32)) g)) (broadcastInDim S512x1024 ![] bcast_S_S512x1024 (constant S_ .f32 0x3F26BD02#32))) (addf (Host.sqrt (Host.divf (addf (mulf (broadcastInDim S512x1024 ![] bcast_S_S512x1024 (constant S_ .f32 0x3F7FBE77#32)) v) (mulf (broadcastInDim S512x1024 ![] bcast_S_S512x1024 (constant S_ .f32 0x3A83126F#32)) (mulf g g))) (broadcastInDim S512x1024 ![] bcast_S_S512x1024 (constant S_ .f32 0x3C231ACC#32)))) (broadcastInDim S512x1024 ![] bcast_S_S512x1024 (constant S_ .f32 0x322BCC77#32)))) (mulf (broadcastInDim S512x1024 ![] bcast_S_S512x1024 (constant S_ .f32 0x3C23D70A#32)) w))

/-- The two programs' changes of the weight are one function. -/
theorem delta_eq (w g u v : FVec Ideal S512x1024 .f32) : ref w g u v = Cert.AdamIdeal.Value.G4 (F := Ideal) g u v w := by
  funext i
  simp only [ref, Cert.AdamIdeal.Value.G4, Host.divf, Host.sqrt, broadcastInDim, constant, addf, mulf, Ideal.hostDivf_def,
    Ideal.hostUnary_sqrt_def, Ideal.mulf_def, Ideal.addf_def, Ideal.divf_def, Ideal.sqrt_def, Ideal.ofBits_def, inv_bias1, inv_bias2, div_bias1, div_bias2]

end Reference

end Cert.AdamIdeal.Step

end
-- ==== Proof.AttSpec.lean ====
/- The neighbourhood attention of one query, and what both programs share of it. -/
module

public import Idealize.ShloMosaic.Lib.Pipeline.ValueKit
public import Idealize.ShloMosaic.Lib.Pointwise
public import Idealize.ShloMosaic.PureOps.IdealRules

@[expose] public section

noncomputable section

open Idealize.ShloMosaic
open scoped BigOperators

namespace Cert.AttSpec

/-- The first grid column of a query column's window. -/
def wst (w : Nat) : Nat := min (w - 8) 48

/-- The largest of the scores. -/
def top (s : Fin 512 → EReal) : EReal := Finset.fold max (Ideal.ofBits FTy.f32 4286578688#32) s Finset.univ

/-- The values averaged by the weights of the scores. -/
def soft (s v : Fin 512 → EReal) : EReal :=
  ∑ x, Ideal.exp (s x - top s) * Ideal.div 1 (∑ y, Ideal.exp (s y - top s)) * v x

/-- A sum over 256 lanes of which one group of 64 counts. -/
theorem sum_lanes (f : Fin 256 → EReal) (hh : Fin 4) (w : Fin 64) :
    (∑ x : Fin 256, if (64 * hh.val + w.val) / 64 = x.val / 64 then f x else 0) = ∑ d : Fin 64, f ⟨64 * hh.val + d.val, by omega⟩ := by
  rw [Fin.sum_univ_tiles (M := EReal) 4 64 rfl, Finset.sum_eq_single hh]
  · refine Finset.sum_congr rfl fun d _ => ?_
    rw [if_pos (by simp only []; omega)]
    congr 1
    exact Fin.ext (by simp only []; omega)
  · intro b _ hb
    refine Finset.sum_eq_zero fun d _ => if_neg ?_
    have : b.val ≠ hh.val := fun h => hb (Fin.ext h)
    simp only []
    omega
  · intro h
    exact absurd (Finset.mem_univ _) h

end Cert.AttSpec
end
-- ==== Proof.AttPay.lean ====
/- The attention kernel's vector arithmetic, read at an index. -/
module

public import proofs.«01_k».proof.Proof.Gen.AttFwdIdeal.Value
public import proofs.«01_k».proof.Proof.AttSpec

@[expose] public section

set_option maxRecDepth 16384

noncomputable section

open Idealize.ShloMosaic Idealize.ShloMosaic.TcCoe Idealize.SL.Sem
open scoped BigOperators

namespace Cert.AttFwdIdeal.Att

open Cert.AttFwdIdeal Cert.AttFwdIdeal.Gen Cert.AttSpec

theorem masked : (Named.named κ "masked" 0xF149F2CA#32 : Ideal .f32) = (⊥ : EReal) :=
  IdealRules.named_const.ideal_named_scalar _ _ _ _ rfl

theorem pay7 (v3 : FVec Ideal S64x512 .f32) (v6 : FVec Ideal S1x1x1x512 .f32) (w : Fin 64) (j : Fin 512) :
    k0_pay7 (F := Ideal) v3 v6 (ix3 0 w j) = (if Ideal.ofBits FTy.f32 1056964608#32 < v3 (ix2 w j) then v6 (ix4 0 0 0 ⟨(j.val + 512 - (497 + w.val) % 512) % 512, by omega⟩) else ⊥) := by
  pointwise [k0_pay7, k0_pay6, masked]

theorem pay3 (v2 : IVec S256x256 1) (q : FVec Ideal S64x256 .bf16) (k : FVec Ideal S512x256 .bf16) (b : FVec Ideal S1x256x512 .f32) (v : FVec Ideal S512x256 .bf16) (hh : Fin 4) (w : Fin 64) (d : Fin 256) :
    k0_pay3 (F := Ideal) v2 q k b v (ix2 ⟨64 * hh.val + w.val, by omega⟩ d)
      = soft (fun x => (∑ e : Fin 256, Scalar.select (v2 (ix2 ⟨64 * hh.val + w.val, by omega⟩ e)) (q (ix2 w e) * Ideal.ofBits FTy.bf16 15872#16 * k (ix2 x e)) 0) + b (ix3 0 ⟨64 * hh.val + w.val, by omega⟩ x))
          (fun x => v (ix2 x d)) := by
  have hq : ∀ e : Fin 256, (if h : 64 * hh.val + w.val < 64 then q (ix2 ⟨64 * hh.val + w.val, h⟩ e) * Ideal.ofBits FTy.bf16 15872#16
      else if h : 64 * hh.val + w.val - 64 < 64 then q (ix2 ⟨64 * hh.val + w.val - 64, h⟩ e) * Ideal.ofBits FTy.bf16 15872#16
      else if h : 64 * hh.val + w.val - 64 - 64 < 64 then q (ix2 ⟨64 * hh.val + w.val - 64 - 64, h⟩ e) * Ideal.ofBits FTy.bf16 15872#16
      else q (ix2 ⟨64 * hh.val + w.val - 64 - 64 - 64, by omega⟩ e) * Ideal.ofBits FTy.bf16 15872#16)
      = q (ix2 w e) * Ideal.ofBits FTy.bf16 15872#16 := by
    intro e
    have aux : ∀ n (hn : n < 64), n = w.val → q (ix2 ⟨n, hn⟩ e) * Ideal.ofBits FTy.bf16 15872#16 = q (ix2 w e) * Ideal.ofBits FTy.bf16 15872#16 := by
      intro n hn h; subst h; rfl
    split_ifs <;> exact aux _ _ (by omega)
  pointwise [k0_pay3]
  simp only [hq]
  rfl

/-- The head of a lane, as the kernel counts it. -/
theorem lane_head : ∀ d : Fin 256, (Scalar.select
          (IntOp.andi
            (IntOp.cmpi CmpIPredicate.ne
              (IntOp.subi (BitVec.setWidth 32 (IntOp.cmpi CmpIPredicate.sgt (BitVec.ofNat 32 d.val) 0#32))
                (BitVec.setWidth 32 (IntOp.cmpi CmpIPredicate.slt (BitVec.ofNat 32 d.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 d.val) 64#32) 0#32))
          (IntOp.subi (IntOp.divsi ArithUnit.vector (BitVec.ofNat 32 d.val) 64#32) 1#32) (IntOp.divsi ArithUnit.vector (BitVec.ofNat 32 d.val) 64#32)) = BitVec.ofNat 32 (d.val / 64) := by decide +kernel

theorem pay4 (w : Fin 64) (d : Fin 256) : k0_pay4 (ix2 w d) = IntOp.divsi ArithUnit.vector (BitVec.ofNat 32 d.val) 64#32 := by
  pointwise [k0_pay4]

theorem pay2 (x : FVec Ideal S256x256 .f32) (w : Fin 64) (hh : Fin 4) (d : Fin 64) :
    k0_pay2 (F := Ideal) x (iota .tc S64x256 32 [1] iota_S64x256_d1_w32) 64#32 k0_pay4 0#32 (ix2 w ⟨64 * hh.val + d.val, by omega⟩) = x (ix2 ⟨64 * hh.val + w.val, by omega⟩ ⟨64 * hh.val + d.val, by omega⟩) := by
  have h := lane_head ⟨64 * hh.val + d.val, by omega⟩
  have h2 : (64 * hh.val + d.val) / 64 = hh.val := by omega
  simp only [h2] at h
  pointwise [k0_pay2]
  rw [pay4]
  simp only [h]
  have aux : ∀ n (hn : n < 256), n = 64 * hh.val + w.val → x (ix2 ⟨n, hn⟩ ⟨64 * hh.val + d.val, by omega⟩) = x (ix2 ⟨64 * hh.val + w.val, by omega⟩ ⟨64 * hh.val + d.val, by omega⟩) := by
    intro n hn e; subst e; rfl
  fin_cases hh
  · exact aux w.val (by omega) (by simp)
  · exact aux (64 + w.val) (by omega) (by simp)
  · exact aux (128 + w.val) (by omega) (by simp)
  · exact aux (192 + w.val) (by omega) (by simp)

theorem off1 : ∀ k : Fin k0_t1_loop.trips, k0_off1 k = ![64 * k.val, 0] := by decide +kernel
theorem off2 : ∀ k : Fin k0_t1_loop.trips, k0_off2 k = ![64 * min (k.val - 4) 24, 0] := by decide +kernel
theorem off3 : ∀ k : Fin k0_t1_loop.trips, k0_off3 k = ![k.val - min (k.val - 4) 24, 0, 0] := by decide +kernel

end Cert.AttFwdIdeal.Att
end
-- ==== Proof.AttBias.lean ====
/- The attention kernel's biases, staged once for all query rows. -/
module

public import proofs.«01_k».proof.Proof.AttPay
public import Idealize.ShloMosaic.Lib.Pipeline.ReadBack

@[expose] public section

set_option maxRecDepth 16384

noncomputable section

open Idealize.ShloMosaic Idealize.ShloMosaic.TcCoe Idealize.SL.Sem
open scoped BigOperators

namespace Cert.AttFwdIdeal.Att

open Cert.AttFwdIdeal Cert.AttFwdIdeal.Gen Cert.AttSpec

/-- The biases of the four heads' queries, by how far the window's first row lies above the query's. -/
def bias (x3 : Vec Ideal S8x1x4x512 .f32) (x4 : Vec Ideal S64x512 .f32) : S8x256x512.Idx → EReal := fun y =>
  if Ideal.ofBits FTy.f32 1056964608#32 < x4 (ix2 ⟨(y 1).val % 64, by omega⟩ (y 2))
  then x3 (ix4 (y 0) 0 ⟨(y 1).val / 64, by have := (y 1).isLt; simp at this; omega⟩ ⟨((y 2).val + 512 - (497 + (y 1).val % 64) % 512) % 512, by omega⟩) else ⊥

variable (m : (ℓ : Loc nD τ sig) → Buf (Elt Ideal) ℓ)

theorem piece (x3 : Vec Ideal S8x1x4x512 .f32) (x4 : Vec Ideal S64x512 .f32) (m3 : Memref sig .tc .vmem S8x1x4x512 .f32) (h3 : m3.IsWhole) (m4 : Memref sig .tc .vmem S64x512 .f32) (h4 : m4.IsWhole)
    (oi : Fin 8) (hh : Fin 4) (i3 : ∀ a, (![oi.val, 0, hh.val, 0] : Fin 4 → Nat) a + S1x1x1x512.size a ≤ S8x1x4x512.size a) (i4 : ∀ a, (![0, 0] : Fin 2 → Nat) a + S64x512.size a ≤ S64x512.size a)
    (i9 : ∀ a, (![oi.val, 64 * hh.val, 0] : Fin 3 → Nat) a + S1x64x512.size a ≤ S8x256x512.size a) (x : S1x64x512.Idx) :
    k0_pay7 (F := Ideal) (m4.view.readAt (Elt Ideal) (Rect.unit (s := S64x512) ![0, 0] S64x512.size i4).toLoadRect (h4.unread x4))
      (m3.view.readAt (Elt Ideal) (Rect.unit (s := S8x1x4x512) ![oi.val, 0, hh.val, 0] S1x1x1x512.size i3).toLoadRect (h3.unread x3)) x
      = bias x3 x4 ((Rect.unit (s := S8x256x512) ![oi.val, 64 * hh.val, 0] S1x64x512.size i9).emb x) := by
  idx_vars x
  obtain rfl : x0 = 0 := Subsingleton.elim _ _
  rw [pay7]
  simp only [View.readAt_eq_ld, View.ld_apply, h3.read_unread, h4.read_unread]
  have e : (Rect.unit (s := S8x256x512) ![oi.val, 64 * hh.val, 0] S1x64x512.size i9).emb (ix3 0 x1 x2) = ix3 oi ⟨64 * hh.val + x1.val, by omega⟩ x2 := by
    funext a
    refine Fin.ext ((Rect.idx_unit_val _ _ _ _ _).trans ?_)
    fin_cases a <;> simp [ix3]
  have e4 : (Rect.unit (s := S64x512) ![0, 0] S64x512.size i4).idx (ix2 x1 x2) = ix2 x1 x2 := by
    funext a
    refine Fin.ext ((Rect.idx_unit_val _ _ _ _ _).trans ?_)
    fin_cases a <;> simp [ix2]
  have e3 : ∀ n, (Rect.unit (s := S8x1x4x512) ![oi.val, 0, hh.val, 0] S1x1x1x512.size i3).idx (ix4 0 0 0 n) = ix4 oi 0 hh n := by
    intro n
    funext a
    refine Fin.ext ((Rect.idx_unit_val _ _ _ _ _).trans ?_)
    fin_cases a <;> simp [ix4]
  rw [e]
  show (if Ideal.ofBits FTy.f32 1056964608#32 < x4 ((Rect.unit (s := S64x512) ![0, 0] S64x512.size i4).idx (ix2 x1 x2))
    then x3 ((Rect.unit (s := S8x1x4x512) ![oi.val, 0, hh.val, 0] S1x1x1x512.size i3).idx (ix4 0 0 0 ⟨(x2.val + 512 - (497 + x1.val) % 512) % 512, _⟩)) else ⊥) = _
  rw [e4, e3]
  unfold bias
  have h1 : (64 * hh.val + x1.val) % 64 = x1.val := by omega
  have h2 : (64 * hh.val + x1.val) / 64 = hh.val := by omega
  show _ = if Ideal.ofBits FTy.f32 1056964608#32 < x4 (ix2 ⟨(64 * hh.val + x1.val) % 64, by omega⟩ x2)
    then x3 (ix4 oi 0 ⟨(64 * hh.val + x1.val) / 64, by omega⟩ ⟨(x2.val + 512 - (497 + (64 * hh.val + x1.val) % 64) % 512) % 512, by omega⟩) else ⊥
  simp only [h1, h2]

theorem in3 (oi : Fin 8) (hh : Fin 4) : ∀ a, (![oi.val, 0, hh.val, 0] : Fin 4 → Nat) a + S1x1x1x512.size a ≤ S8x1x4x512.size a := by
  revert oi hh; decide
theorem in9 (oi : Fin 8) (hh : Fin 4) : ∀ a, (![oi.val, 64 * hh.val, 0] : Fin 3 → Nat) a + S1x64x512.size a ≤ S8x256x512.size a := by
  revert oi hh; decide

/-- One head's biases for one place of the window. -/
def store (v3 : FVec Ideal S64x512 .f32) (m3 : Memref sig .tc .vmem S8x1x4x512 .f32) (X : BufTy.Contents (Elt Ideal) m3.view.ty) (z : Fin 8 × Fin 4) : View.Piece (Elt Ideal) S8x256x512 .f32 :=
  ⟨Rect.unit (s := S8x256x512) ![z.1.val, 64 * z.2.val, 0] S1x64x512.size (in9 z.1 z.2), k0_pay7 (F := Ideal) v3 (m3.view.readAt (Elt Ideal) (Rect.unit (s := S8x1x4x512) ![z.1.val, 0, z.2.val, 0] S1x1x1x512.size (in3 z.1 z.2)).toLoadRect X)⟩

/-- The 32 pieces the biases are stored in. -/
def stores (v3 : FVec Ideal S64x512 .f32) (m3 : Memref sig .tc .vmem S8x1x4x512 .f32) (X : BufTy.Contents (Elt Ideal) m3.view.ty) : List (View.Piece (Elt Ideal) S8x256x512 .f32) :=
  [store v3 m3 X (7, 3), store v3 m3 X (7, 2), store v3 m3 X (7, 1), store v3 m3 X (7, 0), store v3 m3 X (6, 3), store v3 m3 X (6, 2), store v3 m3 X (6, 1), store v3 m3 X (6, 0), store v3 m3 X (5, 3), store v3 m3 X (5, 2), store v3 m3 X (5, 1), store v3 m3 X (5, 0), store v3 m3 X (4, 3), store v3 m3 X (4, 2), store v3 m3 X (4, 1), store v3 m3 X (4, 0), store v3 m3 X (3, 3), store v3 m3 X (3, 2), store v3 m3 X (3, 1), store v3 m3 X (3, 0), store v3 m3 X (2, 3), store v3 m3 X (2, 2), store v3 m3 X (2, 1), store v3 m3 X (2, 0), store v3 m3 X (1, 3), store v3 m3 X (1, 2), store v3 m3 X (1, 1), store v3 m3 X (1, 0), store v3 m3 X (0, 3), store v3 m3 X (0, 2), store v3 m3 X (0, 1), store v3 m3 X (0, 0)]

theorem stores_eq (v3 : FVec Ideal S64x512 .f32) (m3 : Memref sig .tc .vmem S8x1x4x512 .f32) (X : BufTy.Contents (Elt Ideal) m3.view.ty) :
    stores v3 m3 X = [(7, 3), (7, 2), (7, 1), (7, 0), (6, 3), (6, 2), (6, 1), (6, 0), (5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)].map (store v3 m3 X) := rfl

theorem stores_of (x3 : Vec Ideal S8x1x4x512 .f32) (x4 : Vec Ideal S64x512 .f32) (m3 : Memref sig .tc .vmem S8x1x4x512 .f32) (h3 : m3.IsWhole) (m4 : Memref sig .tc .vmem S64x512 .f32) (h4 : m4.IsWhole) :
    ∀ p ∈ stores (m4.view.readAt (Elt Ideal) (Rect.unit (s := S64x512) ![0, 0] S64x512.size inb_S64x512_S64x512_0_0).toLoadRect (h4.unread x4)) m3 (h3.unread x3), ∀ x : p.1.shape.Idx, p.2 x = bias x3 x4 (p.1.emb x) := by
  rw [stores_eq]
  intro p hp
  obtain ⟨z, _, rfl⟩ := List.mem_map.mp hp
  exact fun x => piece x3 x4 m3 h3 m4 h4 z.1 z.2 (in3 z.1 z.2) _ (in9 z.1 z.2) x

theorem stores_tile (v3 : FVec Ideal S64x512 .f32) (m3 : Memref sig .tc .vmem S8x1x4x512 .f32) (X : BufTy.Contents (Elt Ideal) m3.view.ty) :
    View.Piece.tiledL (stores v3 m3 X) S1x64x512.size = true := by sl_kernel_rfl

theorem read_back (G : S8x256x512.Idx → Elt Ideal .f32) (L : List (View.Piece (Elt Ideal) S8x256x512 .f32)) (hL : ∀ p ∈ L, ∀ x : p.1.shape.Idx, p.2 x = G (p.1.emb x)) (hc : View.Piece.tiledL L S1x64x512.size = true)
    (R : Rect S8x256x512) (x) : scM0_0.view.readAt (Elt Ideal) R.toLoadRect (scM0_0.view.writes (Elt Ideal) scM0_0.view.junk L) x = G (R.idx x) := by
  rw [View.readAt_eq_ld, View.ld_apply, View.read_writes_junk_eq_canon, ← List.append_nil L]
  exact View.canon_append_of_pieces G [] L hL _ (View.cover_of_tiledL L S1x64x512.size hc _)

theorem bias_read (x3 : Vec Ideal S8x1x4x512 .f32) (x4 : Vec Ideal S64x512 .f32) (m3 : Memref sig .tc .vmem S8x1x4x512 .f32) (h3 : m3.IsWhole) (m4 : Memref sig .tc .vmem S64x512 .f32) (h4 : m4.IsWhole) (R : Rect S8x256x512) (x) :
    scM0_0.view.readAt (Elt Ideal) R.toLoadRect (scM0_0.view.writes (Elt Ideal) scM0_0.view.junk (stores (m4.view.readAt (Elt Ideal) (Rect.unit (s := S64x512) ![0, 0] S64x512.size inb_S64x512_S64x512_0_0).toLoadRect (h4.unread x4)) m3 (h3.unread x3))) x = bias x3 x4 (R.idx x) :=
  read_back _ _ (stores_of x3 x4 m3 h3 m4 h4) (stores_tile _ _ _) R x

theorem trip (k : Fin k0_t1_loop.trips) (c : Dev nD) (t : Fin cfg0.N) (v2 : IVec S256x256 1) (X1 X2 X3 X9) :
   (tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (Memref.whole main_v26) (Memref.isWhole_whole _) (ms0_6 t) (hs0_6 t) scM0_0 (Memref.isWhole_whole _) v2 X1 X2 X3 X9 k)
    = [⟨Rect.unit (s := S2048x256) (k0_off1 k) S64x256.size (k0_off1_inb k),
        k0_pay2 (F := Ideal) (k0_pay3 (F := Ideal) v2
          ((ms0_0 t).view.readAt (Elt Ideal) (Rect.unit (s := S2048x256) (k0_off1 k) S64x256.size (k0_off1_inb k)).toLoadRect X1)
          ((ms0_1 t).view.readAt (Elt Ideal) (Rect.unit (s := S2048x256) (k0_off2 k) S512x256.size (k0_off2_inb k)).toLoadRect X2)
          (scM0_0.view.readAt (Elt Ideal) (Rect.unit (s := S8x256x512) (k0_off3 k) S1x256x512.size (k0_off3_inb k)).toLoadRect X9)
          ((ms0_2 t).view.readAt (Elt Ideal) (Rect.unit (s := S2048x256) (k0_off2 k) S512x256.size (k0_off2_inb k)).toLoadRect X3))
          (iota .tc S64x256 32 [1] iota_S64x256_d1_w32) 64#32 k0_pay4 0#32⟩] := by
  unfold tripL_k0_t1 trip_k0_t1
  rfl

end Cert.AttFwdIdeal.Att
end
-- ==== Proof.AttBlk.lean ====
/- The attention kernel's biases, staged once for all query rows. -/
module

public import proofs.«01_k».proof.Proof.AttBias
public import Idealize.ShloMosaic.Lib.Pipeline.ReadBack

@[expose] public section

set_option maxRecDepth 16384

noncomputable section

open Idealize.ShloMosaic Idealize.ShloMosaic.TcCoe Idealize.SL.Sem
open scoped BigOperators

namespace Cert.AttFwdIdeal.Att

open Cert.AttFwdIdeal Cert.AttFwdIdeal.Gen Cert.AttSpec

theorem trips : k0_t1_loop.trips = 32 := by decide +kernel

/-- The first grid row of a query row's window. -/
def first (r : Nat) : Nat := min (r - 4) 24

theorem first_le (r : Nat) : first r ≤ 24 := Nat.min_le_right _ _
theorem first_le' (r : Nat) : first r ≤ r := (Nat.min_le_left _ _).trans (Nat.sub_le _ _)
theorem first_near (r : Nat) (h : r < 32) : r - first r < 8 := by unfold first; omega

/-- The attention of query `(r, w)` under head `hh` of the block, in feature `d`. -/
def core (x0 x1 x2 : S2048x256.Idx → EReal) (x3 : Vec Ideal S8x1x4x512 .f32) (x4 : Vec Ideal S64x512 .f32) (v2 : IVec S256x256 1) (r : Fin 32) (w : Fin 64) (hh : Fin 4) (d : Fin 64) : EReal :=
  soft (fun x => (∑ e : Fin 256, Scalar.select (v2 (ix2 ⟨64 * hh.val + w.val, by omega⟩ e)) (x0 (ix2 ⟨64 * r.val + w.val, by omega⟩ e) * Ideal.ofBits FTy.bf16 15872#16 * x1 (ix2 ⟨64 * first r.val + x.val, by have := first_le r.val; omega⟩ e)) 0)
      + bias x3 x4 (ix3 ⟨r.val - first r.val, first_near r.val r.isLt⟩ ⟨64 * hh.val + w.val, by omega⟩ x))
    (fun x => x2 (ix2 ⟨64 * first r.val + x.val, by have := first_le r.val; omega⟩ ⟨64 * hh.val + d.val, by omega⟩))

theorem at1 (k : Fin k0_t1_loop.trips) (hk : k.val < 32) (inb) (w : Fin 64) (e : Fin 256) :
    (Rect.unit (s := S2048x256) (k0_off1 k) S64x256.size inb).idx (ix2 w e) = ix2 ⟨64 * k.val + w.val, by omega⟩ e := by
  funext a
  refine Fin.ext ((Rect.idx_unit_val _ _ _ _ _).trans ?_)
  refine (congrArg (· + _) (congrFun (off1 k) a)).trans ?_
  fin_cases a <;> simp [ix2]
theorem at2 (k : Fin k0_t1_loop.trips) (hk : k.val < 32) (inb) (x : Fin 512) (e : Fin 256) :
    (Rect.unit (s := S2048x256) (k0_off2 k) S512x256.size inb).idx (ix2 x e) = ix2 ⟨64 * first k.val + x.val, by have := first_le k.val; omega⟩ e := by
  funext a
  refine Fin.ext ((Rect.idx_unit_val _ _ _ _ _).trans ?_)
  refine (congrArg (· + _) (congrFun (off2 k) a)).trans ?_
  fin_cases a <;> simp [ix2, first]
theorem at3 (k : Fin k0_t1_loop.trips) (hk : k.val < 32) (inb) (p : Fin 256) (x : Fin 512) :
    (Rect.unit (s := S8x256x512) (k0_off3 k) S1x256x512.size inb).idx (ix3 0 p x) = ix3 ⟨k.val - first k.val, first_near k.val hk⟩ p x := by
  funext a
  refine Fin.ext ((Rect.idx_unit_val _ _ _ _ _).trans ?_)
  refine (congrArg (· + _) (congrFun (off3 k) a)).trans ?_
  fin_cases a <;> simp [ix3, first]

theorem pay (x0 x1 x2 : Vec Ideal S2048x256 .bf16) (x3 : Vec Ideal S8x1x4x512 .f32) (x4 : Vec Ideal S64x512 .f32) (v2 : IVec S256x256 1) (t : Fin cfg0.N)
    (k : Fin k0_t1_loop.trips) (hk : k.val < 32) (i1 i2 i3) (w : Fin 64) (hh : Fin 4) (d : Fin 64) :
    k0_pay2 (F := Ideal) (k0_pay3 (F := Ideal) v2
          ((ms0_0 t).view.readAt (Elt Ideal) (Rect.unit (s := S2048x256) (k0_off1 k) S64x256.size i1).toLoadRect ((hs0_0 t).unread x0))
          ((ms0_1 t).view.readAt (Elt Ideal) (Rect.unit (s := S2048x256) (k0_off2 k) S512x256.size i2).toLoadRect ((hs0_1 t).unread x1))
          (scM0_0.view.readAt (Elt Ideal) (Rect.unit (s := S8x256x512) (k0_off3 k) S1x256x512.size i3).toLoadRect (scM0_0.view.writes (Elt Ideal) scM0_0.view.junk
            (stores ((ms0_4 t).view.readAt (Elt Ideal) (Rect.unit (s := S64x512) ![0, 0] S64x512.size inb_S64x512_S64x512_0_0).toLoadRect ((hs0_4 t).unread x4)) (ms0_3 t) ((hs0_3 t).unread x3))))
          ((ms0_2 t).view.readAt (Elt Ideal) (Rect.unit (s := S2048x256) (k0_off2 k) S512x256.size i2).toLoadRect ((hs0_2 t).unread x2)))
          (iota .tc S64x256 32 [1] iota_S64x256_d1_w32) 64#32 k0_pay4 0#32 (ix2 w ⟨64 * hh.val + d.val, by omega⟩)
      = core x0 x1 x2 x3 x4 v2 ⟨k.val, hk⟩ w hh d := by
  have e0 : ∀ (w : Fin 64) (e : Fin 256), (ms0_0 t).view.readAt (Elt Ideal) (Rect.unit (s := S2048x256) (k0_off1 k) S64x256.size i1).toLoadRect ((hs0_0 t).unread x0) (ix2 w e) = x0 (ix2 ⟨64 * k.val + w.val, by omega⟩ e) := by
    intro w e
    rw [View.readAt_eq_ld, (hs0_0 t).read_unread]
    exact congrArg x0 (at1 k hk i1 w e)
  have e1 : ∀ (x : Fin 512) (e : Fin 256), (ms0_1 t).view.readAt (Elt Ideal) (Rect.unit (s := S2048x256) (k0_off2 k) S512x256.size i2).toLoadRect ((hs0_1 t).unread x1) (ix2 x e) = x1 (ix2 ⟨64 * first k.val + x.val, by have := first_le k.val; omega⟩ e) := by
    intro x e
    rw [View.readAt_eq_ld, (hs0_1 t).read_unread]
    exact congrArg x1 (at2 k hk i2 x e)
  have e2 : ∀ (x : Fin 512) (e : Fin 256), (ms0_2 t).view.readAt (Elt Ideal) (Rect.unit (s := S2048x256) (k0_off2 k) S512x256.size i2).toLoadRect ((hs0_2 t).unread x2) (ix2 x e) = x2 (ix2 ⟨64 * first k.val + x.val, by have := first_le k.val; omega⟩ e) := by
    intro x e
    rw [View.readAt_eq_ld, (hs0_2 t).read_unread]
    exact congrArg x2 (at2 k hk i2 x e)
  have e3 : ∀ (p : Fin 256) (x : Fin 512), (scM0_0.view.readAt (Elt Ideal) (Rect.unit (s := S8x256x512) (k0_off3 k) S1x256x512.size i3).toLoadRect (scM0_0.view.writes (Elt Ideal) scM0_0.view.junk
            (stores ((ms0_4 t).view.readAt (Elt Ideal) (Rect.unit (s := S64x512) ![0, 0] S64x512.size inb_S64x512_S64x512_0_0).toLoadRect ((hs0_4 t).unread x4)) (ms0_3 t) ((hs0_3 t).unread x3)))) (ix3 0 p x) = bias x3 x4 (ix3 ⟨k.val - first k.val, first_near k.val hk⟩ p x) := by
    intro p x
    exact (bias_read x3 x4 _ _ _ _ _ _).trans (congrArg (bias x3 x4) (at3 k hk i3 p x))
  rw [pay2, pay3]
  unfold core
  simp only [e0, e1, e2, e3]

/-- The block's attention. -/
def block (x0 x1 x2 : S2048x256.Idx → EReal) (x3 : Vec Ideal S8x1x4x512 .f32) (x4 : Vec Ideal S64x512 .f32) (v2 : IVec S256x256 1) : S2048x256.Idx → Elt Ideal .bf16 := fun y =>
  core x0 x1 x2 x3 x4 v2 ⟨(y 0).val / 64, by have : (y 0).val < 2048 := (y 0).isLt; omega⟩ ⟨(y 0).val % 64, by omega⟩ ⟨(y 1).val / 64, by have : (y 1).val < 256 := (y 1).isLt; omega⟩ ⟨(y 1).val % 64, by omega⟩

theorem block_at (x0 x1 x2 : S2048x256.Idx → EReal) (x3 : Vec Ideal S8x1x4x512 .f32) (x4 : Vec Ideal S64x512 .f32) (v2 : IVec S256x256 1) (r : Fin 32) (w : Fin 64) (hh : Fin 4) (d : Fin 64) :
    block x0 x1 x2 x3 x4 v2 (ix2 ⟨64 * r.val + w.val, by omega⟩ ⟨64 * hh.val + d.val, by omega⟩) = core x0 x1 x2 x3 x4 v2 r w hh d := by
  have a1 : (⟨(64 * r.val + w.val) / 64, by omega⟩ : Fin 32) = r := Fin.ext (by simp only []; omega)
  have a2 : (⟨(64 * r.val + w.val) % 64, by omega⟩ : Fin 64) = w := Fin.ext (by simp only []; omega)
  have a3 : (⟨(64 * hh.val + d.val) / 64, by omega⟩ : Fin 4) = hh := Fin.ext (by simp only []; omega)
  have a4 : (⟨(64 * hh.val + d.val) % 64, by omega⟩ : Fin 64) = d := Fin.ext (by simp only []; omega)
  show core x0 x1 x2 x3 x4 v2 ⟨(64 * r.val + w.val) / 64, _⟩ ⟨(64 * r.val + w.val) % 64, _⟩ ⟨(64 * hh.val + d.val) / 64, _⟩ ⟨(64 * hh.val + d.val) % 64, _⟩ = _
  rw [a1, a2, a3, a4]

theorem pieces (x0 x1 x2 : Vec Ideal S2048x256 .bf16) (x3 : Vec Ideal S8x1x4x512 .f32) (x4 : Vec Ideal S64x512 .f32) (v2 : IVec S256x256 1) (c : Dev nD) (t : Fin cfg0.N) :
    ∀ n, n ≤ 32 → ∀ p ∈ pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (Memref.whole main_v26) (Memref.isWhole_whole _) (ms0_6 t) (hs0_6 t) scM0_0 (Memref.isWhole_whole _) v2
      ((hs0_0 t).unread x0) ((hs0_1 t).unread x1) ((hs0_2 t).unread x2) (scM0_0.view.writes (Elt Ideal) scM0_0.view.junk (stores ((ms0_4 t).view.readAt (Elt Ideal) (Rect.unit (s := S64x512) ![0, 0] S64x512.size inb_S64x512_S64x512_0_0).toLoadRect ((hs0_4 t).unread x4)) (ms0_3 t) ((hs0_3 t).unread x3))) n,
      ∀ x, p.2 x = block x0 x1 x2 x3 x4 v2 (p.1.emb x)
  | 0, _ => fun p hp => absurd hp List.not_mem_nil
  | n + 1, hn => by
    intro p hp
    have hs := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (Memref.whole main_v26) (Memref.isWhole_whole _) (ms0_6 t) (hs0_6 t) scM0_0 (Memref.isWhole_whole _) v2
      ((hs0_0 t).unread x0) ((hs0_1 t).unread x1) ((hs0_2 t).unread x2) (scM0_0.view.writes (Elt Ideal) scM0_0.view.junk (stores ((ms0_4 t).view.readAt (Elt Ideal) (Rect.unit (s := S64x512) ![0, 0] S64x512.size inb_S64x512_S64x512_0_0).toLoadRect ((hs0_4 t).unread x4)) (ms0_3 t) ((hs0_3 t).unread x3))) (⟨n, by rw [trips]; omega⟩ : Fin k0_t1_loop.trips)
    rw [hs, trip] at hp
    rcases List.mem_append.mp hp with h | h
    · obtain rfl := List.mem_singleton.mp h
      intro z
      idx_vars z
      have hx : z1 = ⟨64 * (⟨z1.val / 64, by omega⟩ : Fin 4).val + (⟨z1.val % 64, by omega⟩ : Fin 64).val, by simp only []; omega⟩ := Fin.ext (by simp only []; omega)
      rw [hx]
      refine (pay x0 x1 x2 x3 x4 v2 t ⟨n, _⟩ (by simp only []; omega) _ _ _ z0 ⟨z1.val / 64, by omega⟩ ⟨z1.val % 64, by omega⟩).trans ?_
      rw [← block_at]
      refine congrArg (block x0 x1 x2 x3 x4 v2) ?_
      exact (at1 ⟨n, _⟩ (by simp only []; omega) _ _ _).symm
    · exact pieces x0 x1 x2 x3 x4 v2 c t n (by omega) p h

variable (m : (ℓ : Loc nD τ sig) → Buf (Elt Ideal) ℓ)

theorem blocks (c : Dev nD) (t : Fin cfg0.N) (G : S2048x256.Idx → Elt Ideal .bf16)
    (h : ∀ p ∈ pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (Memref.whole main_v26) (Memref.isWhole_whole _) (ms0_6 t) (hs0_6 t) scM0_0 (Memref.isWhole_whole _)
      (k0_pay5 (F := Ideal) ((ms0_5 t).view.readAt (Elt Ideal) (Rect.unit (s := S256x256) ![0, 0] S256x256.size inb_S256x256_S256x256_0_0).toLoadRect ((hs0_5 t).unread (iblk m c 5 t))))
      ((hs0_0 t).unread (iblk m c 0 t)) ((hs0_1 t).unread (iblk m c 1 t)) ((hs0_2 t).unread (iblk m c 2 t)) (scM0_0.view.writes (Elt Ideal) scM0_0.view.junk (stores ((ms0_4 t).view.readAt (Elt Ideal) (Rect.unit (s := S64x512) ![0, 0] S64x512.size inb_S64x512_S64x512_0_0).toLoadRect ((hs0_4 t).unread (iblk m c 4 t))) (ms0_3 t) ((hs0_3 t).unread (iblk m c 3 t)))) 32, ∀ x, p.2 x = G (p.1.emb x)) (y) : outsAt0 m c t y = G y := by
  unfold outsAt0; unfold out0_A_6; rw [View.read_writes_junk_eq_canon]
  rw [← List.append_nil (kernelRun0_A _ _ _ _ _ _ _ _ _ _ _ _ _ _ _ _ _ _ _ _ _ _ _ _).1]
  refine View.canon_append_of_pieces G [] _ (fun p hp => ?_) y (cover0_A_6 _ _ _ _ _ _ _ _ _ _ _ _ _ _ _ _ _ _ _ _ _ _ _ _ y)
  exact h p hp

theorem after (c : Dev nD) (t : Fin cfg0.N) : outsAt0 m c t = block (iblk m c 0 t) (iblk m c 1 t) (iblk m c 2 t) (iblk m c 3 t) (iblk m c 4 t)
    (k0_pay5 (F := Ideal) ((ms0_5 t).view.readAt (Elt Ideal) (Rect.unit (s := S256x256) ![0, 0] S256x256.size inb_S256x256_S256x256_0_0).toLoadRect ((hs0_5 t).unread (iblk m c 5 t)))) :=
  funext fun y => blocks m c t _ (pieces (iblk m c 0 t) (iblk m c 1 t) (iblk m c 2 t) (iblk m c 3 t) (iblk m c 4 t) _ c t 32 le_rfl) y

end Cert.AttFwdIdeal.Att
end
-- ==== Proof.AttLit.lean ====
/- The index tables of the reference, as functions of their coordinates. -/
module

public import proofs.«01_k».proof.Proof.Gen.AttFwdReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.AttFwdReferenceIdeal.Att

open Cert.AttFwdReferenceIdeal Cert.AttFwdReferenceIdeal.Gen

/-- First grid row of a query row's window. -/
def rs (r : Nat) : Nat := min (r - 4) 24
/-- First grid column of a query column's window. -/
def ws (w : Nat) : Nat := min (w - 8) 48
/-- The bias's column for a query column and a key column. -/
def bc (w c : Nat) : Nat := min (max (c + 15) w - w) 30

theorem lit0_eq : ∀ (r : Fin 32) (a : Fin 8), lit0 ⟨r.val * 8 + a.val, by omega⟩ = BitVec.ofNat 32 (rs r.val + a.val) := by
  decide +kernel
theorem lit1_eq : ∀ (r : Fin 32) (a : Fin 8), lit1 ⟨r.val * 8 + a.val, by omega⟩ = BitVec.ofNat 32 (rs r.val + a.val + 7 - r.val) := by
  decide +kernel
theorem lit2_eq : ∀ (w c : Fin 64), lit2 ⟨w.val * 64 + c.val, by omega⟩ = BitVec.ofNat 32 (bc w.val c.val) := by
  decide +kernel
theorem lit3_eq : ∀ (w c : Fin 64), lit3 ⟨w.val * 64 + c.val, by omega⟩ = (if ws w.val ≤ c.val ∧ c.val < ws w.val + 16 then 1#1 else 0#1) := by
  decide +kernel

end Cert.AttFwdReferenceIdeal.Att
end
-- ==== Proof.AttTab.lean ====
/- The index tables of the attention's reference, and its gathers read at an index. -/
module

public import proofs.«01_k».proof.Proof.Gen.AttFwdReferenceIdeal.Run
public import proofs.«01_k».proof.Proof.AttLit
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.AttFwdReferenceIdeal.Att

open Cert.AttFwdReferenceIdeal Cert.AttFwdReferenceIdeal.Gen

theorem tab0 (i : Fin 32) (j : Fin 8) : lit0 (S32x8.rowMajor (ix2 i j)) = BitVec.ofNat 32 (rs i.val + j.val) := by
  have h : i.val * 8 + j.val < 256 := by omega
  exact (congrArg lit0 (@Fin.ext 256 (S32x8.rowMajor (ix2 i j)) ⟨i.val * 8 + j.val, h⟩ (Shape.rowMajor_val_two (d := ![32, 8]) (ix2 i j)))).trans (lit0_eq i j)
theorem tab1 (i : Fin 32) (j : Fin 8) : lit1 (S32x8.rowMajor (ix2 i j)) = BitVec.ofNat 32 (rs i.val + j.val + 7 - i.val) := by
  have h : i.val * 8 + j.val < 256 := by omega
  exact (congrArg lit1 (@Fin.ext 256 (S32x8.rowMajor (ix2 i j)) ⟨i.val * 8 + j.val, h⟩ (Shape.rowMajor_val_two (d := ![32, 8]) (ix2 i j)))).trans (lit1_eq i j)
theorem tab2 (i : Fin 64) (j : Fin 64) : lit2 (S64x64.rowMajor (ix2 i j)) = BitVec.ofNat 32 (bc i.val j.val) := by
  have h : i.val * 64 + j.val < 4096 := by omega
  exact (congrArg lit2 (@Fin.ext 4096 (S64x64.rowMajor (ix2 i j)) ⟨i.val * 64 + j.val, h⟩ (Shape.rowMajor_val_two (d := ![64, 64]) (ix2 i j)))).trans (lit2_eq i j)
theorem tab3 (i : Fin 64) (j : Fin 64) : lit3 (S64x64.rowMajor (ix2 i j)) = (if ws i.val ≤ j.val ∧ j.val < ws i.val + 16 then 1#1 else 0#1) := by
  have h : i.val * 64 + j.val < 4096 := by omega
  exact (congrArg lit3 (@Fin.ext 4096 (S64x64.rowMajor (ix2 i j)) ⟨i.val * 64 + j.val, h⟩ (Shape.rowMajor_val_two (d := ![64, 64]) (ix2 i j)))).trans (lit3_eq i j)

variable {α : Type}

theorem gatherRows (x : S32x64x8x64.Idx → α) (i : IVec S32x8x1 32) (r : Fin 32) (a : Fin 8) (c : Fin 64) (h : Fin 8) (d : Fin 64) :
    Host.gather gather_S32x64x8x64_S32x8x1_S32x8x64x8x64_234_0_n_n_0_2_164864 x i (ix5 r a c h d)
      = x (ix4 ⟨min (i (ix3 r a 0)).toInt.toNat 31, by omega⟩ c h d) := by
  unfold Host.gather
  congr 1
  funext ax
  refine Fin.ext ?_
  have hsi : ∀ k, gather_S32x64x8x64_S32x8x1_S32x8x64x8x64_234_0_n_n_0_2_164864.siIdx (ix5 r a c h d) k = ix3 r a 0 := by
    intro k
    have hk : k = ⟨0, by decide⟩ := Fin.ext (Nat.lt_one_iff.mp k.isLt)
    subst hk
    funext b; refine Fin.ext ?_
    match b with
    | ⟨0, _⟩ => rfl
    | ⟨1, _⟩ => rfl
    | ⟨2, _⟩ => rfl
  match ax with
  | ⟨0, _⟩ =>
    show GatherDims.start _ (ix5 r a c h d) i 0 + GatherDims.batchCoord _ (ix5 r a c h d) 0 + GatherDims.offCoord _ (ix5 r a c h d) 0 = _
    have h1 : GatherDims.batchCoord gather_S32x64x8x64_S32x8x1_S32x8x64x8x64_234_0_n_n_0_2_164864 (ix5 r a c h d) 0 = 0 := rfl
    have h2 : GatherDims.offCoord gather_S32x64x8x64_S32x8x1_S32x8x64x8x64_234_0_n_n_0_2_164864 (ix5 r a c h d) 0 = 0 := rfl
    rw [h1, h2]
    unfold GatherDims.start
    rw [dif_pos (show (0 : Fin 4) ∈ gather_S32x64x8x64_S32x8x1_S32x8x64x8x64_234_0_n_n_0_2_164864.startIndexMap from List.mem_singleton.mpr rfl), hsi]
    rfl
  | ⟨1, _⟩ => exact (Nat.zero_add _).trans rfl
  | ⟨2, _⟩ => exact (Nat.zero_add _).trans rfl
  | ⟨3, _⟩ => exact (Nat.zero_add _).trans rfl

theorem gatherBias (x : S8x15x31.Idx → α) (i : IVec S32x8x1 32) (h : Fin 8) (r : Fin 32) (a : Fin 8) (b : Fin 31) :
    Host.gather gather_S8x15x31_S32x8x1_S8x32x8x31_03_1_n_n_1_2_8131 x i (ix4 h r a b)
      = x (ix3 h ⟨min (i (ix3 r a 0)).toInt.toNat 14, by omega⟩ b) := by
  unfold Host.gather
  congr 1
  funext ax
  refine Fin.ext ?_
  have hsi : ∀ k, gather_S8x15x31_S32x8x1_S8x32x8x31_03_1_n_n_1_2_8131.siIdx (ix4 h r a b) k = ix3 r a 0 := by
    intro k
    have hk : k = ⟨0, by decide⟩ := Fin.ext (Nat.lt_one_iff.mp k.isLt)
    subst hk
    funext b; refine Fin.ext ?_
    match b with
    | ⟨0, _⟩ => rfl
    | ⟨1, _⟩ => rfl
    | ⟨2, _⟩ => rfl
  match ax with
  | ⟨0, _⟩ => exact (Nat.zero_add _).trans rfl
  | ⟨1, _⟩ =>
    show GatherDims.start _ (ix4 h r a b) i 1 + GatherDims.batchCoord _ (ix4 h r a b) 1 + GatherDims.offCoord _ (ix4 h r a b) 1 = _
    have h1 : GatherDims.batchCoord gather_S8x15x31_S32x8x1_S8x32x8x31_03_1_n_n_1_2_8131 (ix4 h r a b) 1 = 0 := rfl
    have h2 : GatherDims.offCoord gather_S8x15x31_S32x8x1_S8x32x8x31_03_1_n_n_1_2_8131 (ix4 h r a b) 1 = 0 := rfl
    rw [h1, h2]
    unfold GatherDims.start
    rw [dif_pos (show (1 : Fin 3) ∈ gather_S8x15x31_S32x8x1_S8x32x8x31_03_1_n_n_1_2_8131.startIndexMap from List.mem_singleton.mpr rfl), hsi]
    rfl
  | ⟨2, _⟩ => exact (Nat.zero_add _).trans rfl

theorem gatherCols (x : S8x32x8x31.Idx → α) (i : IVec S64x64x1 32) (h : Fin 8) (r : Fin 32) (a : Fin 8) (w : Fin 64) (c : Fin 64) :
    Host.gather gather_S8x32x8x31_S64x64x1_S8x32x8x64x64_012_3_n_n_3_2_83281 x i (ix5 h r a w c)
      = x (ix4 h r a ⟨min (i (ix3 w c 0)).toInt.toNat 30, by omega⟩) := by
  unfold Host.gather
  congr 1
  funext ax
  refine Fin.ext ?_
  have hsi : ∀ k, gather_S8x32x8x31_S64x64x1_S8x32x8x64x64_012_3_n_n_3_2_83281.siIdx (ix5 h r a w c) k = ix3 w c 0 := by
    intro k
    have hk : k = ⟨0, by decide⟩ := Fin.ext (Nat.lt_one_iff.mp k.isLt)
    subst hk
    funext b; refine Fin.ext ?_
    match b with
    | ⟨0, _⟩ => rfl
    | ⟨1, _⟩ => rfl
    | ⟨2, _⟩ => rfl
  match ax with
  | ⟨0, _⟩ => exact (Nat.zero_add _).trans rfl
  | ⟨1, _⟩ => exact (Nat.zero_add _).trans rfl
  | ⟨2, _⟩ => exact (Nat.zero_add _).trans rfl
  | ⟨3, _⟩ =>
    show GatherDims.start _ (ix5 h r a w c) i 3 + GatherDims.batchCoord _ (ix5 h r a w c) 3 + GatherDims.offCoord _ (ix5 h r a w c) 3 = _
    have h1 : GatherDims.batchCoord gather_S8x32x8x31_S64x64x1_S8x32x8x64x64_012_3_n_n_3_2_83281 (ix5 h r a w c) 3 = 0 := rfl
    have h2 : GatherDims.offCoord gather_S8x32x8x31_S64x64x1_S8x32x8x64x64_012_3_n_n_3_2_83281 (ix5 h r a w c) 3 = 0 := rfl
    rw [h1, h2]
    unfold GatherDims.start
    rw [dif_pos (show (3 : Fin 4) ∈ gather_S8x32x8x31_S64x64x1_S8x32x8x64x64_012_3_n_n_3_2_83281.startIndexMap from List.mem_singleton.mpr rfl), hsi]
    rfl

end Cert.AttFwdReferenceIdeal.Att
end
-- ==== Proof.AttRef.lean ====
/- The attention's reference, read at an index. -/
module

public import proofs.«01_k».proof.Proof.Gen.AttFwdReferenceIdeal.Run
public import proofs.«01_k».proof.Proof.AttTab
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.AttFwdReferenceIdeal.Att

open Cert.AttFwdReferenceIdeal Cert.AttFwdReferenceIdeal.Gen

/-- The window's grid rows, as start indices. -/
def ridx : IVec S32x8x1 32 :=
  broadcastInDim S32x8x1 ![0, 1] bcast_S32x8_S32x8x1_0_1 (select (constantI S32x8 1 0#1) (addi ((fun i => lit0 (S32x8.rowMajor i))) (broadcastInDim S32x8 ![] bcast_S_S32x8 (constantI S_ 32 32#32))) ((fun i => lit0 (S32x8.rowMajor i))))
/-- The bias's rows, as start indices. -/
def bidx : IVec S32x8x1 32 :=
  broadcastInDim S32x8x1 ![0, 1] bcast_S32x8_S32x8x1_0_1 (select (constantI S32x8 1 0#1) (addi ((fun i => lit1 (S32x8.rowMajor i))) (broadcastInDim S32x8 ![] bcast_S_S32x8 (constantI S_ 32 15#32))) ((fun i => lit1 (S32x8.rowMajor i))))
/-- The bias's columns, as start indices. -/
def cidx : IVec S64x64x1 32 :=
  broadcastInDim S64x64x1 ![0, 1] bcast_S64x64_S64x64x1_0_1 (select (constantI S64x64 1 0#1) (addi ((fun i => lit2 (S64x64.rowMajor i))) (broadcastInDim S64x64 ![] bcast_S_S64x64 (constantI S_ 32 31#32))) ((fun i => lit2 (S64x64.rowMajor i))))
/-- The window's keys. -/
def kw (A : FVec Ideal S2048x1536 .bf16) : FVec Ideal S32x512x8x64 .f32 :=
  shapeCast _ (Host.gather gather_S32x64x8x64_S32x8x1_S32x8x64x8x64_234_0_n_n_0_2_164864 (shapeCast _ (extractStridedSlice S2048x8x64 ![0, 8, 0] (shapeCast _ (extf .f32 A bitsLt_bf16_f32) shapeCasts_S2048x1536_S2048x24x64) slices_S2048x24x64_S2048x8x64_0_8_0) shapeCasts_S2048x8x64_S32x64x8x64) ridx) shapeCasts_S32x8x64x8x64_S32x512x8x64
/-- The window's values. -/
def vw (A : FVec Ideal S2048x1536 .bf16) : FVec Ideal S32x512x8x64 .f32 :=
  shapeCast _ (Host.gather gather_S32x64x8x64_S32x8x1_S32x8x64x8x64_234_0_n_n_0_2_164864 (shapeCast _ (extractStridedSlice S2048x8x64 ![0, 16, 0] (shapeCast _ (extf .f32 A bitsLt_bf16_f32) shapeCasts_S2048x1536_S2048x24x64) slices_S2048x24x64_S2048x8x64_0_16_0) shapeCasts_S2048x8x64_S32x64x8x64) ridx) shapeCasts_S32x8x64x8x64_S32x512x8x64
/-- The bias of every query and key of its window. -/
def bias (B : FVec Ideal S8x15x31 .f32) : FVec Ideal S8x32x64x512 .f32 :=
  shapeCast _ (transpose S8x32x64x8x64 [0, 1, 3, 2, 4] (Host.gather gather_S8x32x8x31_S64x64x1_S8x32x8x64x64_012_3_n_n_3_2_83281 (Host.gather gather_S8x15x31_S32x8x1_S8x32x8x31_03_1_n_n_1_2_8131 B bidx) cidx) transposes_S8x32x8x64x64_S8x32x64x8x64_0_1_3_2_4) shapeCasts_S8x32x64x8x64_S8x32x64x512
/-- The masked scores. -/
def sc (A : FVec Ideal S2048x1536 .bf16) (B : FVec Ideal S8x15x31 .f32) : FVec Ideal S8x32x64x512 .f32 :=
  select (broadcastInDim S8x32x64x512 ![2, 3] bcast_S64x512_S8x32x64x512_2_3 (shapeCast _ (broadcastInDim S64x8x64 ![0, 1, 2] bcast_S64x1x64_S64x8x64_0_1_2 (broadcastInDim S64x1x64 ![0, 2] bcast_S64x64_S64x1x64_0_2 ((fun i => lit3 (S64x64.rowMajor i))))) shapeCasts_S64x8x64_S64x512)) (addf (Host.dotGeneral dot_S32x64x8x64_S32x512x8x64_S8x32x64x512_3_3_1_1_20_20 none (shapeCast _ (mulf (extractStridedSlice S2048x8x64 ![0, 0, 0] (shapeCast _ (extf .f32 A bitsLt_bf16_f32) shapeCasts_S2048x1536_S2048x24x64) slices_S2048x24x64_S2048x8x64_0_0_0) (broadcastInDim S2048x8x64 ![] bcast_S_S2048x8x64 (constant S_ .f32 0x3E000000#32))) shapeCasts_S2048x8x64_S32x64x8x64) (kw A)) (bias B)) (broadcastInDim S8x32x64x512 ![] bcast_S_S8x32x64x512 (id (constant S_ .f32 0xFF800000#32)))
/-- The exponentials of the scores less their maximum. -/
def ex (A : FVec Ideal S2048x1536 .bf16) (B : FVec Ideal S8x15x31 .f32) : FVec Ideal S8x32x64x512 .f32 :=
  Host.exp (subf (sc A B) (broadcastInDim S8x32x64x512 ![0, 1, 2, 3] bcast_S8x32x64x1_S8x32x64x512_0_1_2_3 (broadcastInDim S8x32x64x1 ![0, 1, 2] bcast_S8x32x64_S8x32x64x1_0_1_2 (Host.reduce FloatOps.maximumf (sc A B) (constant S_ .f32 0xFF800000#32) reducesTo_S8x32x64x512_S8x32x64_d3 h_S_))))
/-- The attention. -/
def out (A : FVec Ideal S2048x1536 .bf16) (B : FVec Ideal S8x15x31 .f32) : FVec Ideal S2048x512 .bf16 :=
  truncf .bf16 (shapeCast _ (transpose S32x64x8x64 [0, 3, 1, 2] (Host.dotGeneral dot_S32x512x8x64_S8x32x64x512_S32x8x64x64_1_3_3_2_02_10 none (vw A) (mulf (ex A B) (broadcastInDim S8x32x64x512 ![0, 1, 2, 3] bcast_S8x32x64x1_S8x32x64x512_0_1_2_3 (Host.divf (broadcastInDim S8x32x64x1 ![] bcast_S_S8x32x64x1 (constant S_ .f32 0x3F800000#32)) (broadcastInDim S8x32x64x1 ![0, 1, 2] bcast_S8x32x64_S8x32x64x1_0_1_2 (Host.reduceAdd (ex A B) (constant S_ .f32 0x00000000#32) reducesTo_S8x32x64x512_S8x32x64_d3 h_S_)))))) transposes_S32x8x64x64_S32x64x8x64_0_3_1_2) shapeCasts_S32x64x8x64_S2048x512) bitsLt_bf16_f32

theorem rs_le (r : Nat) : rs r ≤ 24 := Nat.min_le_right _ _
theorem bc_le (w c : Nat) : bc w c ≤ 30 := Nat.min_le_right _ _
theorem toNat_small : ∀ n : Fin 64, (BitVec.ofNat 32 n.val).toInt.toNat = n.val := by decide

theorem ridx_apply (r : Fin 32) (a : Fin 8) : (ridx (ix3 r a 0)).toInt.toNat = rs r.val + a.val := by
  have h := rs_le r.val
  unfold ridx
  pointwise
  rw [tab0]
  exact toNat_small ⟨rs r.val + a.val, by omega⟩
theorem bidx_apply (r : Fin 32) (a : Fin 8) : (bidx (ix3 r a 0)).toInt.toNat = rs r.val + a.val + 7 - r.val := by
  have h := rs_le r.val
  unfold bidx
  pointwise
  rw [tab1]
  exact toNat_small ⟨rs r.val + a.val + 7 - r.val, by omega⟩
theorem cidx_apply (w c : Fin 64) : (cidx (ix3 w c 0)).toInt.toNat = bc w.val c.val := by
  have h := bc_le w.val c.val
  unfold cidx
  pointwise
  rw [tab2]
  exact toNat_small ⟨bc w.val c.val, by omega⟩

theorem res_eq (m : (ℓ : Loc nD τ sig) → Buf (Elt Ideal) ℓ) (c : Dev nD) :
    Value.res_main_v54 m c = out (m ((c.tc : Thread nD τ).loc main_arg0)) (m ((c.tc : Thread nD τ).loc main_arg1)) := rfl

end Cert.AttFwdReferenceIdeal.Att
end
-- ==== Proof.AttRefB.lean ====
/- The attention's reference, read at an index. -/
module

public import proofs.«01_k».proof.Proof.Gen.AttFwdReferenceIdeal.Run
public import proofs.«01_k».proof.Proof.AttRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.AttFwdReferenceIdeal.Att

open Cert.AttFwdReferenceIdeal Cert.AttFwdReferenceIdeal.Gen

theorem two_eq {n k : Nat} {α : Type} (A : (⟨2, ![n, k]⟩ : Shape).Idx → α) (i i' j j' : Nat) (hi : i < n) (hi' : i' < n) (hj : j < k) (hj' : j' < k) (e : i = i') (e' : j = j') :
    A (ix2 ⟨i, hi⟩ ⟨j, hj⟩) = A (ix2 ⟨i', hi'⟩ ⟨j', hj'⟩) := by subst e; subst e'; rfl

theorem kw_apply (A : FVec Ideal S2048x1536 .bf16) (r : Fin 32) (j : Fin 512) (h : Fin 8) (d : Fin 64) :
    kw A (ix4 r j h d) = A (ix2 ⟨rs r.val * 64 + j.val, by have := rs_le r.val; omega⟩ ⟨512 + h.val * 64 + d.val, by omega⟩) := by
  have hr := rs_le r.val
  unfold kw
  pointwise
  rw [gatherRows]
  simp only [ridx_apply]
  pointwise
  exact two_eq A _ _ _ _ _ _ _ _ (by omega) (by omega)
theorem vw_apply (A : FVec Ideal S2048x1536 .bf16) (r : Fin 32) (j : Fin 512) (h : Fin 8) (d : Fin 64) :
    vw A (ix4 r j h d) = A (ix2 ⟨rs r.val * 64 + j.val, by have := rs_le r.val; omega⟩ ⟨1024 + h.val * 64 + d.val, by omega⟩) := by
  have hr := rs_le r.val
  unfold vw
  pointwise
  rw [gatherRows]
  simp only [ridx_apply]
  pointwise
  exact two_eq A _ _ _ _ _ _ _ _ (by omega) (by omega)
theorem bias_apply (B : FVec Ideal S8x15x31 .f32) (r : Fin 32) (j : Fin 512) (h : Fin 8) (w : Fin 64) :
    bias B (ix4 h r w j) = B (ix3 h ⟨min (rs r.val + j.val / 64 + 7 - r.val) 14, by omega⟩ ⟨bc w.val (j.val % 64), by have := bc_le w.val (j.val % 64); omega⟩) := by
  unfold bias
  pointwise
  rw [gatherCols, gatherBias]
  simp only [bidx_apply, cidx_apply]
  have hb := bc_le w.val (j.val % 64)
  congr 1
  refine congrArg (ix3 _ _) (Fin.ext ?_)
  simp only []
  omega

end Cert.AttFwdReferenceIdeal.Att
end
-- ==== Proof.AttRefC.lean ====
/- The attention's reference, read at an index. -/
module

public import proofs.«01_k».proof.Proof.Gen.AttFwdReferenceIdeal.Run
public import proofs.«01_k».proof.Proof.AttRefB
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.AttFwdReferenceIdeal.Att

open Cert.AttFwdReferenceIdeal Cert.AttFwdReferenceIdeal.Gen

/-- The score of one query against one key of its window. -/
def score (A : FVec Ideal S2048x1536 .bf16) (B : FVec Ideal S8x15x31 .f32) (h : Fin 8) (r : Fin 32) (w : Fin 64) (j : Fin 512) : EReal :=
  if ws w.val ≤ j.val % 64 ∧ j.val % 64 < ws w.val + 16 then
    (∑ d : Fin 64, A (ix2 ⟨r.val * 64 + w.val, by omega⟩ ⟨h.val * 64 + d.val, by omega⟩) * Ideal.ofBits FTy.f32 1040187392#32
      * A (ix2 ⟨rs r.val * 64 + j.val, by have := rs_le r.val; omega⟩ ⟨512 + h.val * 64 + d.val, by omega⟩))
    + B (ix3 h ⟨min (rs r.val + j.val / 64 + 7 - r.val) 14, by omega⟩ ⟨bc w.val (j.val % 64), by have := bc_le w.val (j.val % 64); omega⟩)
  else ⊥

theorem ninf : Ideal.ofBits FTy.f32 4286578688#32 = (⊥ : EReal) := by
  simp [Ideal.ofBits, Ideal.ieee]

theorem sc_apply (A : FVec Ideal S2048x1536 .bf16) (B : FVec Ideal S8x15x31 .f32) (h : Fin 8) (r : Fin 32) (w : Fin 64) (j : Fin 512) :
    sc A B (ix4 h r w j) = score A B h r w j := by
  unfold sc
  pointwise [kw_apply, bias_apply]
  rw [tab3]
  unfold score
  by_cases hv : ws w.val ≤ j.val % 64 ∧ j.val % 64 < ws w.val + 16
  · rw [if_pos hv, if_pos hv]
    rfl
  · rw [if_neg hv, if_neg hv]
    exact ninf

end Cert.AttFwdReferenceIdeal.Att
end
-- ==== Proof.AttRefD.lean ====
/- The attention's reference, read at an index. -/
module

public import proofs.«01_k».proof.Proof.Gen.AttFwdReferenceIdeal.Run
public import proofs.«01_k».proof.Proof.AttRefC
public import proofs.«01_k».proof.Proof.AttSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.AttFwdReferenceIdeal.Att

open Cert.AttFwdReferenceIdeal Cert.AttFwdReferenceIdeal.Gen Cert.AttSpec

theorem out_apply (A : FVec Ideal S2048x1536 .bf16) (B : FVec Ideal S8x15x31 .f32) (i : Fin 2048) (k : Fin 512) :
    out A B (ix2 i k) = soft (score A B ⟨k.val / 64, by omega⟩ ⟨i.val / 64, by omega⟩ ⟨i.val % 64, by omega⟩)
      (fun j => A (ix2 ⟨rs (i.val / 64) * 64 + j.val, by have := rs_le (i.val / 64); omega⟩ ⟨1024 + k.val, by omega⟩)) := by
  unfold out
  pointwise [ex, vw_apply, sc_apply]
  unfold soft top
  refine Finset.sum_congr rfl fun x _ => ?_
  rw [mul_comm (G := EReal)]
  exact congrArg (_ * ·) (two_eq A _ _ _ _ _ _ _ _ rfl (by omega))

end Cert.AttFwdReferenceIdeal.Att
end
-- ==== Proof.AttJoin.lean ====
/- The attention kernel's block is the reference's attention. -/
module

public import proofs.«01_k».proof.Proof.AttBlk
public import proofs.«01_k».proof.Proof.AttRefD

@[expose] public section

set_option maxRecDepth 16384

noncomputable section

open Idealize.ShloMosaic
open scoped BigOperators

namespace Cert.AttFwdIdeal.Att

open Cert.AttFwdIdeal Cert.AttFwdIdeal.Gen Cert.AttSpec
open Cert.AttFwdReferenceIdeal.Att (score rs bc ws rs_le bc_le two_eq)

theorem eighth : Ideal.ofBits FTy.bf16 15872#16 = Ideal.ofBits FTy.f32 1040187392#32 := by
  simp [Ideal.ofBits, Ideal.ieee]
  have h : ((128 * (2 ^ 10)⁻¹ : ℝ) : EReal) = ((8388608 * (2 ^ 26)⁻¹ : ℝ) : EReal) := by norm_num
  rw [EReal.coe_mul, EReal.coe_mul] at h
  exact h

theorem half_one : Ideal.ofBits FTy.f32 1056964608#32 < Ideal.ofBits FTy.f32 0x3F800000#32 := by
  simp [Ideal.ofBits, Ideal.ieee]
  have h : ((8388608 * (2 ^ 24)⁻¹ : ℝ) : EReal) < ((8388608 * (2 ^ 23)⁻¹ : ℝ) : EReal) := EReal.coe_lt_coe_iff.2 (by norm_num)
  rw [EReal.coe_mul, EReal.coe_mul] at h
  exact h

theorem half_zero : ¬ Ideal.ofBits FTy.f32 1056964608#32 < Ideal.ofBits FTy.f32 0x00000000#32 := by
  simp [Ideal.ofBits, Ideal.ieee]
  have h : ((0 : ℝ) : EReal) ≤ ((8388608 * (2 ^ 24)⁻¹ : ℝ) : EReal) := EReal.coe_le_coe_iff.2 (by norm_num)
  rw [EReal.coe_mul] at h
  exact h

theorem three_eq {n k l : Nat} {α : Type} (A : (⟨3, ![n, k, l]⟩ : Shape).Idx → α) (i i' j j' p p' : Nat) (hi : i < n) (hi' : i' < n) (hj : j < k) (hj' : j' < k)
    (hp : p < l) (hp' : p' < l) (e : i = i') (e' : j = j') (e'' : p = p') :
    A (ix3 ⟨i, hi⟩ ⟨j, hj⟩ ⟨p, hp⟩) = A (ix3 ⟨i', hi'⟩ ⟨j', hj'⟩ ⟨p', hp'⟩) := by subst e; subst e'; subst e''; rfl

variable (A : FVec Ideal S2048x1536 .bf16) (B : FVec Ideal S8x15x31 .f32) (t : Fin 2)
  (x0 x1 x2 : S2048x256.Idx → EReal) (x3 : Vec Ideal S8x1x4x512 .f32) (x4 : Vec Ideal S64x512 .f32) (v2 : IVec S256x256 1)

/-- The rotated bias row where the key is in the window, and the mask elsewhere. -/
theorem bias_eq
    (h3 : ∀ (k : Fin 8) (hh : Fin 4) (n : Fin 512) (hb : n.val % 64 < 31), x3 (ix4 k 0 hh n) = B (ix3 ⟨t.val * 4 + hh.val, by omega⟩ ⟨7 - k.val + n.val / 64, by omega⟩ ⟨n.val % 64, hb⟩))
    (h4 : ∀ (w : Fin 64) (j : Fin 512), x4 (ix2 w j) = Ideal.ofBits .f32 (if wst w.val ≤ j.val % 64 ∧ j.val % 64 < wst w.val + 16 then 0x3F800000#32 else 0x00000000#32))
    (r : Fin 32) (w : Fin 64) (hh : Fin 4) (j : Fin 512) :
    bias x3 x4 (ix3 ⟨r.val - first r.val, first_near r.val r.isLt⟩ ⟨64 * hh.val + w.val, by omega⟩ j)
      = if ws w.val ≤ j.val % 64 ∧ j.val % 64 < ws w.val + 16 then
          B (ix3 ⟨4 * t.val + hh.val, by omega⟩ ⟨min (rs r.val + j.val / 64 + 7 - r.val) 14, by omega⟩ ⟨bc w.val (j.val % 64), by have := bc_le w.val (j.val % 64); omega⟩)
        else ⊥ := by
  have ew : (⟨(64 * hh.val + w.val) % 64, by omega⟩ : Fin 64) = w := Fin.ext (by simp only []; omega)
  have eh : (⟨(64 * hh.val + w.val) / 64, by omega⟩ : Fin 4) = hh := Fin.ext (by simp only []; omega)
  show (if Ideal.ofBits FTy.f32 1056964608#32 < x4 (ix2 ⟨(64 * hh.val + w.val) % 64, by omega⟩ j)
    then x3 (ix4 ⟨r.val - first r.val, first_near r.val r.isLt⟩ 0 ⟨(64 * hh.val + w.val) / 64, by omega⟩ ⟨(j.val + 512 - (497 + (64 * hh.val + w.val) % 64) % 512) % 512, by omega⟩) else ⊥) = _
  rw [ew, eh, h4]
  by_cases hv : ws w.val ≤ j.val % 64 ∧ j.val % 64 < ws w.val + 16
  · have hv' : wst w.val ≤ j.val % 64 ∧ j.val % 64 < wst w.val + 16 := hv
    rw [if_pos hv', if_pos hv, if_pos half_one]
    have e1 : (64 * hh.val + w.val) % 64 = w.val := by omega
    have hs : ws w.val = min (w.val - 8) 48 := rfl
    have e2 : (j.val + 512 - (497 + (64 * hh.val + w.val) % 64) % 512) % 512 = j.val / 64 * 64 + (j.val % 64 + 15 - w.val) := by omega
    have e3 : j.val % 64 + 15 - w.val < 31 := by omega
    refine (h3 _ _ _ (by simp only [e2]; omega)).trans ?_
    have hr : rs r.val = min (r.val - 4) 24 := rfl
    have hf : first r.val = min (r.val - 4) 24 := rfl
    have hc : bc w.val (j.val % 64) = min (max (j.val % 64 + 15) w.val - w.val) 30 := rfl
    refine three_eq B _ _ _ _ _ _ _ _ _ _ _ _ (by omega) ?_ ?_
    · simp only [e2]; omega
    · simp only [e2]; omega
  · have hv' : ¬ (wst w.val ≤ j.val % 64 ∧ j.val % 64 < wst w.val + 16) := hv
    rw [if_neg hv', if_neg hv, if_neg half_zero]

theorem core_eq
    (h0 : ∀ (i : Fin 2048) (e : Fin 256), x0 (ix2 i e) = A (ix2 i ⟨t.val * 256 + e.val, by omega⟩))
    (h1 : ∀ (i : Fin 2048) (e : Fin 256), x1 (ix2 i e) = A (ix2 i ⟨512 + t.val * 256 + e.val, by omega⟩))
    (h2 : ∀ (i : Fin 2048) (e : Fin 256), x2 (ix2 i e) = A (ix2 i ⟨1024 + t.val * 256 + e.val, by omega⟩))
    (h3 : ∀ (k : Fin 8) (hh : Fin 4) (n : Fin 512) (hb : n.val % 64 < 31), x3 (ix4 k 0 hh n) = B (ix3 ⟨t.val * 4 + hh.val, by omega⟩ ⟨7 - k.val + n.val / 64, by omega⟩ ⟨n.val % 64, hb⟩))
    (h4 : ∀ (w : Fin 64) (j : Fin 512), x4 (ix2 w j) = Ideal.ofBits .f32 (if wst w.val ≤ j.val % 64 ∧ j.val % 64 < wst w.val + 16 then 0x3F800000#32 else 0x00000000#32))
    (h5 : ∀ (p e : Fin 256) (u : EReal), Scalar.select (v2 (ix2 p e)) u 0 = if p.val / 64 = e.val / 64 then u else 0)
    (r : Fin 32) (w : Fin 64) (hh : Fin 4) (d : Fin 64) :
    core x0 x1 x2 x3 x4 v2 r w hh d = soft (score A B ⟨4 * t.val + hh.val, by omega⟩ r w)
      (fun j => A (ix2 ⟨rs r.val * 64 + j.val, by have := rs_le r.val; omega⟩ ⟨1024 + (256 * t.val + (64 * hh.val + d.val)), by omega⟩)) := by
  have hf : first r.val = rs r.val := rfl
  unfold core
  refine congrArg₂ soft (funext fun x => ?_) (funext fun x => ?_)
  · rw [bias_eq B t x3 x4 h3 h4]
    unfold score
    simp only [h5]
    rw [sum_lanes (fun e => x0 (ix2 ⟨64 * r.val + w.val, by omega⟩ e) * Ideal.ofBits FTy.bf16 15872#16 * x1 (ix2 ⟨64 * first r.val + x.val, by have := first_le r.val; omega⟩ e)) hh w]
    by_cases hv : ws w.val ≤ x.val % 64 ∧ x.val % 64 < ws w.val + 16
    · rw [if_pos hv, if_pos hv]
      refine congrArg (· + _) (Finset.sum_congr rfl fun e _ => ?_)
      rw [h0, h1, eighth]
      refine congrArg₂ (· * ·) (congrArg (· * _) (two_eq A _ _ _ _ _ _ _ _ (by omega) (by simp only []; omega))) (two_eq A _ _ _ _ _ _ _ _ (by omega) (by simp only []; omega))
    · rw [if_neg hv, if_neg hv, EReal.add_bot]
  · rw [h2]
    exact two_eq A _ _ _ _ _ _ _ _ (by omega) (by simp only []; omega)

end Cert.AttFwdIdeal.Att
end
-- ==== Proof.AttStage.lean ====
/- What the attention kernel's input blocks hold. -/
module

public import proofs.«01_k».proof.Proof.AttBlk
public import Idealize.ShloMosaic.Lib.Pipeline.ReadBack

@[expose] public section

set_option maxRecDepth 16384

noncomputable section

open Idealize.ShloMosaic Idealize.ShloMosaic.TcCoe Idealize.SL.Sem
open scoped BigOperators

namespace Cert.AttFwdIdeal.Att

open Cert.AttFwdIdeal Cert.AttFwdIdeal.Gen Cert.AttSpec

variable (m : (ℓ : Loc nD τ sig) → Buf (Elt Ideal) ℓ)

theorem idx : ∀ t : Fin cfg0.N, win0_0.index t = ![0, t.val] ∧ win0_1.index t = ![0, 2 + t.val] ∧ win0_2.index t = ![0, 4 + t.val]
    ∧ win0_3.index t = ![0, t.val, 0, 0] ∧ win0_4.index t = ![0, 0] ∧ win0_5.index t = ![0, 0] ∧ win0_6.index t = ![0, t.val] :=
  (by decide +kernel : ∀ t : Fin grid0.N, _)

theorem N2 (t : Fin cfg0.N) : t.val < 2 := lt_of_lt_of_le t.isLt (by decide +kernel)

theorem st0 (c : Dev nD) (t : Fin cfg0.N) (i : Fin 2048) (e : Fin 256) :
    (show FVec Ideal S2048x256 .bf16 from iblk m c 0 t) (ix2 i e) = m ((c : Thread nD τ).loc main_arg0) (ix2 i ⟨t.val * 256 + e.val, by have := N2 t; omega⟩) := by
  show iblk m c 0 t (ix2 i e) = _
  blk_point [iblk, V, idx t]
theorem st1 (c : Dev nD) (t : Fin cfg0.N) (i : Fin 2048) (e : Fin 256) :
    (show FVec Ideal S2048x256 .bf16 from iblk m c 1 t) (ix2 i e) = m ((c : Thread nD τ).loc main_arg0) (ix2 i ⟨512 + t.val * 256 + e.val, by have := N2 t; omega⟩) := by
  show iblk m c 1 t (ix2 i e) = _
  blk_point [iblk, V, idx t]
theorem st2 (c : Dev nD) (t : Fin cfg0.N) (i : Fin 2048) (e : Fin 256) :
    (show FVec Ideal S2048x256 .bf16 from iblk m c 2 t) (ix2 i e) = m ((c : Thread nD τ).loc main_arg0) (ix2 i ⟨1024 + t.val * 256 + e.val, by have := N2 t; omega⟩) := by
  show iblk m c 2 t (ix2 i e) = _
  blk_point [iblk, V, idx t]
theorem st4 (c : Dev nD) (t : Fin cfg0.N) (w : Fin 64) (j : Fin 512) :
    (show FVec Ideal S64x512 .f32 from iblk m c 4 t) (ix2 w j) = Ideal.ofBits .f32 (lit0 (S64x512.rowMajor (ix2 w j))) := by
  show iblk m c 4 t (ix2 w j) = _
  unfold iblk
  blk_simp
  entry_read
  blk_point [idx t]
theorem st5 (c : Dev nD) (t : Fin cfg0.N) (w : Fin 256) (j : Fin 256) :
    (show FVec Ideal S256x256 .f32 from iblk m c 5 t) (ix2 w j) = Ideal.ofBits .f32 (lit1 (S256x256.rowMajor (ix2 w j))) := by
  show iblk m c 5 t (ix2 w j) = _
  unfold iblk
  blk_simp
  entry_read
  blk_point [idx t]
end Cert.AttFwdIdeal.Att
end
-- ==== Proof.AttRows.lean ====
/- What the attention kernel's input blocks hold. -/
module

public import proofs.«01_k».proof.Proof.AttStage
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open scoped BigOperators

namespace Cert.AttFwdIdeal.Att

open Cert.AttFwdIdeal Cert.AttFwdIdeal.Gen Cert.AttSpec

variable (m : (ℓ : Loc nD τ sig) → Buf (Elt Ideal) ℓ)

theorem padded (x : FVec Ideal S8x15x31 .f32) (v : FVec Ideal S_ .f32) (h : Fin 8) (a : Fin 15) (b : Fin 64) (hb : b.val < 31) :
    pad S8x15x64 ![0, 0, 0] ![0, 0, 33] ![0, 0, 0] x v pads_S8x15x31_S8x15x64_000_000_0330 h_S_ (ix3 h a b)
      = x (ix3 h a ⟨b.val, hb⟩) := by
  pointwise []
  exact dif_pos hb

theorem rows0 (c : Dev nD) (t : Fin 2) (hh : Fin 4) (n : Fin 512) (hb : n.val % 64 < 31) :
    (V m c main_v25 : FVec Ideal S8x2x4x512 .f32) (ix4 (0:Fin 8) t hh n)
    = (m (c.tc.loc main_arg1) : FVec Ideal S8x15x31 .f32) (ix3 ⟨t.val * 4 + hh.val, by omega⟩ ⟨7 + n.val / 64, by omega⟩ ⟨n.val % 64, hb⟩) := by
  show StableHlo.after (List.flatten [hostOps0, hostOps0_1, hostOps0_2]) (fun b => m (c, b)) (Proc.tc.devRef main_v25) _ = _
  after_reads_simp
  pointwise []
  after_reads_simp
  pointwise []
  first
  | exact padded _ _ ⟨t.val * 4 + hh.val, by omega⟩ ⟨7 + n.val / 64, by omega⟩ ⟨n.val % 64, by omega⟩ hb
  | (refine (padded _ _ ⟨t.val * 4 + hh.val, by omega⟩ ⟨n.val / 64, by omega⟩ ⟨n.val % 64, by omega⟩ hb).trans ?_
     exact congrArg (fun z => (m (c.tc.loc main_arg1) : FVec Ideal S8x15x31 .f32) (ix3 _ z _)) (Fin.ext (by simp)))

theorem rows1 (c : Dev nD) (t : Fin 2) (hh : Fin 4) (n : Fin 512) (hb : n.val % 64 < 31) :
    (V m c main_v25 : FVec Ideal S8x2x4x512 .f32) (ix4 (1:Fin 8) t hh n)
    = (m (c.tc.loc main_arg1) : FVec Ideal S8x15x31 .f32) (ix3 ⟨t.val * 4 + hh.val, by omega⟩ ⟨6 + n.val / 64, by omega⟩ ⟨n.val % 64, hb⟩) := by
  show StableHlo.after (List.flatten [hostOps0, hostOps0_1, hostOps0_2]) (fun b => m (c, b)) (Proc.tc.devRef main_v25) _ = _
  after_reads_simp
  pointwise []
  after_reads_simp
  pointwise []
  first
  | exact padded _ _ ⟨t.val * 4 + hh.val, by omega⟩ ⟨6 + n.val / 64, by omega⟩ ⟨n.val % 64, by omega⟩ hb
  | (refine (padded _ _ ⟨t.val * 4 + hh.val, by omega⟩ ⟨n.val / 64, by omega⟩ ⟨n.val % 64, by omega⟩ hb).trans ?_
     exact congrArg (fun z => (m (c.tc.loc main_arg1) : FVec Ideal S8x15x31 .f32) (ix3 _ z _)) (Fin.ext (by simp)))

theorem rows2 (c : Dev nD) (t : Fin 2) (hh : Fin 4) (n : Fin 512) (hb : n.val % 64 < 31) :
    (V m c main_v25 : FVec Ideal S8x2x4x512 .f32) (ix4 (2:Fin 8) t hh n)
    = (m (c.tc.loc main_arg1) : FVec Ideal S8x15x31 .f32) (ix3 ⟨t.val * 4 + hh.val, by omega⟩ ⟨5 + n.val / 64, by omega⟩ ⟨n.val % 64, hb⟩) := by
  show StableHlo.after (List.flatten [hostOps0, hostOps0_1, hostOps0_2]) (fun b => m (c, b)) (Proc.tc.devRef main_v25) _ = _
  after_reads_simp
  pointwise []
  after_reads_simp
  pointwise []
  first
  | exact padded _ _ ⟨t.val * 4 + hh.val, by omega⟩ ⟨5 + n.val / 64, by omega⟩ ⟨n.val % 64, by omega⟩ hb
  | (refine (padded _ _ ⟨t.val * 4 + hh.val, by omega⟩ ⟨n.val / 64, by omega⟩ ⟨n.val % 64, by omega⟩ hb).trans ?_
     exact congrArg (fun z => (m (c.tc.loc main_arg1) : FVec Ideal S8x15x31 .f32) (ix3 _ z _)) (Fin.ext (by simp)))

theorem rows3 (c : Dev nD) (t : Fin 2) (hh : Fin 4) (n : Fin 512) (hb : n.val % 64 < 31) :
    (V m c main_v25 : FVec Ideal S8x2x4x512 .f32) (ix4 (3:Fin 8) t hh n)
    = (m (c.tc.loc main_arg1) : FVec Ideal S8x15x31 .f32) (ix3 ⟨t.val * 4 + hh.val, by omega⟩ ⟨4 + n.val / 64, by omega⟩ ⟨n.val % 64, hb⟩) := by
  show StableHlo.after (List.flatten [hostOps0, hostOps0_1, hostOps0_2]) (fun b => m (c, b)) (Proc.tc.devRef main_v25) _ = _
  after_reads_simp
  pointwise []
  after_reads_simp
  pointwise []
  first
  | exact padded _ _ ⟨t.val * 4 + hh.val, by omega⟩ ⟨4 + n.val / 64, by omega⟩ ⟨n.val % 64, by omega⟩ hb
  | (refine (padded _ _ ⟨t.val * 4 + hh.val, by omega⟩ ⟨n.val / 64, by omega⟩ ⟨n.val % 64, by omega⟩ hb).trans ?_
     exact congrArg (fun z => (m (c.tc.loc main_arg1) : FVec Ideal S8x15x31 .f32) (ix3 _ z _)) (Fin.ext (by simp)))

theorem rows4 (c : Dev nD) (t : Fin 2) (hh : Fin 4) (n : Fin 512) (hb : n.val % 64 < 31) :
    (V m c main_v25 : FVec Ideal S8x2x4x512 .f32) (ix4 (4:Fin 8) t hh n)
    = (m (c.tc.loc main_arg1) : FVec Ideal S8x15x31 .f32) (ix3 ⟨t.val * 4 + hh.val, by omega⟩ ⟨3 + n.val / 64, by omega⟩ ⟨n.val % 64, hb⟩) := by
  show StableHlo.after (List.flatten [hostOps0, hostOps0_1, hostOps0_2]) (fun b => m (c, b)) (Proc.tc.devRef main_v25) _ = _
  after_reads_simp
  pointwise []
  after_reads_simp
  pointwise []
  first
  | exact padded _ _ ⟨t.val * 4 + hh.val, by omega⟩ ⟨3 + n.val / 64, by omega⟩ ⟨n.val % 64, by omega⟩ hb
  | (refine (padded _ _ ⟨t.val * 4 + hh.val, by omega⟩ ⟨n.val / 64, by omega⟩ ⟨n.val % 64, by omega⟩ hb).trans ?_
     exact congrArg (fun z => (m (c.tc.loc main_arg1) : FVec Ideal S8x15x31 .f32) (ix3 _ z _)) (Fin.ext (by simp)))

theorem rows5 (c : Dev nD) (t : Fin 2) (hh : Fin 4) (n : Fin 512) (hb : n.val % 64 < 31) :
    (V m c main_v25 : FVec Ideal S8x2x4x512 .f32) (ix4 (5:Fin 8) t hh n)
    = (m (c.tc.loc main_arg1) : FVec Ideal S8x15x31 .f32) (ix3 ⟨t.val * 4 + hh.val, by omega⟩ ⟨2 + n.val / 64, by omega⟩ ⟨n.val % 64, hb⟩) := by
  show StableHlo.after (List.flatten [hostOps0, hostOps0_1, hostOps0_2]) (fun b => m (c, b)) (Proc.tc.devRef main_v25) _ = _
  after_reads_simp
  pointwise []
  after_reads_simp
  pointwise []
  first
  | exact padded _ _ ⟨t.val * 4 + hh.val, by omega⟩ ⟨2 + n.val / 64, by omega⟩ ⟨n.val % 64, by omega⟩ hb
  | (refine (padded _ _ ⟨t.val * 4 + hh.val, by omega⟩ ⟨n.val / 64, by omega⟩ ⟨n.val % 64, by omega⟩ hb).trans ?_
     exact congrArg (fun z => (m (c.tc.loc main_arg1) : FVec Ideal S8x15x31 .f32) (ix3 _ z _)) (Fin.ext (by simp)))

theorem rows6 (c : Dev nD) (t : Fin 2) (hh : Fin 4) (n : Fin 512) (hb : n.val % 64 < 31) :
    (V m c main_v25 : FVec Ideal S8x2x4x512 .f32) (ix4 (6:Fin 8) t hh n)
    = (m (c.tc.loc main_arg1) : FVec Ideal S8x15x31 .f32) (ix3 ⟨t.val * 4 + hh.val, by omega⟩ ⟨1 + n.val / 64, by omega⟩ ⟨n.val % 64, hb⟩) := by
  show StableHlo.after (List.flatten [hostOps0, hostOps0_1, hostOps0_2]) (fun b => m (c, b)) (Proc.tc.devRef main_v25) _ = _
  after_reads_simp
  pointwise []
  after_reads_simp
  pointwise []
  first
  | exact padded _ _ ⟨t.val * 4 + hh.val, by omega⟩ ⟨1 + n.val / 64, by omega⟩ ⟨n.val % 64, by omega⟩ hb
  | (refine (padded _ _ ⟨t.val * 4 + hh.val, by omega⟩ ⟨n.val / 64, by omega⟩ ⟨n.val % 64, by omega⟩ hb).trans ?_
     exact congrArg (fun z => (m (c.tc.loc main_arg1) : FVec Ideal S8x15x31 .f32) (ix3 _ z _)) (Fin.ext (by simp)))

theorem rows7 (c : Dev nD) (t : Fin 2) (hh : Fin 4) (n : Fin 512) (hb : n.val % 64 < 31) :
    (V m c main_v25 : FVec Ideal S8x2x4x512 .f32) (ix4 (7:Fin 8) t hh n)
    = (m (c.tc.loc main_arg1) : FVec Ideal S8x15x31 .f32) (ix3 ⟨t.val * 4 + hh.val, by omega⟩ ⟨0 + n.val / 64, by omega⟩ ⟨n.val % 64, hb⟩) := by
  show StableHlo.after (List.flatten [hostOps0, hostOps0_1, hostOps0_2]) (fun b => m (c, b)) (Proc.tc.devRef main_v25) _ = _
  after_reads_simp
  pointwise []
  after_reads_simp
  pointwise []
  first
  | exact padded _ _ ⟨t.val * 4 + hh.val, by omega⟩ ⟨0 + n.val / 64, by omega⟩ ⟨n.val % 64, by omega⟩ hb
  | (refine (padded _ _ ⟨t.val * 4 + hh.val, by omega⟩ ⟨n.val / 64, by omega⟩ ⟨n.val % 64, by omega⟩ hb).trans ?_
     exact congrArg (fun z => (m (c.tc.loc main_arg1) : FVec Ideal S8x15x31 .f32) (ix3 _ z _)) (Fin.ext (by simp)))

theorem rows (c : Dev nD) (k : Fin 8) (t : Fin 2) (hh : Fin 4) (n : Fin 512) (hb : n.val % 64 < 31) :
    (V m c main_v25 : FVec Ideal S8x2x4x512 .f32) (ix4 k t hh n)
    = (m (c.tc.loc main_arg1) : FVec Ideal S8x15x31 .f32) (ix3 ⟨t.val * 4 + hh.val, by omega⟩ ⟨7 - k.val + n.val / 64, by omega⟩ ⟨n.val % 64, hb⟩) := by
  match k with
  | ⟨0, _⟩ => exact rows0 m c t hh n hb
  | ⟨1, _⟩ => exact rows1 m c t hh n hb
  | ⟨2, _⟩ => exact rows2 m c t hh n hb
  | ⟨3, _⟩ => exact rows3 m c t hh n hb
  | ⟨4, _⟩ => exact rows4 m c t hh n hb
  | ⟨5, _⟩ => exact rows5 m c t hh n hb
  | ⟨6, _⟩ => exact rows6 m c t hh n hb
  | ⟨7, _⟩ => exact rows7 m c t hh n hb

theorem st3 (c : Dev nD) (t : Fin cfg0.N) (k : Fin 8) (hh : Fin 4) (n : Fin 512) (hb : n.val % 64 < 31) :
    (show FVec Ideal S8x1x4x512 .f32 from iblk m c 3 t) (ix4 k 0 hh n)
      = (m (c.tc.loc main_arg1) : FVec Ideal S8x15x31 .f32) (ix3 ⟨t.val * 4 + hh.val, by have := N2 t; omega⟩ ⟨7 - k.val + n.val / 64, by omega⟩ ⟨n.val % 64, hb⟩) := by
  refine Eq.trans ?_ (rows m c k ⟨t.val, N2 t⟩ hh n hb)
  show iblk m c 3 t (ix4 k 0 hh n) = _
  blk_point [iblk, idx t]

end Cert.AttFwdIdeal.Att
end
-- ==== Proof.AttTabD.lean ====
/- What the attention kernel's two tables are to hold, row by row. -/
module

public import proofs.«01_k».proof.AttFwdIdeal
public import proofs.«01_k».proof.Proof.AttSpec

@[expose] public section

set_option maxRecDepth 16384

open Idealize.ShloMosaic

namespace Cert.AttFwdIdeal.Att

open Cert.AttFwdIdeal

/-- The table of the visible keys. -/
noncomputable def seesBits (i : Fin 32768) : BitVec 32 := lit0 i
/-- The table of the heads' lanes. -/
noncomputable def headBits (i : Fin 65536) : BitVec 32 := lit1 i

/-- Query column `n` sees the keys of its window's columns. -/
def SeesRow (n : Nat) (h : n < 64) : Prop := ∀ j : Fin 512, seesBits ⟨n * 512 + j.val, by omega⟩
    = (if AttSpec.wst n ≤ j.val % 64 ∧ j.val % 64 < AttSpec.wst n + 16 then 0x3F800000#32 else 0x00000000#32)

/-- Row `n` keeps the lanes of its own head. -/
def HeadRow (n : Nat) (h : n < 256) : Prop := ∀ e : Fin 256, headBits ⟨n * 256 + e.val, by omega⟩
    = (if n / 64 = e.val / 64 then 0x3F800000#32 else 0x00000000#32)

end Cert.AttFwdIdeal.Att
end
-- ==== Proof.AttV0.lean ====
/- Which keys of the window's columns a query sees, query columns 0 to 7. -/
module

public import proofs.«01_k».proof.Proof.AttTabD

@[expose] public section

set_option maxRecDepth 16384

open Idealize.ShloMosaic

namespace Cert.AttFwdIdeal.Att

open Cert.AttFwdIdeal

theorem sees_row0 : SeesRow 0 (by decide) := by
  unfold SeesRow
  decide +kernel
theorem sees_row1 : SeesRow 1 (by decide) := by
  unfold SeesRow
  decide +kernel
theorem sees_row2 : SeesRow 2 (by decide) := by
  unfold SeesRow
  decide +kernel
theorem sees_row3 : SeesRow 3 (by decide) := by
  unfold SeesRow
  decide +kernel
theorem sees_row4 : SeesRow 4 (by decide) := by
  unfold SeesRow
  decide +kernel
theorem sees_row5 : SeesRow 5 (by decide) := by
  unfold SeesRow
  decide +kernel
theorem sees_row6 : SeesRow 6 (by decide) := by
  unfold SeesRow
  decide +kernel
theorem sees_row7 : SeesRow 7 (by decide) := by
  unfold SeesRow
  decide +kernel

theorem sees0 (n : Nat) (h : n < 64) (lo : 0 ≤ n) (hi : n < 8) : SeesRow n h := by
  have e : n = 0 ∨ n = 1 ∨ n = 2 ∨ n = 3 ∨ n = 4 ∨ n = 5 ∨ n = 6 ∨ n = 7 := by omega
  rcases e with rfl | rfl | rfl | rfl | rfl | rfl | rfl | rfl
  · exact sees_row0
  · exact sees_row1
  · exact sees_row2
  · exact sees_row3
  · exact sees_row4
  · exact sees_row5
  · exact sees_row6
  · exact sees_row7

end Cert.AttFwdIdeal.Att
end
-- ==== Proof.AttV1.lean ====
/- Which keys of the window's columns a query sees, query columns 8 to 15. -/
module

public import proofs.«01_k».proof.Proof.AttTabD

@[expose] public section

set_option maxRecDepth 16384

open Idealize.ShloMosaic

namespace Cert.AttFwdIdeal.Att

open Cert.AttFwdIdeal

theorem sees_row8 : SeesRow 8 (by decide) := by
  unfold SeesRow
  decide +kernel
theorem sees_row9 : SeesRow 9 (by decide) := by
  unfold SeesRow
  decide +kernel
theorem sees_row10 : SeesRow 10 (by decide) := by
  unfold SeesRow
  decide +kernel
theorem sees_row11 : SeesRow 11 (by decide) := by
  unfold SeesRow
  decide +kernel
theorem sees_row12 : SeesRow 12 (by decide) := by
  unfold SeesRow
  decide +kernel
theorem sees_row13 : SeesRow 13 (by decide) := by
  unfold SeesRow
  decide +kernel
theorem sees_row14 : SeesRow 14 (by decide) := by
  unfold SeesRow
  decide +kernel
theorem sees_row15 : SeesRow 15 (by decide) := by
  unfold SeesRow
  decide +kernel

theorem sees1 (n : Nat) (h : n < 64) (lo : 8 ≤ n) (hi : n < 16) : SeesRow n h := by
  have e : n = 8 ∨ n = 9 ∨ n = 10 ∨ n = 11 ∨ n = 12 ∨ n = 13 ∨ n = 14 ∨ n = 15 := by omega
  rcases e with rfl | rfl | rfl | rfl | rfl | rfl | rfl | rfl
  · exact sees_row8
  · exact sees_row9
  · exact sees_row10
  · exact sees_row11
  · exact sees_row12
  · exact sees_row13
  · exact sees_row14
  · exact sees_row15

end Cert.AttFwdIdeal.Att
end
-- ==== Proof.AttV2.lean ====
/- Which keys of the window's columns a query sees, query columns 16 to 23. -/
module

public import proofs.«01_k».proof.Proof.AttTabD

@[expose] public section

set_option maxRecDepth 16384

open Idealize.ShloMosaic

namespace Cert.AttFwdIdeal.Att

open Cert.AttFwdIdeal

theorem sees_row16 : SeesRow 16 (by decide) := by
  unfold SeesRow
  decide +kernel
theorem sees_row17 : SeesRow 17 (by decide) := by
  unfold SeesRow
  decide +kernel
theorem sees_row18 : SeesRow 18 (by decide) := by
  unfold SeesRow
  decide +kernel
theorem sees_row19 : SeesRow 19 (by decide) := by
  unfold SeesRow
  decide +kernel
theorem sees_row20 : SeesRow 20 (by decide) := by
  unfold SeesRow
  decide +kernel
theorem sees_row21 : SeesRow 21 (by decide) := by
  unfold SeesRow
  decide +kernel
theorem sees_row22 : SeesRow 22 (by decide) := by
  unfold SeesRow
  decide +kernel
theorem sees_row23 : SeesRow 23 (by decide) := by
  unfold SeesRow
  decide +kernel

theorem sees2 (n : Nat) (h : n < 64) (lo : 16 ≤ n) (hi : n < 24) : SeesRow n h := by
  have e : n = 16 ∨ n = 17 ∨ n = 18 ∨ n = 19 ∨ n = 20 ∨ n = 21 ∨ n = 22 ∨ n = 23 := by omega
  rcases e with rfl | rfl | rfl | rfl | rfl | rfl | rfl | rfl
  · exact sees_row16
  · exact sees_row17
  · exact sees_row18
  · exact sees_row19
  · exact sees_row20
  · exact sees_row21
  · exact sees_row22
  · exact sees_row23

end Cert.AttFwdIdeal.Att
end
-- ==== Proof.AttV3.lean ====
/- Which keys of the window's columns a query sees, query columns 24 to 31. -/
module

public import proofs.«01_k».proof.Proof.AttTabD

@[expose] public section

set_option maxRecDepth 16384

open Idealize.ShloMosaic

namespace Cert.AttFwdIdeal.Att

open Cert.AttFwdIdeal

theorem sees_row24 : SeesRow 24 (by decide) := by
  unfold SeesRow
  decide +kernel
theorem sees_row25 : SeesRow 25 (by decide) := by
  unfold SeesRow
  decide +kernel
theorem sees_row26 : SeesRow 26 (by decide) := by
  unfold SeesRow
  decide +kernel
theorem sees_row27 : SeesRow 27 (by decide) := by
  unfold SeesRow
  decide +kernel
theorem sees_row28 : SeesRow 28 (by decide) := by
  unfold SeesRow
  decide +kernel
theorem sees_row29 : SeesRow 29 (by decide) := by
  unfold SeesRow
  decide +kernel
theorem sees_row30 : SeesRow 30 (by decide) := by
  unfold SeesRow
  decide +kernel
theorem sees_row31 : SeesRow 31 (by decide) := by
  unfold SeesRow
  decide +kernel

theorem sees3 (n : Nat) (h : n < 64) (lo : 24 ≤ n) (hi : n < 32) : SeesRow n h := by
  have e : n = 24 ∨ n = 25 ∨ n = 26 ∨ n = 27 ∨ n = 28 ∨ n = 29 ∨ n = 30 ∨ n = 31 := by omega
  rcases e with rfl | rfl | rfl | rfl | rfl | rfl | rfl | rfl
  · exact sees_row24
  · exact sees_row25
  · exact sees_row26
  · exact sees_row27
  · exact sees_row28
  · exact sees_row29
  · exact sees_row30
  · exact sees_row31

end Cert.AttFwdIdeal.Att
end
-- ==== Proof.AttV4.lean ====
/- Which keys of the window's columns a query sees, query columns 32 to 39. -/
module

public import proofs.«01_k».proof.Proof.AttTabD

@[expose] public section

set_option maxRecDepth 16384

open Idealize.ShloMosaic

namespace Cert.AttFwdIdeal.Att

open Cert.AttFwdIdeal

theorem sees_row32 : SeesRow 32 (by decide) := by
  unfold SeesRow
  decide +kernel
theorem sees_row33 : SeesRow 33 (by decide) := by
  unfold SeesRow
  decide +kernel
theorem sees_row34 : SeesRow 34 (by decide) := by
  unfold SeesRow
  decide +kernel
theorem sees_row35 : SeesRow 35 (by decide) := by
  unfold SeesRow
  decide +kernel
theorem sees_row36 : SeesRow 36 (by decide) := by
  unfold SeesRow
  decide +kernel
theorem sees_row37 : SeesRow 37 (by decide) := by
  unfold SeesRow
  decide +kernel
theorem sees_row38 : SeesRow 38 (by decide) := by
  unfold SeesRow
  decide +kernel
theorem sees_row39 : SeesRow 39 (by decide) := by
  unfold SeesRow
  decide +kernel

theorem sees4 (n : Nat) (h : n < 64) (lo : 32 ≤ n) (hi : n < 40) : SeesRow n h := by
  have e : n = 32 ∨ n = 33 ∨ n = 34 ∨ n = 35 ∨ n = 36 ∨ n = 37 ∨ n = 38 ∨ n = 39 := by omega
  rcases e with rfl | rfl | rfl | rfl | rfl | rfl | rfl | rfl
  · exact sees_row32
  · exact sees_row33
  · exact sees_row34
  · exact sees_row35
  · exact sees_row36
  · exact sees_row37
  · exact sees_row38
  · exact sees_row39

end Cert.AttFwdIdeal.Att
end
-- ==== Proof.AttV5.lean ====
/- Which keys of the window's columns a query sees, query columns 40 to 47. -/
module

public import proofs.«01_k».proof.Proof.AttTabD

@[expose] public section

set_option maxRecDepth 16384

open Idealize.ShloMosaic

namespace Cert.AttFwdIdeal.Att

open Cert.AttFwdIdeal

theorem sees_row40 : SeesRow 40 (by decide) := by
  unfold SeesRow
  decide +kernel
theorem sees_row41 : SeesRow 41 (by decide) := by
  unfold SeesRow
  decide +kernel
theorem sees_row42 : SeesRow 42 (by decide) := by
  unfold SeesRow
  decide +kernel
theorem sees_row43 : SeesRow 43 (by decide) := by
  unfold SeesRow
  decide +kernel
theorem sees_row44 : SeesRow 44 (by decide) := by
  unfold SeesRow
  decide +kernel
theorem sees_row45 : SeesRow 45 (by decide) := by
  unfold SeesRow
  decide +kernel
theorem sees_row46 : SeesRow 46 (by decide) := by
  unfold SeesRow
  decide +kernel
theorem sees_row47 : SeesRow 47 (by decide) := by
  unfold SeesRow
  decide +kernel

theorem sees5 (n : Nat) (h : n < 64) (lo : 40 ≤ n) (hi : n < 48) : SeesRow n h := by
  have e : n = 40 ∨ n = 41 ∨ n = 42 ∨ n = 43 ∨ n = 44 ∨ n = 45 ∨ n = 46 ∨ n = 47 := by omega
  rcases e with rfl | rfl | rfl | rfl | rfl | rfl | rfl | rfl
  · exact sees_row40
  · exact sees_row41
  · exact sees_row42
  · exact sees_row43
  · exact sees_row44
  · exact sees_row45
  · exact sees_row46
  · exact sees_row47

end Cert.AttFwdIdeal.Att
end
-- ==== Proof.AttV6.lean ====
/- Which keys of the window's columns a query sees, query columns 48 to 55. -/
module

public import proofs.«01_k».proof.Proof.AttTabD

@[expose] public section

set_option maxRecDepth 16384

open Idealize.ShloMosaic

namespace Cert.AttFwdIdeal.Att

open Cert.AttFwdIdeal

theorem sees_row48 : SeesRow 48 (by decide) := by
  unfold SeesRow
  decide +kernel
theorem sees_row49 : SeesRow 49 (by decide) := by
  unfold SeesRow
  decide +kernel
theorem sees_row50 : SeesRow 50 (by decide) := by
  unfold SeesRow
  decide +kernel
theorem sees_row51 : SeesRow 51 (by decide) := by
  unfold SeesRow
  decide +kernel
theorem sees_row52 : SeesRow 52 (by decide) := by
  unfold SeesRow
  decide +kernel
theorem sees_row53 : SeesRow 53 (by decide) := by
  unfold SeesRow
  decide +kernel
theorem sees_row54 : SeesRow 54 (by decide) := by
  unfold SeesRow
  decide +kernel
theorem sees_row55 : SeesRow 55 (by decide) := by
  unfold SeesRow
  decide +kernel

theorem sees6 (n : Nat) (h : n < 64) (lo : 48 ≤ n) (hi : n < 56) : SeesRow n h := by
  have e : n = 48 ∨ n = 49 ∨ n = 50 ∨ n = 51 ∨ n = 52 ∨ n = 53 ∨ n = 54 ∨ n = 55 := by omega
  rcases e with rfl | rfl | rfl | rfl | rfl | rfl | rfl | rfl
  · exact sees_row48
  · exact sees_row49
  · exact sees_row50
  · exact sees_row51
  · exact sees_row52
  · exact sees_row53
  · exact sees_row54
  · exact sees_row55

end Cert.AttFwdIdeal.Att
end
-- ==== Proof.AttV7.lean ====
/- Which keys of the window's columns a query sees, query columns 56 to 63. -/
module

public import proofs.«01_k».proof.Proof.AttTabD

@[expose] public section

set_option maxRecDepth 16384

open Idealize.ShloMosaic

namespace Cert.AttFwdIdeal.Att

open Cert.AttFwdIdeal

theorem sees_row56 : SeesRow 56 (by decide) := by
  unfold SeesRow
  decide +kernel
theorem sees_row57 : SeesRow 57 (by decide) := by
  unfold SeesRow
  decide +kernel
theorem sees_row58 : SeesRow 58 (by decide) := by
  unfold SeesRow
  decide +kernel
theorem sees_row59 : SeesRow 59 (by decide) := by
  unfold SeesRow
  decide +kernel
theorem sees_row60 : SeesRow 60 (by decide) := by
  unfold SeesRow
  decide +kernel
theorem sees_row61 : SeesRow 61 (by decide) := by
  unfold SeesRow
  decide +kernel
theorem sees_row62 : SeesRow 62 (by decide) := by
  unfold SeesRow
  decide +kernel
theorem sees_row63 : SeesRow 63 (by decide) := by
  unfold SeesRow
  decide +kernel

theorem sees7 (n : Nat) (h : n < 64) (lo : 56 ≤ n) (hi : n < 64) : SeesRow n h := by
  have e : n = 56 ∨ n = 57 ∨ n = 58 ∨ n = 59 ∨ n = 60 ∨ n = 61 ∨ n = 62 ∨ n = 63 := by omega
  rcases e with rfl | rfl | rfl | rfl | rfl | rfl | rfl | rfl
  · exact sees_row56
  · exact sees_row57
  · exact sees_row58
  · exact sees_row59
  · exact sees_row60
  · exact sees_row61
  · exact sees_row62
  · exact sees_row63

end Cert.AttFwdIdeal.Att
end
-- ==== Proof.AttH0.lean ====
/- Which lanes belong to a row's head, rows 0 to 15. -/
module

public import proofs.«01_k».proof.Proof.AttTabD

@[expose] public section

set_option maxRecDepth 16384

open Idealize.ShloMosaic

namespace Cert.AttFwdIdeal.Att

open Cert.AttFwdIdeal

theorem head_row0 : HeadRow 0 (by decide) := by
  unfold HeadRow
  decide +kernel
theorem head_row1 : HeadRow 1 (by decide) := by
  unfold HeadRow
  decide +kernel
theorem head_row2 : HeadRow 2 (by decide) := by
  unfold HeadRow
  decide +kernel
theorem head_row3 : HeadRow 3 (by decide) := by
  unfold HeadRow
  decide +kernel
theorem head_row4 : HeadRow 4 (by decide) := by
  unfold HeadRow
  decide +kernel
theorem head_row5 : HeadRow 5 (by decide) := by
  unfold HeadRow
  decide +kernel
theorem head_row6 : HeadRow 6 (by decide) := by
  unfold HeadRow
  decide +kernel
theorem head_row7 : HeadRow 7 (by decide) := by
  unfold HeadRow
  decide +kernel
theorem head_row8 : HeadRow 8 (by decide) := by
  unfold HeadRow
  decide +kernel
theorem head_row9 : HeadRow 9 (by decide) := by
  unfold HeadRow
  decide +kernel
theorem head_row10 : HeadRow 10 (by decide) := by
  unfold HeadRow
  decide +kernel
theorem head_row11 : HeadRow 11 (by decide) := by
  unfold HeadRow
  decide +kernel
theorem head_row12 : HeadRow 12 (by decide) := by
  unfold HeadRow
  decide +kernel
theorem head_row13 : HeadRow 13 (by decide) := by
  unfold HeadRow
  decide +kernel
theorem head_row14 : HeadRow 14 (by decide) := by
  unfold HeadRow
  decide +kernel
theorem head_row15 : HeadRow 15 (by decide) := by
  unfold HeadRow
  decide +kernel

theorem heads0 (n : Nat) (h : n < 256) (lo : 0 ≤ n) (hi : n < 16) : HeadRow n h := by
  have e : n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 := by omega
  rcases e with rfl | rfl | rfl | rfl | rfl | rfl | rfl | rfl | rfl | rfl | rfl | rfl | rfl | rfl | rfl | rfl
  · exact head_row0
  · exact head_row1
  · exact head_row2
  · exact head_row3
  · exact head_row4
  · exact head_row5
  · exact head_row6
  · exact head_row7
  · exact head_row8
  · exact head_row9
  · exact head_row10
  · exact head_row11
  · exact head_row12
  · exact head_row13
  · exact head_row14
  · exact head_row15

end Cert.AttFwdIdeal.Att
end
-- ==== Proof.AttH1.lean ====
/- Which lanes belong to a row's head, rows 16 to 31. -/
module

public import proofs.«01_k».proof.Proof.AttTabD

@[expose] public section

set_option maxRecDepth 16384

open Idealize.ShloMosaic

namespace Cert.AttFwdIdeal.Att

open Cert.AttFwdIdeal

theorem head_row16 : HeadRow 16 (by decide) := by
  unfold HeadRow
  decide +kernel
theorem head_row17 : HeadRow 17 (by decide) := by
  unfold HeadRow
  decide +kernel
theorem head_row18 : HeadRow 18 (by decide) := by
  unfold HeadRow
  decide +kernel
theorem head_row19 : HeadRow 19 (by decide) := by
  unfold HeadRow
  decide +kernel
theorem head_row20 : HeadRow 20 (by decide) := by
  unfold HeadRow
  decide +kernel
theorem head_row21 : HeadRow 21 (by decide) := by
  unfold HeadRow
  decide +kernel
theorem head_row22 : HeadRow 22 (by decide) := by
  unfold HeadRow
  decide +kernel
theorem head_row23 : HeadRow 23 (by decide) := by
  unfold HeadRow
  decide +kernel
theorem head_row24 : HeadRow 24 (by decide) := by
  unfold HeadRow
  decide +kernel
theorem head_row25 : HeadRow 25 (by decide) := by
  unfold HeadRow
  decide +kernel
theorem head_row26 : HeadRow 26 (by decide) := by
  unfold HeadRow
  decide +kernel
theorem head_row27 : HeadRow 27 (by decide) := by
  unfold HeadRow
  decide +kernel
theorem head_row28 : HeadRow 28 (by decide) := by
  unfold HeadRow
  decide +kernel
theorem head_row29 : HeadRow 29 (by decide) := by
  unfold HeadRow
  decide +kernel
theorem head_row30 : HeadRow 30 (by decide) := by
  unfold HeadRow
  decide +kernel
theorem head_row31 : HeadRow 31 (by decide) := by
  unfold HeadRow
  decide +kernel

theorem heads1 (n : Nat) (h : n < 256) (lo : 16 ≤ n) (hi : n < 32) : HeadRow n h := by
  have e : n = 16 ∨ n = 17 ∨ n = 18 ∨ n = 19 ∨ n = 20 ∨ n = 21 ∨ n = 22 ∨ n = 23 ∨ n = 24 ∨ n = 25 ∨ n = 26 ∨ n = 27 ∨ n = 28 ∨ n = 29 ∨ n = 30 ∨ n = 31 := by omega
  rcases e with rfl | rfl | rfl | rfl | rfl | rfl | rfl | rfl | rfl | rfl | rfl | rfl | rfl | rfl | rfl | rfl
  · exact head_row16
  · exact head_row17
  · exact head_row18
  · exact head_row19
  · exact head_row20
  · exact head_row21
  · exact head_row22
  · exact head_row23
  · exact head_row24
  · exact head_row25
  · exact head_row26
  · exact head_row27
  · exact head_row28
  · exact head_row29
  · exact head_row30
  · exact head_row31

end Cert.AttFwdIdeal.Att
end
-- ==== Proof.AttH2.lean ====
/- Which lanes belong to a row's head, rows 32 to 47. -/
module

public import proofs.«01_k».proof.Proof.AttTabD

@[expose] public section

set_option maxRecDepth 16384

open Idealize.ShloMosaic

namespace Cert.AttFwdIdeal.Att

open Cert.AttFwdIdeal

theorem head_row32 : HeadRow 32 (by decide) := by
  unfold HeadRow
  decide +kernel
theorem head_row33 : HeadRow 33 (by decide) := by
  unfold HeadRow
  decide +kernel
theorem head_row34 : HeadRow 34 (by decide) := by
  unfold HeadRow
  decide +kernel
theorem head_row35 : HeadRow 35 (by decide) := by
  unfold HeadRow
  decide +kernel
theorem head_row36 : HeadRow 36 (by decide) := by
  unfold HeadRow
  decide +kernel
theorem head_row37 : HeadRow 37 (by decide) := by
  unfold HeadRow
  decide +kernel
theorem head_row38 : HeadRow 38 (by decide) := by
  unfold HeadRow
  decide +kernel
theorem head_row39 : HeadRow 39 (by decide) := by
  unfold HeadRow
  decide +kernel
theorem head_row40 : HeadRow 40 (by decide) := by
  unfold HeadRow
  decide +kernel
theorem head_row41 : HeadRow 41 (by decide) := by
  unfold HeadRow
  decide +kernel
theorem head_row42 : HeadRow 42 (by decide) := by
  unfold HeadRow
  decide +kernel
theorem head_row43 : HeadRow 43 (by decide) := by
  unfold HeadRow
  decide +kernel
theorem head_row44 : HeadRow 44 (by decide) := by
  unfold HeadRow
  decide +kernel
theorem head_row45 : HeadRow 45 (by decide) := by
  unfold HeadRow
  decide +kernel
theorem head_row46 : HeadRow 46 (by decide) := by
  unfold HeadRow
  decide +kernel
theorem head_row47 : HeadRow 47 (by decide) := by
  unfold HeadRow
  decide +kernel

theorem heads2 (n : Nat) (h : n < 256) (lo : 32 ≤ n) (hi : n < 48) : HeadRow n h := by
  have e : n = 32 ∨ n = 33 ∨ n = 34 ∨ n = 35 ∨ n = 36 ∨ n = 37 ∨ n = 38 ∨ n = 39 ∨ n = 40 ∨ n = 41 ∨ n = 42 ∨ n = 43 ∨ n = 44 ∨ n = 45 ∨ n = 46 ∨ n = 47 := by omega
  rcases e with rfl | rfl | rfl | rfl | rfl | rfl | rfl | rfl | rfl | rfl | rfl | rfl | rfl | rfl | rfl | rfl
  · exact head_row32
  · exact head_row33
  · exact head_row34
  · exact head_row35
  · exact head_row36
  · exact head_row37
  · exact head_row38
  · exact head_row39
  · exact head_row40
  · exact head_row41
  · exact head_row42
  · exact head_row43
  · exact head_row44
  · exact head_row45
  · exact head_row46
  · exact head_row47

end Cert.AttFwdIdeal.Att
end
-- ==== Proof.AttH3.lean ====
/- Which lanes belong to a row's head, rows 48 to 63. -/
module

public import proofs.«01_k».proof.Proof.AttTabD

@[expose] public section

set_option maxRecDepth 16384

open Idealize.ShloMosaic

namespace Cert.AttFwdIdeal.Att

open Cert.AttFwdIdeal

theorem head_row48 : HeadRow 48 (by decide) := by
  unfold HeadRow
  decide +kernel
theorem head_row49 : HeadRow 49 (by decide) := by
  unfold HeadRow
  decide +kernel
theorem head_row50 : HeadRow 50 (by decide) := by
  unfold HeadRow
  decide +kernel
theorem head_row51 : HeadRow 51 (by decide) := by
  unfold HeadRow
  decide +kernel
theorem head_row52 : HeadRow 52 (by decide) := by
  unfold HeadRow
  decide +kernel
theorem head_row53 : HeadRow 53 (by decide) := by
  unfold HeadRow
  decide +kernel
theorem head_row54 : HeadRow 54 (by decide) := by
  unfold HeadRow
  decide +kernel
theorem head_row55 : HeadRow 55 (by decide) := by
  unfold HeadRow
  decide +kernel
theorem head_row56 : HeadRow 56 (by decide) := by
  unfold HeadRow
  decide +kernel
theorem head_row57 : HeadRow 57 (by decide) := by
  unfold HeadRow
  decide +kernel
theorem head_row58 : HeadRow 58 (by decide) := by
  unfold HeadRow
  decide +kernel
theorem head_row59 : HeadRow 59 (by decide) := by
  unfold HeadRow
  decide +kernel
theorem head_row60 : HeadRow 60 (by decide) := by
  unfold HeadRow
  decide +kernel
theorem head_row61 : HeadRow 61 (by decide) := by
  unfold HeadRow
  decide +kernel
theorem head_row62 : HeadRow 62 (by decide) := by
  unfold HeadRow
  decide +kernel
theorem head_row63 : HeadRow 63 (by decide) := by
  unfold HeadRow
  decide +kernel

theorem heads3 (n : Nat) (h : n < 256) (lo : 48 ≤ n) (hi : n < 64) : HeadRow n h := by
  have e : n = 48 ∨ n = 49 ∨ n = 50 ∨ n = 51 ∨ n = 52 ∨ n = 53 ∨ n = 54 ∨ n = 55 ∨ n = 56 ∨ n = 57 ∨ n = 58 ∨ n = 59 ∨ n = 60 ∨ n = 61 ∨ n = 62 ∨ n = 63 := by omega
  rcases e with rfl | rfl | rfl | rfl | rfl | rfl | rfl | rfl | rfl | rfl | rfl | rfl | rfl | rfl | rfl | rfl
  · exact head_row48
  · exact head_row49
  · exact head_row50
  · exact head_row51
  · exact head_row52
  · exact head_row53
  · exact head_row54
  · exact head_row55
  · exact head_row56
  · exact head_row57
  · exact head_row58
  · exact head_row59
  · exact head_row60
  · exact head_row61
  · exact head_row62
  · exact head_row63

end Cert.AttFwdIdeal.Att
end
-- ==== Proof.AttH4.lean ====
/- Which lanes belong to a row's head, rows 64 to 79. -/
module

public import proofs.«01_k».proof.Proof.AttTabD

@[expose] public section

set_option maxRecDepth 16384

open Idealize.ShloMosaic

namespace Cert.AttFwdIdeal.Att

open Cert.AttFwdIdeal

theorem head_row64 : HeadRow 64 (by decide) := by
  unfold HeadRow
  decide +kernel
theorem head_row65 : HeadRow 65 (by decide) := by
  unfold HeadRow
  decide +kernel
theorem head_row66 : HeadRow 66 (by decide) := by
  unfold HeadRow
  decide +kernel
theorem head_row67 : HeadRow 67 (by decide) := by
  unfold HeadRow
  decide +kernel
theorem head_row68 : HeadRow 68 (by decide) := by
  unfold HeadRow
  decide +kernel
theorem head_row69 : HeadRow 69 (by decide) := by
  unfold HeadRow
  decide +kernel
theorem head_row70 : HeadRow 70 (by decide) := by
  unfold HeadRow
  decide +kernel
theorem head_row71 : HeadRow 71 (by decide) := by
  unfold HeadRow
  decide +kernel
theorem head_row72 : HeadRow 72 (by decide) := by
  unfold HeadRow
  decide +kernel
theorem head_row73 : HeadRow 73 (by decide) := by
  unfold HeadRow
  decide +kernel
theorem head_row74 : HeadRow 74 (by decide) := by
  unfold HeadRow
  decide +kernel
theorem head_row75 : HeadRow 75 (by decide) := by
  unfold HeadRow
  decide +kernel
theorem head_row76 : HeadRow 76 (by decide) := by
  unfold HeadRow
  decide +kernel
theorem head_row77 : HeadRow 77 (by decide) := by
  unfold HeadRow
  decide +kernel
theorem head_row78 : HeadRow 78 (by decide) := by
  unfold HeadRow
  decide +kernel
theorem head_row79 : HeadRow 79 (by decide) := by
  unfold HeadRow
  decide +kernel

theorem heads4 (n : Nat) (h : n < 256) (lo : 64 ≤ n) (hi : n < 80) : HeadRow n h := by
  have e : n = 64 ∨ n = 65 ∨ n = 66 ∨ n = 67 ∨ n = 68 ∨ n = 69 ∨ n = 70 ∨ n = 71 ∨ n = 72 ∨ n = 73 ∨ n = 74 ∨ n = 75 ∨ n = 76 ∨ n = 77 ∨ n = 78 ∨ n = 79 := by omega
  rcases e with rfl | rfl | rfl | rfl | rfl | rfl | rfl | rfl | rfl | rfl | rfl | rfl | rfl | rfl | rfl | rfl
  · exact head_row64
  · exact head_row65
  · exact head_row66
  · exact head_row67
  · exact head_row68
  · exact head_row69
  · exact head_row70
  · exact head_row71
  · exact head_row72
  · exact head_row73
  · exact head_row74
  · exact head_row75
  · exact head_row76
  · exact head_row77
  · exact head_row78
  · exact head_row79

end Cert.AttFwdIdeal.Att
end
-- ==== Proof.AttH5.lean ====
/- Which lanes belong to a row's head, rows 80 to 95. -/
module

public import proofs.«01_k».proof.Proof.AttTabD

@[expose] public section

set_option maxRecDepth 16384

open Idealize.ShloMosaic

namespace Cert.AttFwdIdeal.Att

open Cert.AttFwdIdeal

theorem head_row80 : HeadRow 80 (by decide) := by
  unfold HeadRow
  decide +kernel
theorem head_row81 : HeadRow 81 (by decide) := by
  unfold HeadRow
  decide +kernel
theorem head_row82 : HeadRow 82 (by decide) := by
  unfold HeadRow
  decide +kernel
theorem head_row83 : HeadRow 83 (by decide) := by
  unfold HeadRow
  decide +kernel
theorem head_row84 : HeadRow 84 (by decide) := by
  unfold HeadRow
  decide +kernel
theorem head_row85 : HeadRow 85 (by decide) := by
  unfold HeadRow
  decide +kernel
theorem head_row86 : HeadRow 86 (by decide) := by
  unfold HeadRow
  decide +kernel
theorem head_row87 : HeadRow 87 (by decide) := by
  unfold HeadRow
  decide +kernel
theorem head_row88 : HeadRow 88 (by decide) := by
  unfold HeadRow
  decide +kernel
theorem head_row89 : HeadRow 89 (by decide) := by
  unfold HeadRow
  decide +kernel
theorem head_row90 : HeadRow 90 (by decide) := by
  unfold HeadRow
  decide +kernel
theorem head_row91 : HeadRow 91 (by decide) := by
  unfold HeadRow
  decide +kernel
theorem head_row92 : HeadRow 92 (by decide) := by
  unfold HeadRow
  decide +kernel
theorem head_row93 : HeadRow 93 (by decide) := by
  unfold HeadRow
  decide +kernel
theorem head_row94 : HeadRow 94 (by decide) := by
  unfold HeadRow
  decide +kernel
theorem head_row95 : HeadRow 95 (by decide) := by
  unfold HeadRow
  decide +kernel

theorem heads5 (n : Nat) (h : n < 256) (lo : 80 ≤ n) (hi : n < 96) : HeadRow n h := by
  have e : n = 80 ∨ n = 81 ∨ n = 82 ∨ n = 83 ∨ n = 84 ∨ n = 85 ∨ n = 86 ∨ n = 87 ∨ n = 88 ∨ n = 89 ∨ n = 90 ∨ n = 91 ∨ n = 92 ∨ n = 93 ∨ n = 94 ∨ n = 95 := by omega
  rcases e with rfl | rfl | rfl | rfl | rfl | rfl | rfl | rfl | rfl | rfl | rfl | rfl | rfl | rfl | rfl | rfl
  · exact head_row80
  · exact head_row81
  · exact head_row82
  · exact head_row83
  · exact head_row84
  · exact head_row85
  · exact head_row86
  · exact head_row87
  · exact head_row88
  · exact head_row89
  · exact head_row90
  · exact head_row91
  · exact head_row92
  · exact head_row93
  · exact head_row94
  · exact head_row95

end Cert.AttFwdIdeal.Att
end
-- ==== Proof.AttH6.lean ====
/- Which lanes belong to a row's head, rows 96 to 111. -/
module

public import proofs.«01_k».proof.Proof.AttTabD

@[expose] public section

set_option maxRecDepth 16384

open Idealize.ShloMosaic

namespace Cert.AttFwdIdeal.Att

open Cert.AttFwdIdeal

theorem head_row96 : HeadRow 96 (by decide) := by
  unfold HeadRow
  decide +kernel
theorem head_row97 : HeadRow 97 (by decide) := by
  unfold HeadRow
  decide +kernel
theorem head_row98 : HeadRow 98 (by decide) := by
  unfold HeadRow
  decide +kernel
theorem head_row99 : HeadRow 99 (by decide) := by
  unfold HeadRow
  decide +kernel
theorem head_row100 : HeadRow 100 (by decide) := by
  unfold HeadRow
  decide +kernel
theorem head_row101 : HeadRow 101 (by decide) := by
  unfold HeadRow
  decide +kernel
theorem head_row102 : HeadRow 102 (by decide) := by
  unfold HeadRow
  decide +kernel
theorem head_row103 : HeadRow 103 (by decide) := by
  unfold HeadRow
  decide +kernel
theorem head_row104 : HeadRow 104 (by decide) := by
  unfold HeadRow
  decide +kernel
theorem head_row105 : HeadRow 105 (by decide) := by
  unfold HeadRow
  decide +kernel
theorem head_row106 : HeadRow 106 (by decide) := by
  unfold HeadRow
  decide +kernel
theorem head_row107 : HeadRow 107 (by decide) := by
  unfold HeadRow
  decide +kernel
theorem head_row108 : HeadRow 108 (by decide) := by
  unfold HeadRow
  decide +kernel
theorem head_row109 : HeadRow 109 (by decide) := by
  unfold HeadRow
  decide +kernel
theorem head_row110 : HeadRow 110 (by decide) := by
  unfold HeadRow
  decide +kernel
theorem head_row111 : HeadRow 111 (by decide) := by
  unfold HeadRow
  decide +kernel

theorem heads6 (n : Nat) (h : n < 256) (lo : 96 ≤ n) (hi : n < 112) : HeadRow n h := by
  have e : n = 96 ∨ n = 97 ∨ n = 98 ∨ n = 99 ∨ n = 100 ∨ n = 101 ∨ n = 102 ∨ n = 103 ∨ n = 104 ∨ n = 105 ∨ n = 106 ∨ n = 107 ∨ n = 108 ∨ n = 109 ∨ n = 110 ∨ n = 111 := by omega
  rcases e with rfl | rfl | rfl | rfl | rfl | rfl | rfl | rfl | rfl | rfl | rfl | rfl | rfl | rfl | rfl | rfl
  · exact head_row96
  · exact head_row97
  · exact head_row98
  · exact head_row99
  · exact head_row100
  · exact head_row101
  · exact head_row102
  · exact head_row103
  · exact head_row104
  · exact head_row105
  · exact head_row106
  · exact head_row107
  · exact head_row108
  · exact head_row109
  · exact head_row110
  · exact head_row111

end Cert.AttFwdIdeal.Att
end
-- ==== Proof.AttH7.lean ====
/- Which lanes belong to a row's head, rows 112 to 127. -/
module

public import proofs.«01_k».proof.Proof.AttTabD

@[expose] public section

set_option maxRecDepth 16384

open Idealize.ShloMosaic

namespace Cert.AttFwdIdeal.Att

open Cert.AttFwdIdeal

theorem head_row112 : HeadRow 112 (by decide) := by
  unfold HeadRow
  decide +kernel
theorem head_row113 : HeadRow 113 (by decide) := by
  unfold HeadRow
  decide +kernel
theorem head_row114 : HeadRow 114 (by decide) := by
  unfold HeadRow
  decide +kernel
theorem head_row115 : HeadRow 115 (by decide) := by
  unfold HeadRow
  decide +kernel
theorem head_row116 : HeadRow 116 (by decide) := by
  unfold HeadRow
  decide +kernel
theorem head_row117 : HeadRow 117 (by decide) := by
  unfold HeadRow
  decide +kernel
theorem head_row118 : HeadRow 118 (by decide) := by
  unfold HeadRow
  decide +kernel
theorem head_row119 : HeadRow 119 (by decide) := by
  unfold HeadRow
  decide +kernel
theorem head_row120 : HeadRow 120 (by decide) := by
  unfold HeadRow
  decide +kernel
theorem head_row121 : HeadRow 121 (by decide) := by
  unfold HeadRow
  decide +kernel
theorem head_row122 : HeadRow 122 (by decide) := by
  unfold HeadRow
  decide +kernel
theorem head_row123 : HeadRow 123 (by decide) := by
  unfold HeadRow
  decide +kernel
theorem head_row124 : HeadRow 124 (by decide) := by
  unfold HeadRow
  decide +kernel
theorem head_row125 : HeadRow 125 (by decide) := by
  unfold HeadRow
  decide +kernel
theorem head_row126 : HeadRow 126 (by decide) := by
  unfold HeadRow
  decide +kernel
theorem head_row127 : HeadRow 127 (by decide) := by
  unfold HeadRow
  decide +kernel

theorem heads7 (n : Nat) (h : n < 256) (lo : 112 ≤ n) (hi : n < 128) : HeadRow n h := by
  have e : n = 112 ∨ n = 113 ∨ n = 114 ∨ n = 115 ∨ n = 116 ∨ n = 117 ∨ n = 118 ∨ n = 119 ∨ n = 120 ∨ n = 121 ∨ n = 122 ∨ n = 123 ∨ n = 124 ∨ n = 125 ∨ n = 126 ∨ n = 127 := by omega
  rcases e with rfl | rfl | rfl | rfl | rfl | rfl | rfl | rfl | rfl | rfl | rfl | rfl | rfl | rfl | rfl | rfl
  · exact head_row112
  · exact head_row113
  · exact head_row114
  · exact head_row115
  · exact head_row116
  · exact head_row117
  · exact head_row118
  · exact head_row119
  · exact head_row120
  · exact head_row121
  · exact head_row122
  · exact head_row123
  · exact head_row124
  · exact head_row125
  · exact head_row126
  · exact head_row127

end Cert.AttFwdIdeal.Att
end
-- ==== Proof.AttH8.lean ====
/- Which lanes belong to a row's head, rows 128 to 143. -/
module

public import proofs.«01_k».proof.Proof.AttTabD

@[expose] public section

set_option maxRecDepth 16384

open Idealize.ShloMosaic

namespace Cert.AttFwdIdeal.Att

open Cert.AttFwdIdeal

theorem head_row128 : HeadRow 128 (by decide) := by
  unfold HeadRow
  decide +kernel
theorem head_row129 : HeadRow 129 (by decide) := by
  unfold HeadRow
  decide +kernel
theorem head_row130 : HeadRow 130 (by decide) := by
  unfold HeadRow
  decide +kernel
theorem head_row131 : HeadRow 131 (by decide) := by
  unfold HeadRow
  decide +kernel
theorem head_row132 : HeadRow 132 (by decide) := by
  unfold HeadRow
  decide +kernel
theorem head_row133 : HeadRow 133 (by decide) := by
  unfold HeadRow
  decide +kernel
theorem head_row134 : HeadRow 134 (by decide) := by
  unfold HeadRow
  decide +kernel
theorem head_row135 : HeadRow 135 (by decide) := by
  unfold HeadRow
  decide +kernel
theorem head_row136 : HeadRow 136 (by decide) := by
  unfold HeadRow
  decide +kernel
theorem head_row137 : HeadRow 137 (by decide) := by
  unfold HeadRow
  decide +kernel
theorem head_row138 : HeadRow 138 (by decide) := by
  unfold HeadRow
  decide +kernel
theorem head_row139 : HeadRow 139 (by decide) := by
  unfold HeadRow
  decide +kernel
theorem head_row140 : HeadRow 140 (by decide) := by
  unfold HeadRow
  decide +kernel
theorem head_row141 : HeadRow 141 (by decide) := by
  unfold HeadRow
  decide +kernel
theorem head_row142 : HeadRow 142 (by decide) := by
  unfold HeadRow
  decide +kernel
theorem head_row143 : HeadRow 143 (by decide) := by
  unfold HeadRow
  decide +kernel

theorem heads8 (n : Nat) (h : n < 256) (lo : 128 ≤ n) (hi : n < 144) : HeadRow n h := by
  have e : n = 128 ∨ n = 129 ∨ n = 130 ∨ n = 131 ∨ n = 132 ∨ n = 133 ∨ n = 134 ∨ n = 135 ∨ n = 136 ∨ n = 137 ∨ n = 138 ∨ n = 139 ∨ n = 140 ∨ n = 141 ∨ n = 142 ∨ n = 143 := by omega
  rcases e with rfl | rfl | rfl | rfl | rfl | rfl | rfl | rfl | rfl | rfl | rfl | rfl | rfl | rfl | rfl | rfl
  · exact head_row128
  · exact head_row129
  · exact head_row130
  · exact head_row131
  · exact head_row132
  · exact head_row133
  · exact head_row134
  · exact head_row135
  · exact head_row136
  · exact head_row137
  · exact head_row138
  · exact head_row139
  · exact head_row140
  · exact head_row141
  · exact head_row142
  · exact head_row143

end Cert.AttFwdIdeal.Att
end
-- ==== Proof.AttH9.lean ====
/- Which lanes belong to a row's head, rows 144 to 159. -/
module

public import proofs.«01_k».proof.Proof.AttTabD

@[expose] public section

set_option maxRecDepth 16384

open Idealize.ShloMosaic

namespace Cert.AttFwdIdeal.Att

open Cert.AttFwdIdeal

theorem head_row144 : HeadRow 144 (by decide) := by
  unfold HeadRow
  decide +kernel
theorem head_row145 : HeadRow 145 (by decide) := by
  unfold HeadRow
  decide +kernel
theorem head_row146 : HeadRow 146 (by decide) := by
  unfold HeadRow
  decide +kernel
theorem head_row147 : HeadRow 147 (by decide) := by
  unfold HeadRow
  decide +kernel
theorem head_row148 : HeadRow 148 (by decide) := by
  unfold HeadRow
  decide +kernel
theorem head_row149 : HeadRow 149 (by decide) := by
  unfold HeadRow
  decide +kernel
theorem head_row150 : HeadRow 150 (by decide) := by
  unfold HeadRow
  decide +kernel
theorem head_row151 : HeadRow 151 (by decide) := by
  unfold HeadRow
  decide +kernel
theorem head_row152 : HeadRow 152 (by decide) := by
  unfold HeadRow
  decide +kernel
theorem head_row153 : HeadRow 153 (by decide) := by
  unfold HeadRow
  decide +kernel
theorem head_row154 : HeadRow 154 (by decide) := by
  unfold HeadRow
  decide +kernel
theorem head_row155 : HeadRow 155 (by decide) := by
  unfold HeadRow
  decide +kernel
theorem head_row156 : HeadRow 156 (by decide) := by
  unfold HeadRow
  decide +kernel
theorem head_row157 : HeadRow 157 (by decide) := by
  unfold HeadRow
  decide +kernel
theorem head_row158 : HeadRow 158 (by decide) := by
  unfold HeadRow
  decide +kernel
theorem head_row159 : HeadRow 159 (by decide) := by
  unfold HeadRow
  decide +kernel

theorem heads9 (n : Nat) (h : n < 256) (lo : 144 ≤ n) (hi : n < 160) : HeadRow n h := by
  have e : n = 144 ∨ n = 145 ∨ n = 146 ∨ n = 147 ∨ n = 148 ∨ n = 149 ∨ n = 150 ∨ n = 151 ∨ n = 152 ∨ n = 153 ∨ n = 154 ∨ n = 155 ∨ n = 156 ∨ n = 157 ∨ n = 158 ∨ n = 159 := by omega
  rcases e with rfl | rfl | rfl | rfl | rfl | rfl | rfl | rfl | rfl | rfl | rfl | rfl | rfl | rfl | rfl | rfl
  · exact head_row144
  · exact head_row145
  · exact head_row146
  · exact head_row147
  · exact head_row148
  · exact head_row149
  · exact head_row150
  · exact head_row151
  · exact head_row152
  · exact head_row153
  · exact head_row154
  · exact head_row155
  · exact head_row156
  · exact head_row157
  · exact head_row158
  · exact head_row159

end Cert.AttFwdIdeal.Att
end
-- ==== Proof.AttH10.lean ====
/- Which lanes belong to a row's head, rows 160 to 175. -/
module

public import proofs.«01_k».proof.Proof.AttTabD

@[expose] public section

set_option maxRecDepth 16384

open Idealize.ShloMosaic

namespace Cert.AttFwdIdeal.Att

open Cert.AttFwdIdeal

theorem head_row160 : HeadRow 160 (by decide) := by
  unfold HeadRow
  decide +kernel
theorem head_row161 : HeadRow 161 (by decide) := by
  unfold HeadRow
  decide +kernel
theorem head_row162 : HeadRow 162 (by decide) := by
  unfold HeadRow
  decide +kernel
theorem head_row163 : HeadRow 163 (by decide) := by
  unfold HeadRow
  decide +kernel
theorem head_row164 : HeadRow 164 (by decide) := by
  unfold HeadRow
  decide +kernel
theorem head_row165 : HeadRow 165 (by decide) := by
  unfold HeadRow
  decide +kernel
theorem head_row166 : HeadRow 166 (by decide) := by
  unfold HeadRow
  decide +kernel
theorem head_row167 : HeadRow 167 (by decide) := by
  unfold HeadRow
  decide +kernel
theorem head_row168 : HeadRow 168 (by decide) := by
  unfold HeadRow
  decide +kernel
theorem head_row169 : HeadRow 169 (by decide) := by
  unfold HeadRow
  decide +kernel
theorem head_row170 : HeadRow 170 (by decide) := by
  unfold HeadRow
  decide +kernel
theorem head_row171 : HeadRow 171 (by decide) := by
  unfold HeadRow
  decide +kernel
theorem head_row172 : HeadRow 172 (by decide) := by
  unfold HeadRow
  decide +kernel
theorem head_row173 : HeadRow 173 (by decide) := by
  unfold HeadRow
  decide +kernel
theorem head_row174 : HeadRow 174 (by decide) := by
  unfold HeadRow
  decide +kernel
theorem head_row175 : HeadRow 175 (by decide) := by
  unfold HeadRow
  decide +kernel

theorem heads10 (n : Nat) (h : n < 256) (lo : 160 ≤ n) (hi : n < 176) : HeadRow n h := by
  have e : n = 160 ∨ n = 161 ∨ n = 162 ∨ n = 163 ∨ n = 164 ∨ n = 165 ∨ n = 166 ∨ n = 167 ∨ n = 168 ∨ n = 169 ∨ n = 170 ∨ n = 171 ∨ n = 172 ∨ n = 173 ∨ n = 174 ∨ n = 175 := by omega
  rcases e with rfl | rfl | rfl | rfl | rfl | rfl | rfl | rfl | rfl | rfl | rfl | rfl | rfl | rfl | rfl | rfl
  · exact head_row160
  · exact head_row161
  · exact head_row162
  · exact head_row163
  · exact head_row164
  · exact head_row165
  · exact head_row166
  · exact head_row167
  · exact head_row168
  · exact head_row169
  · exact head_row170
  · exact head_row171
  · exact head_row172
  · exact head_row173
  · exact head_row174
  · exact head_row175

end Cert.AttFwdIdeal.Att
end
-- ==== Proof.AttH11.lean ====
/- Which lanes belong to a row's head, rows 176 to 191. -/
module

public import proofs.«01_k».proof.Proof.AttTabD

@[expose] public section

set_option maxRecDepth 16384

open Idealize.ShloMosaic

namespace Cert.AttFwdIdeal.Att

open Cert.AttFwdIdeal

theorem head_row176 : HeadRow 176 (by decide) := by
  unfold HeadRow
  decide +kernel
theorem head_row177 : HeadRow 177 (by decide) := by
  unfold HeadRow
  decide +kernel
theorem head_row178 : HeadRow 178 (by decide) := by
  unfold HeadRow
  decide +kernel
theorem head_row179 : HeadRow 179 (by decide) := by
  unfold HeadRow
  decide +kernel
theorem head_row180 : HeadRow 180 (by decide) := by
  unfold HeadRow
  decide +kernel
theorem head_row181 : HeadRow 181 (by decide) := by
  unfold HeadRow
  decide +kernel
theorem head_row182 : HeadRow 182 (by decide) := by
  unfold HeadRow
  decide +kernel
theorem head_row183 : HeadRow 183 (by decide) := by
  unfold HeadRow
  decide +kernel
theorem head_row184 : HeadRow 184 (by decide) := by
  unfold HeadRow
  decide +kernel
theorem head_row185 : HeadRow 185 (by decide) := by
  unfold HeadRow
  decide +kernel
theorem head_row186 : HeadRow 186 (by decide) := by
  unfold HeadRow
  decide +kernel
theorem head_row187 : HeadRow 187 (by decide) := by
  unfold HeadRow
  decide +kernel
theorem head_row188 : HeadRow 188 (by decide) := by
  unfold HeadRow
  decide +kernel
theorem head_row189 : HeadRow 189 (by decide) := by
  unfold HeadRow
  decide +kernel
theorem head_row190 : HeadRow 190 (by decide) := by
  unfold HeadRow
  decide +kernel
theorem head_row191 : HeadRow 191 (by decide) := by
  unfold HeadRow
  decide +kernel

theorem heads11 (n : Nat) (h : n < 256) (lo : 176 ≤ n) (hi : n < 192) : HeadRow n h := by
  have e : n = 176 ∨ n = 177 ∨ n = 178 ∨ n = 179 ∨ n = 180 ∨ n = 181 ∨ n = 182 ∨ n = 183 ∨ n = 184 ∨ n = 185 ∨ n = 186 ∨ n = 187 ∨ n = 188 ∨ n = 189 ∨ n = 190 ∨ n = 191 := by omega
  rcases e with rfl | rfl | rfl | rfl | rfl | rfl | rfl | rfl | rfl | rfl | rfl | rfl | rfl | rfl | rfl | rfl
  · exact head_row176
  · exact head_row177
  · exact head_row178
  · exact head_row179
  · exact head_row180
  · exact head_row181
  · exact head_row182
  · exact head_row183
  · exact head_row184
  · exact head_row185
  · exact head_row186
  · exact head_row187
  · exact head_row188
  · exact head_row189
  · exact head_row190
  · exact head_row191

end Cert.AttFwdIdeal.Att
end
-- ==== Proof.AttH12.lean ====
/- Which lanes belong to a row's head, rows 192 to 207. -/
module

public import proofs.«01_k».proof.Proof.AttTabD

@[expose] public section

set_option maxRecDepth 16384

open Idealize.ShloMosaic

namespace Cert.AttFwdIdeal.Att

open Cert.AttFwdIdeal

theorem head_row192 : HeadRow 192 (by decide) := by
  unfold HeadRow
  decide +kernel
theorem head_row193 : HeadRow 193 (by decide) := by
  unfold HeadRow
  decide +kernel
theorem head_row194 : HeadRow 194 (by decide) := by
  unfold HeadRow
  decide +kernel
theorem head_row195 : HeadRow 195 (by decide) := by
  unfold HeadRow
  decide +kernel
theorem head_row196 : HeadRow 196 (by decide) := by
  unfold HeadRow
  decide +kernel
theorem head_row197 : HeadRow 197 (by decide) := by
  unfold HeadRow
  decide +kernel
theorem head_row198 : HeadRow 198 (by decide) := by
  unfold HeadRow
  decide +kernel
theorem head_row199 : HeadRow 199 (by decide) := by
  unfold HeadRow
  decide +kernel
theorem head_row200 : HeadRow 200 (by decide) := by
  unfold HeadRow
  decide +kernel
theorem head_row201 : HeadRow 201 (by decide) := by
  unfold HeadRow
  decide +kernel
theorem head_row202 : HeadRow 202 (by decide) := by
  unfold HeadRow
  decide +kernel
theorem head_row203 : HeadRow 203 (by decide) := by
  unfold HeadRow
  decide +kernel
theorem head_row204 : HeadRow 204 (by decide) := by
  unfold HeadRow
  decide +kernel
theorem head_row205 : HeadRow 205 (by decide) := by
  unfold HeadRow
  decide +kernel
theorem head_row206 : HeadRow 206 (by decide) := by
  unfold HeadRow
  decide +kernel
theorem head_row207 : HeadRow 207 (by decide) := by
  unfold HeadRow
  decide +kernel

theorem heads12 (n : Nat) (h : n < 256) (lo : 192 ≤ n) (hi : n < 208) : HeadRow n h := by
  have e : n = 192 ∨ n = 193 ∨ n = 194 ∨ n = 195 ∨ n = 196 ∨ n = 197 ∨ n = 198 ∨ n = 199 ∨ n = 200 ∨ n = 201 ∨ n = 202 ∨ n = 203 ∨ n = 204 ∨ n = 205 ∨ n = 206 ∨ n = 207 := by omega
  rcases e with rfl | rfl | rfl | rfl | rfl | rfl | rfl | rfl | rfl | rfl | rfl | rfl | rfl | rfl | rfl | rfl
  · exact head_row192
  · exact head_row193
  · exact head_row194
  · exact head_row195
  · exact head_row196
  · exact head_row197
  · exact head_row198
  · exact head_row199
  · exact head_row200
  · exact head_row201
  · exact head_row202
  · exact head_row203
  · exact head_row204
  · exact head_row205
  · exact head_row206
  · exact head_row207

end Cert.AttFwdIdeal.Att
end
-- ==== Proof.AttH13.lean ====
/- Which lanes belong to a row's head, rows 208 to 223. -/
module

public import proofs.«01_k».proof.Proof.AttTabD

@[expose] public section

set_option maxRecDepth 16384

open Idealize.ShloMosaic

namespace Cert.AttFwdIdeal.Att

open Cert.AttFwdIdeal

theorem head_row208 : HeadRow 208 (by decide) := by
  unfold HeadRow
  decide +kernel
theorem head_row209 : HeadRow 209 (by decide) := by
  unfold HeadRow
  decide +kernel
theorem head_row210 : HeadRow 210 (by decide) := by
  unfold HeadRow
  decide +kernel
theorem head_row211 : HeadRow 211 (by decide) := by
  unfold HeadRow
  decide +kernel
theorem head_row212 : HeadRow 212 (by decide) := by
  unfold HeadRow
  decide +kernel
theorem head_row213 : HeadRow 213 (by decide) := by
  unfold HeadRow
  decide +kernel
theorem head_row214 : HeadRow 214 (by decide) := by
  unfold HeadRow
  decide +kernel
theorem head_row215 : HeadRow 215 (by decide) := by
  unfold HeadRow
  decide +kernel
theorem head_row216 : HeadRow 216 (by decide) := by
  unfold HeadRow
  decide +kernel
theorem head_row217 : HeadRow 217 (by decide) := by
  unfold HeadRow
  decide +kernel
theorem head_row218 : HeadRow 218 (by decide) := by
  unfold HeadRow
  decide +kernel
theorem head_row219 : HeadRow 219 (by decide) := by
  unfold HeadRow
  decide +kernel
theorem head_row220 : HeadRow 220 (by decide) := by
  unfold HeadRow
  decide +kernel
theorem head_row221 : HeadRow 221 (by decide) := by
  unfold HeadRow
  decide +kernel
theorem head_row222 : HeadRow 222 (by decide) := by
  unfold HeadRow
  decide +kernel
theorem head_row223 : HeadRow 223 (by decide) := by
  unfold HeadRow
  decide +kernel

theorem heads13 (n : Nat) (h : n < 256) (lo : 208 ≤ n) (hi : n < 224) : HeadRow n h := by
  have e : n = 208 ∨ n = 209 ∨ n = 210 ∨ n = 211 ∨ n = 212 ∨ n = 213 ∨ n = 214 ∨ n = 215 ∨ n = 216 ∨ n = 217 ∨ n = 218 ∨ n = 219 ∨ n = 220 ∨ n = 221 ∨ n = 222 ∨ n = 223 := by omega
  rcases e with rfl | rfl | rfl | rfl | rfl | rfl | rfl | rfl | rfl | rfl | rfl | rfl | rfl | rfl | rfl | rfl
  · exact head_row208
  · exact head_row209
  · exact head_row210
  · exact head_row211
  · exact head_row212
  · exact head_row213
  · exact head_row214
  · exact head_row215
  · exact head_row216
  · exact head_row217
  · exact head_row218
  · exact head_row219
  · exact head_row220
  · exact head_row221
  · exact head_row222
  · exact head_row223

end Cert.AttFwdIdeal.Att
end
-- ==== Proof.AttH14.lean ====
/- Which lanes belong to a row's head, rows 224 to 239. -/
module

public import proofs.«01_k».proof.Proof.AttTabD

@[expose] public section

set_option maxRecDepth 16384

open Idealize.ShloMosaic

namespace Cert.AttFwdIdeal.Att

open Cert.AttFwdIdeal

theorem head_row224 : HeadRow 224 (by decide) := by
  unfold HeadRow
  decide +kernel
theorem head_row225 : HeadRow 225 (by decide) := by
  unfold HeadRow
  decide +kernel
theorem head_row226 : HeadRow 226 (by decide) := by
  unfold HeadRow
  decide +kernel
theorem head_row227 : HeadRow 227 (by decide) := by
  unfold HeadRow
  decide +kernel
theorem head_row228 : HeadRow 228 (by decide) := by
  unfold HeadRow
  decide +kernel
theorem head_row229 : HeadRow 229 (by decide) := by
  unfold HeadRow
  decide +kernel
theorem head_row230 : HeadRow 230 (by decide) := by
  unfold HeadRow
  decide +kernel
theorem head_row231 : HeadRow 231 (by decide) := by
  unfold HeadRow
  decide +kernel
theorem head_row232 : HeadRow 232 (by decide) := by
  unfold HeadRow
  decide +kernel
theorem head_row233 : HeadRow 233 (by decide) := by
  unfold HeadRow
  decide +kernel
theorem head_row234 : HeadRow 234 (by decide) := by
  unfold HeadRow
  decide +kernel
theorem head_row235 : HeadRow 235 (by decide) := by
  unfold HeadRow
  decide +kernel
theorem head_row236 : HeadRow 236 (by decide) := by
  unfold HeadRow
  decide +kernel
theorem head_row237 : HeadRow 237 (by decide) := by
  unfold HeadRow
  decide +kernel
theorem head_row238 : HeadRow 238 (by decide) := by
  unfold HeadRow
  decide +kernel
theorem head_row239 : HeadRow 239 (by decide) := by
  unfold HeadRow
  decide +kernel

theorem heads14 (n : Nat) (h : n < 256) (lo : 224 ≤ n) (hi : n < 240) : HeadRow n h := by
  have e : n = 224 ∨ n = 225 ∨ n = 226 ∨ n = 227 ∨ n = 228 ∨ n = 229 ∨ n = 230 ∨ n = 231 ∨ n = 232 ∨ n = 233 ∨ n = 234 ∨ n = 235 ∨ n = 236 ∨ n = 237 ∨ n = 238 ∨ n = 239 := by omega
  rcases e with rfl | rfl | rfl | rfl | rfl | rfl | rfl | rfl | rfl | rfl | rfl | rfl | rfl | rfl | rfl | rfl
  · exact head_row224
  · exact head_row225
  · exact head_row226
  · exact head_row227
  · exact head_row228
  · exact head_row229
  · exact head_row230
  · exact head_row231
  · exact head_row232
  · exact head_row233
  · exact head_row234
  · exact head_row235
  · exact head_row236
  · exact head_row237
  · exact head_row238
  · exact head_row239

end Cert.AttFwdIdeal.Att
end
-- ==== Proof.AttH15.lean ====
/- Which lanes belong to a row's head, rows 240 to 255. -/
module

public import proofs.«01_k».proof.Proof.AttTabD

@[expose] public section

set_option maxRecDepth 16384

open Idealize.ShloMosaic

namespace Cert.AttFwdIdeal.Att

open Cert.AttFwdIdeal

theorem head_row240 : HeadRow 240 (by decide) := by
  unfold HeadRow
  decide +kernel
theorem head_row241 : HeadRow 241 (by decide) := by
  unfold HeadRow
  decide +kernel
theorem head_row242 : HeadRow 242 (by decide) := by
  unfold HeadRow
  decide +kernel
theorem head_row243 : HeadRow 243 (by decide) := by
  unfold HeadRow
  decide +kernel
theorem head_row244 : HeadRow 244 (by decide) := by
  unfold HeadRow
  decide +kernel
theorem head_row245 : HeadRow 245 (by decide) := by
  unfold HeadRow
  decide +kernel
theorem head_row246 : HeadRow 246 (by decide) := by
  unfold HeadRow
  decide +kernel
theorem head_row247 : HeadRow 247 (by decide) := by
  unfold HeadRow
  decide +kernel
theorem head_row248 : HeadRow 248 (by decide) := by
  unfold HeadRow
  decide +kernel
theorem head_row249 : HeadRow 249 (by decide) := by
  unfold HeadRow
  decide +kernel
theorem head_row250 : HeadRow 250 (by decide) := by
  unfold HeadRow
  decide +kernel
theorem head_row251 : HeadRow 251 (by decide) := by
  unfold HeadRow
  decide +kernel
theorem head_row252 : HeadRow 252 (by decide) := by
  unfold HeadRow
  decide +kernel
theorem head_row253 : HeadRow 253 (by decide) := by
  unfold HeadRow
  decide +kernel
theorem head_row254 : HeadRow 254 (by decide) := by
  unfold HeadRow
  decide +kernel
theorem head_row255 : HeadRow 255 (by decide) := by
  unfold HeadRow
  decide +kernel

theorem heads15 (n : Nat) (h : n < 256) (lo : 240 ≤ n) (hi : n < 256) : HeadRow n h := by
  have e : n = 240 ∨ n = 241 ∨ n = 242 ∨ n = 243 ∨ n = 244 ∨ n = 245 ∨ n = 246 ∨ n = 247 ∨ n = 248 ∨ n = 249 ∨ n = 250 ∨ n = 251 ∨ n = 252 ∨ n = 253 ∨ n = 254 ∨ n = 255 := by omega
  rcases e with rfl | rfl | rfl | rfl | rfl | rfl | rfl | rfl | rfl | rfl | rfl | rfl | rfl | rfl | rfl | rfl
  · exact head_row240
  · exact head_row241
  · exact head_row242
  · exact head_row243
  · exact head_row244
  · exact head_row245
  · exact head_row246
  · exact head_row247
  · exact head_row248
  · exact head_row249
  · exact head_row250
  · exact head_row251
  · exact head_row252
  · exact head_row253
  · exact head_row254
  · exact head_row255

end Cert.AttFwdIdeal.Att
end
-- ==== Proof.AttTabK.lean ====
/- The attention kernel's two tables. -/
module

public import proofs.«01_k».proof.Proof.AttV0
public import proofs.«01_k».proof.Proof.AttV1
public import proofs.«01_k».proof.Proof.AttV2
public import proofs.«01_k».proof.Proof.AttV3
public import proofs.«01_k».proof.Proof.AttV4
public import proofs.«01_k».proof.Proof.AttV5
public import proofs.«01_k».proof.Proof.AttV6
public import proofs.«01_k».proof.Proof.AttV7
public import proofs.«01_k».proof.Proof.AttH0
public import proofs.«01_k».proof.Proof.AttH1
public import proofs.«01_k».proof.Proof.AttH2
public import proofs.«01_k».proof.Proof.AttH3
public import proofs.«01_k».proof.Proof.AttH4
public import proofs.«01_k».proof.Proof.AttH5
public import proofs.«01_k».proof.Proof.AttH6
public import proofs.«01_k».proof.Proof.AttH7
public import proofs.«01_k».proof.Proof.AttH8
public import proofs.«01_k».proof.Proof.AttH9
public import proofs.«01_k».proof.Proof.AttH10
public import proofs.«01_k».proof.Proof.AttH11
public import proofs.«01_k».proof.Proof.AttH12
public import proofs.«01_k».proof.Proof.AttH13
public import proofs.«01_k».proof.Proof.AttH14
public import proofs.«01_k».proof.Proof.AttH15
public import Idealize.ShloMosaic.Lib.Pipeline.ValueKit

@[expose] public section

set_option maxRecDepth 16384

open Idealize.ShloMosaic

namespace Cert.AttFwdIdeal.Att

open Cert.AttFwdIdeal

theorem sees_all (n : Nat) (hn : n < 64) : SeesRow n hn := by
  by_cases h0 : n < 8
  · exact sees0 n hn (by omega) h0
  by_cases h1 : n < 16
  · exact sees1 n hn (by omega) h1
  by_cases h2 : n < 24
  · exact sees2 n hn (by omega) h2
  by_cases h3 : n < 32
  · exact sees3 n hn (by omega) h3
  by_cases h4 : n < 40
  · exact sees4 n hn (by omega) h4
  by_cases h5 : n < 48
  · exact sees5 n hn (by omega) h5
  by_cases h6 : n < 56
  · exact sees6 n hn (by omega) h6
  exact sees7 n hn (by omega) (by omega)

theorem heads_all (n : Nat) (hn : n < 256) : HeadRow n hn := by
  by_cases h0 : n < 16
  · exact heads0 n hn (by omega) h0
  by_cases h1 : n < 32
  · exact heads1 n hn (by omega) h1
  by_cases h2 : n < 48
  · exact heads2 n hn (by omega) h2
  by_cases h3 : n < 64
  · exact heads3 n hn (by omega) h3
  by_cases h4 : n < 80
  · exact heads4 n hn (by omega) h4
  by_cases h5 : n < 96
  · exact heads5 n hn (by omega) h5
  by_cases h6 : n < 112
  · exact heads6 n hn (by omega) h6
  by_cases h7 : n < 128
  · exact heads7 n hn (by omega) h7
  by_cases h8 : n < 144
  · exact heads8 n hn (by omega) h8
  by_cases h9 : n < 160
  · exact heads9 n hn (by omega) h9
  by_cases h10 : n < 176
  · exact heads10 n hn (by omega) h10
  by_cases h11 : n < 192
  · exact heads11 n hn (by omega) h11
  by_cases h12 : n < 208
  · exact heads12 n hn (by omega) h12
  by_cases h13 : n < 224
  · exact heads13 n hn (by omega) h13
  by_cases h14 : n < 240
  · exact heads14 n hn (by omega) h14
  exact heads15 n hn (by omega) (by omega)

theorem valid_tab (w : Fin 64) (j : Fin 512) : seesBits (S64x512.rowMajor (ix2 w j))
    = (if AttSpec.wst w.val ≤ j.val % 64 ∧ j.val % 64 < AttSpec.wst w.val + 16 then 0x3F800000#32 else 0x00000000#32) := by
  have h : w.val * 512 + j.val < 32768 := by omega
  refine (congrArg seesBits (@Fin.ext 32768 (S64x512.rowMajor (ix2 w j)) ⟨w.val * 512 + j.val, h⟩ (Shape.rowMajor_val_two (d := ![64, 512]) (ix2 w j)))).trans ?_
  exact sees_all w.val w.isLt j

theorem heads_tab (p : Fin 256) (e : Fin 256) : headBits (S256x256.rowMajor (ix2 p e))
    = (if p.val / 64 = e.val / 64 then 0x3F800000#32 else 0x00000000#32) := by
  have h : p.val * 256 + e.val < 65536 := by omega
  refine (congrArg headBits (@Fin.ext 65536 (S256x256.rowMajor (ix2 p e)) ⟨p.val * 256 + e.val, h⟩ (Shape.rowMajor_val_two (d := ![256, 256]) (ix2 p e)))).trans ?_
  exact heads_all p.val p.isLt e

end Cert.AttFwdIdeal.Att
end
-- ==== Proof.AttVal.lean ====
/- The attention kernel's output is the reference's attention. -/
module

public import proofs.«01_k».proof.Proof.AttJoin
public import proofs.«01_k».proof.Proof.AttRows
public import proofs.«01_k».proof.Proof.AttTabK

@[expose] public section

set_option maxRecDepth 16384

noncomputable section

open Idealize.ShloMosaic Idealize.ShloMosaic.TcCoe Idealize.SL.Sem
open scoped BigOperators

namespace Cert.AttFwdIdeal.Att

open Cert.AttFwdIdeal Cert.AttFwdIdeal.Gen Cert.AttSpec

variable (m : (ℓ : Loc nD τ sig) → Buf (Elt Ideal) ℓ)

theorem mask_read (x5 : Vec Ideal S256x256 .f32) (t : Fin cfg0.N) (p e : Fin 256) :
    (ms0_5 t).view.readAt (Elt Ideal) (Rect.unit (s := S256x256) ![0, 0] S256x256.size inb_S256x256_S256x256_0_0).toLoadRect ((hs0_5 t).unread x5) (ix2 p e) = x5 (ix2 p e) := by
  rw [View.readAt_eq_ld, (hs0_5 t).read_unread]
  refine congrArg x5 (?_ : (Rect.unit (s := S256x256) ![0, 0] S256x256.size inb_S256x256_S256x256_0_0).idx (ix2 p e) = ix2 p e)
  funext a
  refine Fin.ext ((Rect.idx_unit_val _ _ _ _ _).trans ?_)
  fin_cases a <;> simp [ix2]

theorem pay5 (v : FVec Ideal S256x256 .f32) (p e : Fin 256) (u : EReal) :
    Scalar.select (k0_pay5 (F := Ideal) v (ix2 p e)) u 0 = if Ideal.ofBits FTy.f32 1056964608#32 < v (ix2 p e) then u else 0 := by
  pointwise [k0_pay5]

theorem mask_head (c : Dev nD) (t : Fin cfg0.N) (p e : Fin 256) (u : EReal) :
    Scalar.select (k0_pay5 (F := Ideal) ((ms0_5 t).view.readAt (Elt Ideal) (Rect.unit (s := S256x256) ![0, 0] S256x256.size inb_S256x256_S256x256_0_0).toLoadRect ((hs0_5 t).unread (iblk m c 5 t))) (ix2 p e)) u 0
      = if p.val / 64 = e.val / 64 then u else 0 := by
  have hb := (mask_read (iblk m c 5 t) t p e).trans ((st5 m c t p e).trans (congrArg (Ideal.ofBits .f32) (heads_tab p e)))
  rw [pay5, hb]
  by_cases h : p.val / 64 = e.val / 64
  · rw [if_pos h, if_pos h, if_pos half_one]
  · rw [if_neg h, if_neg h, if_neg half_zero]

theorem emb6 (t : Fin cfg0.N) (i : Fin 2048) (e : Fin 256) :
    (win0_6.blk t).view.emb (ix2 i e) = ix2 i ⟨256 * t.val + e.val, by have := N2 t; omega⟩ := by
  blk_ext [idx t]

theorem final6 (c : Dev nD) : (dats m 0 c).arrAt 6 (cfgs 0).N
    = Cert.AttFwdReferenceIdeal.Att.out (m (c.tc.loc main_arg0)) (m (c.tc.loc main_arg1)) := by
  refine (dats m 0 c).arrAt_eq_of_covers 6 _ (by decide +kernel) fun t _ y => ?_
  blk_simp
  rw [after0_6, after]
  idx_vars y
  refine Eq.trans ?_ (congrArg (Cert.AttFwdReferenceIdeal.Att.out (m (c.tc.loc main_arg0)) (m (c.tc.loc main_arg1))) (emb6 t y0 y1).symm)
  rw [Cert.AttFwdReferenceIdeal.Att.out_apply]
  refine (core_eq (m (c.tc.loc main_arg0)) (m (c.tc.loc main_arg1)) ⟨t.val, N2 t⟩ (iblk m c 0 t) (iblk m c 1 t) (iblk m c 2 t) (iblk m c 3 t) (iblk m c 4 t) _
    (st0 m c t) (st1 m c t) (st2 m c t) (st3 m c t) (fun w j => (st4 m c t w j).trans (congrArg (Ideal.ofBits .f32) (valid_tab w j))) (mask_head m c t)
    ⟨y0.val / 64, by omega⟩ ⟨y0.val % 64, by omega⟩ ⟨y1.val / 64, by omega⟩ ⟨y1.val % 64, by omega⟩).trans ?_
  have ht := N2 t
  have a1 : (⟨4 * t.val + y1.val / 64, by omega⟩ : Fin 8) = ⟨(256 * t.val + y1.val) / 64, by omega⟩ := Fin.ext (by simp only []; omega)
  refine congrArg₂ soft (congrArg (fun h => Cert.AttFwdReferenceIdeal.Att.score _ _ h _ _) a1) (funext fun j => ?_)
  exact Cert.AttFwdReferenceIdeal.Att.two_eq (n := 2048) (k := 1536) (m (c.tc.loc main_arg0)) _ _ _ _ _ _ _ _ (by simp only []) (by simp only []; omega)

end Cert.AttFwdIdeal.Att
end
-- ==== Proof.lean ====
module

public import proofs.«01_k».proof.Proof.Gen.Ffn.Frame
public import proofs.«01_k».proof.Proof.Gen.GradFf1.Frame
public import proofs.«01_k».proof.Proof.Gen.GradFf2.Frame
public import proofs.«01_k».proof.Proof.Gen.GradAttO.Frame
public import proofs.«01_k».proof.Proof.Gen.GradRecO.Frame
public import proofs.«01_k».proof.Proof.Gen.GradOut.Frame
public import proofs.«01_k».proof.Proof.Gen.GradIn.Frame
public import proofs.«01_k».proof.Proof.Gen.Dx.Frame
public import proofs.«01_k».proof.Proof.Gen.InProj.Frame
public import proofs.«01_k».proof.Proof.Gen.Mix.Frame
public import proofs.«01_k».proof.Proof.Gen.FfnIdeal.Value
public import proofs.«01_k».proof.Proof.Gen.FfnReferenceIdeal.Run
public import proofs.«01_k».proof.Proof.Gen.GradFf1Ideal.Value
public import proofs.«01_k».proof.Proof.Gen.GradFf1ReferenceIdeal.Run
public import proofs.«01_k».proof.Proof.Gen.GradFf2Ideal.Value
public import proofs.«01_k».proof.Proof.Gen.GradFf2ReferenceIdeal.Run
public import proofs.«01_k».proof.Proof.Gen.GradAttOIdeal.Value
public import proofs.«01_k».proof.Proof.Gen.GradAttOReferenceIdeal.Run
public import proofs.«01_k».proof.Proof.Gen.GradRecOIdeal.Value
public import proofs.«01_k».proof.Proof.Gen.GradRecOReferenceIdeal.Run
public import proofs.«01_k».proof.Proof.Gen.GradOutIdeal.Value
public import proofs.«01_k».proof.Proof.Gen.GradOutReferenceIdeal.Run
public import proofs.«01_k».proof.Proof.Gen.GradInIdeal.Value
public import proofs.«01_k».proof.Proof.Gen.GradInReferenceIdeal.Run
public import proofs.«01_k».proof.Proof.Gen.DxIdeal.Value
public import proofs.«01_k».proof.Proof.Gen.DxReferenceIdeal.Run
public import proofs.«01_k».proof.Proof.Gen.InProjIdeal.Value
public import proofs.«01_k».proof.Proof.Gen.InProjReferenceIdeal.Run
public import proofs.«01_k».proof.Proof.Gen.MixIdeal.Value
public import proofs.«01_k».proof.Proof.Gen.MixReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Merge
public import Idealize.ShloMosaic.Lib.Claim
public import Idealize.ShloMosaic.Adequacy
public import Idealize.ShloMosaic.Init
public import proofs.«01_k».proof.Proof.MlpPair
public import proofs.«01_k».proof.Proof.GradFf1
public import proofs.«01_k».proof.Proof.GradFf2
public import proofs.«01_k».proof.Proof.GradAttO
public import proofs.«01_k».proof.Proof.GradRecO
public import proofs.«01_k».proof.Proof.GradOut
public import proofs.«01_k».proof.Proof.GradIn
public import proofs.«01_k».proof.Proof.Dx
public import proofs.«01_k».proof.Proof.InProj
public import proofs.«01_k».proof.Proof.Mixing
public import proofs.«01_k».proof.Proof.Adam
public import proofs.«01_k».proof.Proof.AttVal
public import proofs.«01_k».proof.Proof.Gen.Adam.Frame
public import proofs.«01_k».proof.Proof.Gen.AdamIdeal
public import proofs.«01_k».proof.Proof.Gen.AdamReferenceIdeal
public import proofs.«01_k».proof.Proof.Gen.AttFwd.Frame
public import proofs.«01_k».proof.Proof.Gen.AttFwdIdeal
public import proofs.«01_k».proof.Proof.Gen.AttFwdReferenceIdeal

@[expose] public section

set_option maxRecDepth 16384

noncomputable section

namespace Cert.Proof

open Idealize.ShloMosaic Idealize.SL.Sem Cert.Kernel

theorem algebraic : Cert.algebraic_KernelIdeal_ReferenceIdeal (hKernelIdeal := Cert.KernelIdeal.Gen.facts) (hReferenceIdeal := Cert.ReferenceIdeal.Gen.facts) := by
  pair_intro
  · run_from Cert.KernelIdeal.Value.run_blocks m g
  · run_from Cert.ReferenceIdeal.Value.run m' g'
    · obtain ⟨h0, h1, h2, h3, h4, h5, h6⟩ := hagree c
      rw [h4, h5, h6]
      exact (Cert.KernelIdeal.Merge.final8 m c).symm
    · exact (Cert.KernelIdeal.Merge.final9 m c).symm
    · exact (Cert.KernelIdeal.Merge.final10 m c).symm
    · exact (Cert.KernelIdeal.Merge.final11 m c).symm
    · exact (Cert.KernelIdeal.Merge.final12 m c).symm

theorem frameReference : Cert.quiescent_ReferenceIdeal (hReferenceIdeal := Cert.ReferenceIdeal.Gen.facts) := fun m ρ _ =>
  (θ_run _ _ _).mono (fun r h => ⟨fun c => (h c).2.2.2.2.2, sem_eq_zero_of_no_sems (by decide) r.2⟩) (Cert.ReferenceIdeal.Value.run m ρ)

theorem algebraicFfn : Cert.algebraic_FfnIdeal_FfnReferenceIdeal (hFfnIdeal := Cert.FfnIdeal.Gen.facts) (hFfnReferenceIdeal := Cert.FfnReferenceIdeal.Gen.facts) := by
  pair_intro
  · run_from Cert.FfnIdeal.Value.run_blocks m g
  · run_from Cert.FfnReferenceIdeal.Value.run m' g'
    · obtain ⟨h0, h1, h2, h3, h4, h5⟩ := hagree c
      have S : Cert.FfnIdeal.Pair.Same m c (Idealize.ShloMosaic.StableHlo.launchContents m' c) := ⟨h0, h1, h2, h3, h4, h5⟩
      rw [Cert.FfnIdeal.Mlp.final4 m c]
      exact Cert.FfnIdeal.Pair.eq4 S
    · obtain ⟨h0, h1, h2, h3, h4, h5⟩ := hagree c
      have S : Cert.FfnIdeal.Pair.Same m c (Idealize.ShloMosaic.StableHlo.launchContents m' c) := ⟨h0, h1, h2, h3, h4, h5⟩
      rw [Cert.FfnIdeal.Mlp.final5 m c]
      rw [← h0]
      exact Cert.FfnIdeal.Pair.eq5 S
    · obtain ⟨h0, h1, h2, h3, h4, h5⟩ := hagree c
      have S : Cert.FfnIdeal.Pair.Same m c (Idealize.ShloMosaic.StableHlo.launchContents m' c) := ⟨h0, h1, h2, h3, h4, h5⟩
      rw [Cert.FfnIdeal.Mlp.final6 m c]
      exact Cert.FfnIdeal.Pair.eq6 S
    · obtain ⟨h0, h1, h2, h3, h4, h5⟩ := hagree c
      have S : Cert.FfnIdeal.Pair.Same m c (Idealize.ShloMosaic.StableHlo.launchContents m' c) := ⟨h0, h1, h2, h3, h4, h5⟩
      rw [Cert.FfnIdeal.Mlp.final7 m c]
      exact Cert.FfnIdeal.Pair.eq7 S
    · obtain ⟨h0, h1, h2, h3, h4, h5⟩ := hagree c
      have S : Cert.FfnIdeal.Pair.Same m c (Idealize.ShloMosaic.StableHlo.launchContents m' c) := ⟨h0, h1, h2, h3, h4, h5⟩
      rw [Cert.FfnIdeal.Mlp.final8 m c]
      exact Cert.FfnIdeal.Pair.eq8 S
    · obtain ⟨h0, h1, h2, h3, h4, h5⟩ := hagree c
      have S : Cert.FfnIdeal.Pair.Same m c (Idealize.ShloMosaic.StableHlo.launchContents m' c) := ⟨h0, h1, h2, h3, h4, h5⟩
      rw [Cert.FfnIdeal.Mlp.final9 m c]
      exact Cert.FfnIdeal.Pair.eq9 S
    · obtain ⟨h0, h1, h2, h3, h4, h5⟩ := hagree c
      have S : Cert.FfnIdeal.Pair.Same m c (Idealize.ShloMosaic.StableHlo.launchContents m' c) := ⟨h0, h1, h2, h3, h4, h5⟩
      rw [Cert.FfnIdeal.Mlp.final10 m c]
      exact Cert.FfnIdeal.Pair.eq10 S
    · obtain ⟨h0, h1, h2, h3, h4, h5⟩ := hagree c
      have S : Cert.FfnIdeal.Pair.Same m c (Idealize.ShloMosaic.StableHlo.launchContents m' c) := ⟨h0, h1, h2, h3, h4, h5⟩
      rw [Cert.FfnIdeal.Mlp.final11 m c]
      exact Cert.FfnIdeal.Pair.eq11 S

theorem frameFfnReferenceIdeal : Cert.quiescent_FfnReferenceIdeal (hFfnReferenceIdeal := Cert.FfnReferenceIdeal.Gen.facts) := fun m ρ _ =>
  (θ_run _ _ _).mono (fun r h => ⟨fun c => (h c).2.2.2.2.2.2.2.2, sem_eq_zero_of_no_sems (by decide) r.2⟩) (Cert.FfnReferenceIdeal.Value.run m ρ)

theorem algebraicGradFf1 : Cert.algebraic_GradFf1Ideal_GradFf1ReferenceIdeal (hGradFf1Ideal := Cert.GradFf1Ideal.Gen.facts) (hGradFf1ReferenceIdeal := Cert.GradFf1ReferenceIdeal.Gen.facts) := by
  pair_intro
  · run_from Cert.GradFf1Ideal.Value.run_blocks m g
  · run_from Cert.GradFf1ReferenceIdeal.Value.run m' g'
    · exact (Cert.GradFf1Ideal.Product.final2 m c).symm

theorem frameGradFf1ReferenceIdeal : Cert.quiescent_GradFf1ReferenceIdeal (hGradFf1ReferenceIdeal := Cert.GradFf1ReferenceIdeal.Gen.facts) := fun m ρ _ =>
  (θ_run _ _ _).mono (fun r h => ⟨fun c => (h c).2, sem_eq_zero_of_no_sems (by decide) r.2⟩) (Cert.GradFf1ReferenceIdeal.Value.run m ρ)

theorem algebraicGradFf2 : Cert.algebraic_GradFf2Ideal_GradFf2ReferenceIdeal (hGradFf2Ideal := Cert.GradFf2Ideal.Gen.facts) (hGradFf2ReferenceIdeal := Cert.GradFf2ReferenceIdeal.Gen.facts) := by
  pair_intro
  · run_from Cert.GradFf2Ideal.Value.run_blocks m g
  · run_from Cert.GradFf2ReferenceIdeal.Value.run m' g'
    · exact (Cert.GradFf2Ideal.Product.final2 m c).symm

theorem frameGradFf2ReferenceIdeal : Cert.quiescent_GradFf2ReferenceIdeal (hGradFf2ReferenceIdeal := Cert.GradFf2ReferenceIdeal.Gen.facts) := fun m ρ _ =>
  (θ_run _ _ _).mono (fun r h => ⟨fun c => (h c).2, sem_eq_zero_of_no_sems (by decide) r.2⟩) (Cert.GradFf2ReferenceIdeal.Value.run m ρ)

theorem algebraicGradAttO : Cert.algebraic_GradAttOIdeal_GradAttOReferenceIdeal (hGradAttOIdeal := Cert.GradAttOIdeal.Gen.facts) (hGradAttOReferenceIdeal := Cert.GradAttOReferenceIdeal.Gen.facts) := by
  pair_intro
  · run_from Cert.GradAttOIdeal.Value.run_blocks m g
  · run_from Cert.GradAttOReferenceIdeal.Value.run m' g'
    · exact (Cert.GradAttOIdeal.Product.final2 m c).symm

theorem frameGradAttOReferenceIdeal : Cert.quiescent_GradAttOReferenceIdeal (hGradAttOReferenceIdeal := Cert.GradAttOReferenceIdeal.Gen.facts) := fun m ρ _ =>
  (θ_run _ _ _).mono (fun r h => ⟨fun c => (h c).2, sem_eq_zero_of_no_sems (by decide) r.2⟩) (Cert.GradAttOReferenceIdeal.Value.run m ρ)

theorem algebraicGradRecO : Cert.algebraic_GradRecOIdeal_GradRecOReferenceIdeal (hGradRecOIdeal := Cert.GradRecOIdeal.Gen.facts) (hGradRecOReferenceIdeal := Cert.GradRecOReferenceIdeal.Gen.facts) := by
  pair_intro
  · run_from Cert.GradRecOIdeal.Value.run_blocks m g
  · run_from Cert.GradRecOReferenceIdeal.Value.run m' g'
    · exact (Cert.GradRecOIdeal.Product.final2 m c).symm

theorem frameGradRecOReferenceIdeal : Cert.quiescent_GradRecOReferenceIdeal (hGradRecOReferenceIdeal := Cert.GradRecOReferenceIdeal.Gen.facts) := fun m ρ _ =>
  (θ_run _ _ _).mono (fun r h => ⟨fun c => (h c).2, sem_eq_zero_of_no_sems (by decide) r.2⟩) (Cert.GradRecOReferenceIdeal.Value.run m ρ)

theorem algebraicGradOut : Cert.algebraic_GradOutIdeal_GradOutReferenceIdeal (hGradOutIdeal := Cert.GradOutIdeal.Gen.facts) (hGradOutReferenceIdeal := Cert.GradOutReferenceIdeal.Gen.facts) := by
  pair_intro
  · run_from Cert.GradOutIdeal.Value.run_blocks m g
  · run_from Cert.GradOutReferenceIdeal.Value.run m' g'
    · exact (Cert.GradOutIdeal.Product.final2 m c).symm

theorem frameGradOutReferenceIdeal : Cert.quiescent_GradOutReferenceIdeal (hGradOutReferenceIdeal := Cert.GradOutReferenceIdeal.Gen.facts) := fun m ρ _ =>
  (θ_run _ _ _).mono (fun r h => ⟨fun c => (h c).2, sem_eq_zero_of_no_sems (by decide) r.2⟩) (Cert.GradOutReferenceIdeal.Value.run m ρ)

theorem algebraicGradIn : Cert.algebraic_GradInIdeal_GradInReferenceIdeal (hGradInIdeal := Cert.GradInIdeal.Gen.facts) (hGradInReferenceIdeal := Cert.GradInReferenceIdeal.Gen.facts) := by
  pair_intro
  · run_from Cert.GradInIdeal.Value.run_blocks m g
  · run_from Cert.GradInReferenceIdeal.Value.run m' g'
    · exact (Cert.GradInIdeal.Product.final4 m c).symm
    · exact (Cert.GradInIdeal.Product.final5 m c).symm

theorem frameGradInReferenceIdeal : Cert.quiescent_GradInReferenceIdeal (hGradInReferenceIdeal := Cert.GradInReferenceIdeal.Gen.facts) := fun m ρ _ =>
  (θ_run _ _ _).mono (fun r h => ⟨fun c => (h c).2.2, sem_eq_zero_of_no_sems (by decide) r.2⟩) (Cert.GradInReferenceIdeal.Value.run m ρ)

theorem algebraicDx : Cert.algebraic_DxIdeal_DxReferenceIdeal (hDxIdeal := Cert.DxIdeal.Gen.facts) (hDxReferenceIdeal := Cert.DxReferenceIdeal.Gen.facts) := by
  pair_intro
  · run_from Cert.DxIdeal.Value.run_blocks m g
  · run_from Cert.DxReferenceIdeal.Value.run m' g'
    · obtain ⟨h0, h1, h2, h3, h4, h5, h6⟩ := hagree c
      unfold Cert.DxReferenceIdeal.Value.res_main_v54
      rw [h0, h1, h2, h3, h4, h5, h6]
      exact (Cert.DxIdeal.Back.final6 m c).symm
    · exact (Cert.DxIdeal.Back.final7 m c).symm

theorem frameDxReferenceIdeal : Cert.quiescent_DxReferenceIdeal (hDxReferenceIdeal := Cert.DxReferenceIdeal.Gen.facts) := fun m ρ _ =>
  (θ_run _ _ _).mono (fun r h => ⟨fun c => (h c).2.2, sem_eq_zero_of_no_sems (by decide) r.2⟩) (Cert.DxReferenceIdeal.Value.run m ρ)

theorem algebraicInProj : Cert.algebraic_InProjIdeal_InProjReferenceIdeal (hInProjIdeal := Cert.InProjIdeal.Gen.facts) (hInProjReferenceIdeal := Cert.InProjReferenceIdeal.Gen.facts) := by
  pair_intro
  · run_from Cert.InProjIdeal.Value.run_blocks m g
  · run_from Cert.InProjReferenceIdeal.Value.run m' g'
    · exact (Cert.InProjIdeal.Proj.final3 m c).symm
    · exact (Cert.InProjIdeal.Proj.final4 m c).symm
    · exact (Cert.InProjIdeal.Proj.final5 m c).symm
    · exact (Cert.InProjIdeal.Proj.final6 m c).symm

theorem frameInProjReferenceIdeal : Cert.quiescent_InProjReferenceIdeal (hInProjReferenceIdeal := Cert.InProjReferenceIdeal.Gen.facts) := fun m ρ _ =>
  (θ_run _ _ _).mono (fun r h => ⟨fun c => (h c).2.2.2.2, sem_eq_zero_of_no_sems (by decide) r.2⟩) (Cert.InProjReferenceIdeal.Value.run m ρ)

theorem algebraicMix : Cert.algebraic_MixIdeal_MixReferenceIdeal (hMixIdeal := Cert.MixIdeal.Gen.facts) (hMixReferenceIdeal := Cert.MixReferenceIdeal.Gen.facts) := by
  pair_intro
  · run_from Cert.MixIdeal.Value.run_blocks m g
  · run_from Cert.MixReferenceIdeal.Value.run m' g'
    · exact (Cert.MixIdeal.Mixing.final8 m c).symm
    · exact (Cert.MixIdeal.Mixing.final9 m c).symm

theorem frameMixReferenceIdeal : Cert.quiescent_MixReferenceIdeal (hMixReferenceIdeal := Cert.MixReferenceIdeal.Gen.facts) := fun m ρ _ =>
  (θ_run _ _ _).mono (fun r h => ⟨fun c => (h c).2.2, sem_eq_zero_of_no_sems (by decide) r.2⟩) (Cert.MixReferenceIdeal.Value.run m ρ)

theorem algebraicAdam : Cert.algebraic_AdamIdeal_AdamReferenceIdeal (hAdamIdeal := Cert.AdamIdeal.Gen.facts) (hAdamReferenceIdeal := Cert.AdamReferenceIdeal.Gen.facts) := by
  pair_intro
  · run_from Cert.AdamIdeal.Value.run m g
  · run_from Cert.AdamReferenceIdeal.Value.run m' g'
    · exact Cert.AdamIdeal.Step.delta_eq _ _ _ _
    · rfl
    · rfl

theorem frameAdamReferenceIdeal : Cert.quiescent_AdamReferenceIdeal (hAdamReferenceIdeal := Cert.AdamReferenceIdeal.Gen.facts) := fun m ρ _ =>
  (θ_run _ _ _).mono (fun r h => ⟨fun c => (h c).2.2.2, sem_eq_zero_of_no_sems (by decide) r.2⟩) (Cert.AdamReferenceIdeal.Value.run m ρ)

theorem algebraicAttFwd : Cert.algebraic_AttFwdIdeal_AttFwdReferenceIdeal (hAttFwdIdeal := Cert.AttFwdIdeal.Gen.facts) (hAttFwdReferenceIdeal := Cert.AttFwdReferenceIdeal.Gen.facts) := by
  pair_intro
  · run_from Cert.AttFwdIdeal.Value.run_blocks m g
  · run_from Cert.AttFwdReferenceIdeal.Value.run m' g'
    · obtain ⟨h0, h1⟩ := hagree c
      unfold Cert.AttFwdReferenceIdeal.Value.res_main_v54
      rw [h0, h1]
      exact (Cert.AttFwdIdeal.Att.final6 m c).symm

theorem frameAttFwdReferenceIdeal : Cert.quiescent_AttFwdReferenceIdeal (hAttFwdReferenceIdeal := Cert.AttFwdReferenceIdeal.Gen.facts) := fun m ρ _ =>
  (θ_run _ _ _).mono (fun r h => ⟨fun c => (h c).2, sem_eq_zero_of_no_sems (by decide) r.2⟩) (Cert.AttFwdReferenceIdeal.Value.run m ρ)

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.GradFf1.Gen.facts, Cert.GradFf1Ideal.Gen.facts, Cert.GradFf1ReferenceIdeal.Gen.facts,
  Cert.GradFf2.Gen.facts, Cert.GradFf2Ideal.Gen.facts, Cert.GradFf2ReferenceIdeal.Gen.facts,
  Cert.GradAttO.Gen.facts, Cert.GradAttOIdeal.Gen.facts, Cert.GradAttOReferenceIdeal.Gen.facts,
  Cert.GradRecO.Gen.facts, Cert.GradRecOIdeal.Gen.facts, Cert.GradRecOReferenceIdeal.Gen.facts,
  Cert.GradOut.Gen.facts, Cert.GradOutIdeal.Gen.facts, Cert.GradOutReferenceIdeal.Gen.facts,
  Cert.GradIn.Gen.facts, Cert.GradInIdeal.Gen.facts, Cert.GradInReferenceIdeal.Gen.facts,
  Cert.Dx.Gen.facts, Cert.DxIdeal.Gen.facts, Cert.DxReferenceIdeal.Gen.facts,
  Cert.InProj.Gen.facts, Cert.InProjIdeal.Gen.facts, Cert.InProjReferenceIdeal.Gen.facts,
  Cert.Mix.Gen.facts, Cert.MixIdeal.Gen.facts, Cert.MixReferenceIdeal.Gen.facts,
  Cert.Adam.Gen.facts, Cert.AdamIdeal.Gen.facts, Cert.AdamReferenceIdeal.Gen.facts,
  Cert.AttFwd.Gen.facts, Cert.AttFwdIdeal.Gen.facts, Cert.AttFwdReferenceIdeal.Gen.facts,
  fun m ρ _ => Cert.Kernel.Gen.frame m ρ, fun m ρ _ => Cert.KernelIdeal.Gen.frame m ρ, frameReference,
  fun m ρ _ => Cert.Ffn.Gen.frame m ρ, fun m ρ _ => Cert.FfnIdeal.Gen.frame m ρ, frameFfnReferenceIdeal,
  fun m ρ _ => Cert.GradFf1.Gen.frame m ρ, fun m ρ _ => Cert.GradFf1Ideal.Gen.frame m ρ, frameGradFf1ReferenceIdeal,
  fun m ρ _ => Cert.GradFf2.Gen.frame m ρ, fun m ρ _ => Cert.GradFf2Ideal.Gen.frame m ρ, frameGradFf2ReferenceIdeal,
  fun m ρ _ => Cert.GradAttO.Gen.frame m ρ, fun m ρ _ => Cert.GradAttOIdeal.Gen.frame m ρ, frameGradAttOReferenceIdeal,
  fun m ρ _ => Cert.GradRecO.Gen.frame m ρ, fun m ρ _ => Cert.GradRecOIdeal.Gen.frame m ρ, frameGradRecOReferenceIdeal,
  fun m ρ _ => Cert.GradOut.Gen.frame m ρ, fun m ρ _ => Cert.GradOutIdeal.Gen.frame m ρ, frameGradOutReferenceIdeal,
  fun m ρ _ => Cert.GradIn.Gen.frame m ρ, fun m ρ _ => Cert.GradInIdeal.Gen.frame m ρ, frameGradInReferenceIdeal,
  fun m ρ _ => Cert.Dx.Gen.frame m ρ, fun m ρ _ => Cert.DxIdeal.Gen.frame m ρ, frameDxReferenceIdeal,
  fun m ρ _ => Cert.InProj.Gen.frame m ρ, fun m ρ _ => Cert.InProjIdeal.Gen.frame m ρ, frameInProjReferenceIdeal,
  fun m ρ _ => Cert.Mix.Gen.frame m ρ, fun m ρ _ => Cert.MixIdeal.Gen.frame m ρ, frameMixReferenceIdeal,
  fun m ρ _ => Cert.Adam.Gen.frame m ρ, fun m ρ _ => Cert.AdamIdeal.Gen.frame m ρ, frameAdamReferenceIdeal,
  fun m ρ _ => Cert.AttFwd.Gen.frame m ρ, fun m ρ _ => Cert.AttFwdIdeal.Gen.frame m ρ, frameAttFwdReferenceIdeal,
  trivial, algebraic,
  trivial, algebraicFfn,
  trivial, algebraicGradFf1,
  trivial, algebraicGradFf2,
  trivial, algebraicGradAttO,
  trivial, algebraicGradRecO,
  trivial, algebraicGradOut,
  trivial, algebraicGradIn,
  trivial, algebraicDx,
  trivial, algebraicInProj,
  trivial, algebraicMix,
  ⟨IdealRules.named_const.statement Cert.AdamIdeal.κ "inv_bias1" .f32 0x3FC48605#32 ((8388608 / 5463681 : ℝ) : EReal) rfl,
    IdealRules.named_const.statement Cert.AdamIdeal.κ "inv_bias2" .f32 0x42C8E6D3#32 ((268435456 / 2672307 : ℝ) : EReal) rfl⟩, algebraicAdam,
  IdealRules.named_const.statement Cert.AttFwdIdeal.κ "masked" .f32 0xF149F2CA#32 ⊥ rfl, algebraicAttFwd⟩

end Cert.Proof

end
